-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v18_0)) (v3 : (c : Dev Cert.KernelIdeal.nD) → Buf (Elt Ideal) ((c.tc : Thread Cert.KernelIdeal.nD Cert.KernelIdeal.τ).loc Cert.KernelIdeal.main_v18_1)) (v4 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v18_0) = v2 c
          ∧ r.2.mem ((c.tc : Thread Cert.KernelIdeal.nD Cert.KernelIdeal.τ).loc Cert.KernelIdeal.main_v18_1) = v3 c
          ∧ r.2.mem ((c.tc : Thread Cert.KernelIdeal.nD Cert.KernelIdeal.τ).loc Cert.KernelIdeal.main_v18_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_v174) = v2 c
          ∧ r.2.mem ((c.tc : Thread Cert.ReferenceIdeal.nD Cert.ReferenceIdeal.τ).loc Cert.ReferenceIdeal.main_v177) = v3 c
          ∧ r.2.mem ((c.tc : Thread Cert.ReferenceIdeal.nD Cert.ReferenceIdeal.τ).loc Cert.ReferenceIdeal.main_v180) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)) (v1 : (c : Dev Cert.Kernel2Ideal.nD) → Buf (Elt Ideal) ((c.tc : Thread Cert.Kernel2Ideal.nD Cert.Kernel2Ideal.τ).loc Cert.Kernel2Ideal.main_v1)) (v2 : (c : Dev Cert.Kernel2Ideal.nD) → Buf (Elt Ideal) ((c.tc : Thread Cert.Kernel2Ideal.nD Cert.Kernel2Ideal.τ).loc Cert.Kernel2Ideal.main_v2)) (v3 : (c : Dev Cert.Kernel2Ideal.nD) → Buf (Elt Ideal) ((c.tc : Thread Cert.Kernel2Ideal.nD Cert.Kernel2Ideal.τ).loc Cert.Kernel2Ideal.main_v3)) (v4 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_v1) = v1 c
          ∧ r.2.mem ((c.tc : Thread Cert.Kernel2Ideal.nD Cert.Kernel2Ideal.τ).loc Cert.Kernel2Ideal.main_v2) = v2 c
          ∧ r.2.mem ((c.tc : Thread Cert.Kernel2Ideal.nD Cert.Kernel2Ideal.τ).loc Cert.Kernel2Ideal.main_v3) = v3 c
          ∧ r.2.mem ((c.tc : Thread Cert.Kernel2Ideal.nD Cert.Kernel2Ideal.τ).loc Cert.Kernel2Ideal.main_v4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_v6) = v1 c
          ∧ r.2.mem ((c.tc : Thread Cert.Reference2Ideal.nD Cert.Reference2Ideal.τ).loc Cert.Reference2Ideal.main_v10) = v2 c
          ∧ r.2.mem ((c.tc : Thread Cert.Reference2Ideal.nD Cert.Reference2Ideal.τ).loc Cert.Reference2Ideal.main_v14) = v3 c
          ∧ r.2.mem ((c.tc : Thread Cert.Reference2Ideal.nD Cert.Reference2Ideal.τ).loc Cert.Reference2Ideal.main_v13) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)) →
    ∃ (v0 : (c : Dev Cert.Kernel4Ideal.nD) → Buf (Elt Ideal) ((c.tc : Thread Cert.Kernel4Ideal.nD Cert.Kernel4Ideal.τ).loc Cert.Kernel4Ideal.main_v0)) (v1 : (c : Dev Cert.Kernel4Ideal.nD) → Buf (Elt Ideal) ((c.tc : Thread Cert.Kernel4Ideal.nD Cert.Kernel4Ideal.τ).loc Cert.Kernel4Ideal.main_v1)) (v2 : (c : Dev Cert.Kernel4Ideal.nD) → Buf (Elt Ideal) ((c.tc : Thread Cert.Kernel4Ideal.nD Cert.Kernel4Ideal.τ).loc Cert.Kernel4Ideal.main_v2)) (v3 : (c : Dev Cert.Kernel4Ideal.nD) → Buf (Elt Ideal) ((c.tc : Thread Cert.Kernel4Ideal.nD Cert.Kernel4Ideal.τ).loc Cert.Kernel4Ideal.main_v3)) (v4 : (c : Dev Cert.Kernel4Ideal.nD) → Buf (Elt Ideal) ((c.tc : Thread Cert.Kernel4Ideal.nD Cert.Kernel4Ideal.τ).loc Cert.Kernel4Ideal.main_v4)) (v5 : (c : Dev Cert.Kernel4Ideal.nD) → Buf (Elt Ideal) ((c.tc : Thread Cert.Kernel4Ideal.nD Cert.Kernel4Ideal.τ).loc Cert.Kernel4Ideal.main_v5)) (v6 : (c : Dev Cert.Kernel4Ideal.nD) → Buf (Elt Ideal) ((c.tc : Thread Cert.Kernel4Ideal.nD Cert.Kernel4Ideal.τ).loc Cert.Kernel4Ideal.main_v6)) (v7 : (c : Dev Cert.Kernel4Ideal.nD) → Buf (Elt Ideal) ((c.tc : Thread Cert.Kernel4Ideal.nD Cert.Kernel4Ideal.τ).loc Cert.Kernel4Ideal.main_v7)) (v8 : (c : Dev Cert.Kernel4Ideal.nD) → Buf (Elt Ideal) ((c.tc : Thread Cert.Kernel4Ideal.nD Cert.Kernel4Ideal.τ).loc Cert.Kernel4Ideal.main_v8)) (v9 : (c : Dev Cert.Kernel4Ideal.nD) → Buf (Elt Ideal) ((c.tc : Thread Cert.Kernel4Ideal.nD Cert.Kernel4Ideal.τ).loc Cert.Kernel4Ideal.main_v9)) (v10 : (c : Dev Cert.Kernel4Ideal.nD) → Buf (Elt Ideal) ((c.tc : Thread Cert.Kernel4Ideal.nD Cert.Kernel4Ideal.τ).loc Cert.Kernel4Ideal.main_v10)) (v11 : (c : Dev Cert.Kernel4Ideal.nD) → Buf (Elt Ideal) ((c.tc : Thread Cert.Kernel4Ideal.nD Cert.Kernel4Ideal.τ).loc Cert.Kernel4Ideal.main_v11)) (v12 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_v1) = v1 c
          ∧ r.2.mem ((c.tc : Thread Cert.Kernel4Ideal.nD Cert.Kernel4Ideal.τ).loc Cert.Kernel4Ideal.main_v2) = v2 c
          ∧ r.2.mem ((c.tc : Thread Cert.Kernel4Ideal.nD Cert.Kernel4Ideal.τ).loc Cert.Kernel4Ideal.main_v3) = v3 c
          ∧ r.2.mem ((c.tc : Thread Cert.Kernel4Ideal.nD Cert.Kernel4Ideal.τ).loc Cert.Kernel4Ideal.main_v4) = v4 c
          ∧ r.2.mem ((c.tc : Thread Cert.Kernel4Ideal.nD Cert.Kernel4Ideal.τ).loc Cert.Kernel4Ideal.main_v5) = v5 c
          ∧ r.2.mem ((c.tc : Thread Cert.Kernel4Ideal.nD Cert.Kernel4Ideal.τ).loc Cert.Kernel4Ideal.main_v6) = v6 c
          ∧ r.2.mem ((c.tc : Thread Cert.Kernel4Ideal.nD Cert.Kernel4Ideal.τ).loc Cert.Kernel4Ideal.main_v7) = v7 c
          ∧ r.2.mem ((c.tc : Thread Cert.Kernel4Ideal.nD Cert.Kernel4Ideal.τ).loc Cert.Kernel4Ideal.main_v8) = v8 c
          ∧ r.2.mem ((c.tc : Thread Cert.Kernel4Ideal.nD Cert.Kernel4Ideal.τ).loc Cert.Kernel4Ideal.main_v9) = v9 c
          ∧ r.2.mem ((c.tc : Thread Cert.Kernel4Ideal.nD Cert.Kernel4Ideal.τ).loc Cert.Kernel4Ideal.main_v10) = v10 c
          ∧ r.2.mem ((c.tc : Thread Cert.Kernel4Ideal.nD Cert.Kernel4Ideal.τ).loc Cert.Kernel4Ideal.main_v11) = v11 c
          ∧ r.2.mem ((c.tc : Thread Cert.Kernel4Ideal.nD Cert.Kernel4Ideal.τ).loc Cert.Kernel4Ideal.main_v12) = v12 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_v9) = v2 c
          ∧ r.2.mem ((c.tc : Thread Cert.Reference4Ideal.nD Cert.Reference4Ideal.τ).loc Cert.Reference4Ideal.main_v12) = v3 c
          ∧ r.2.mem ((c.tc : Thread Cert.Reference4Ideal.nD Cert.Reference4Ideal.τ).loc Cert.Reference4Ideal.main_v16) = v4 c
          ∧ r.2.mem ((c.tc : Thread Cert.Reference4Ideal.nD Cert.Reference4Ideal.τ).loc Cert.Reference4Ideal.main_v20) = v5 c
          ∧ r.2.mem ((c.tc : Thread Cert.Reference4Ideal.nD Cert.Reference4Ideal.τ).loc Cert.Reference4Ideal.main_v19) = v6 c
          ∧ r.2.mem ((c.tc : Thread Cert.Reference4Ideal.nD Cert.Reference4Ideal.τ).loc Cert.Reference4Ideal.main_v24) = v7 c
          ∧ r.2.mem ((c.tc : Thread Cert.Reference4Ideal.nD Cert.Reference4Ideal.τ).loc Cert.Reference4Ideal.main_v23) = v8 c
          ∧ r.2.mem ((c.tc : Thread Cert.Reference4Ideal.nD Cert.Reference4Ideal.τ).loc Cert.Reference4Ideal.main_v28) = v9 c
          ∧ r.2.mem ((c.tc : Thread Cert.Reference4Ideal.nD Cert.Reference4Ideal.τ).loc Cert.Reference4Ideal.main_v27) = v10 c
          ∧ r.2.mem ((c.tc : Thread Cert.Reference4Ideal.nD Cert.Reference4Ideal.τ).loc Cert.Reference4Ideal.main_v32) = v11 c
          ∧ r.2.mem ((c.tc : Thread Cert.Reference4Ideal.nD Cert.Reference4Ideal.τ).loc Cert.Reference4Ideal.main_v31) = v12 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_v17) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4096x256 : Shape := ⟨2, ![4096, 256]⟩
abbrev S_ : Shape := ⟨0, ![]⟩

class Facts : Prop where
  bitsLt_bf16_f32 : FTy.bits .bf16 < FTy.bits .f32
  bcast_S_S4096x256 : S_.BroadcastsInDim S4096x256 (![] : Fin 0 → Fin S4096x256.rank)

variable [Facts]

def fn_part1 {F : FTy → Type} [FloatOps F] (main_v11 : IVec S4096x256 1) (main_v14 : IVec S4096x256 1) (main_v17 : IVec S4096x256 1) (main_v18 : IVec S4096x256 1) : IVec S4096x256 1 :=
  let main_v19 : IVec S4096x256 1 := andi main_v18 main_v11
  let main_v20 : IVec S4096x256 1 := andi main_v19 main_v14
  let main_v21 : IVec S4096x256 1 := andi main_v20 main_v17
  main_v21

def fn {F : FTy → Type} [FloatOps F] (main_arg0 : FVec F S4096x256 .bf16) (main_arg1 : FVec F S4096x256 .bf16) (main_arg2 : FVec F S4096x256 .bf16) (main_arg3 : FVec F S4096x256 .f32) (main_arg4 : FVec F S4096x256 .f32) : IVec S4096x256 1 :=
  let main_v0 : FVec F S4096x256 .f32 := (extf .f32 · bitsLt_bf16_f32) main_arg0
  let main_v1 : FVec F S4096x256 .f32 := Host.absf main_v0
  let main_cst : FVec F S_ .f32 := constant S_ .f32 0x7F800000#32
  let main_v2 : FVec F S4096x256 .f32 := broadcastInDim S4096x256 ![] bcast_S_S4096x256 main_cst
  let main_v3 : IVec S4096x256 1 := cmpf .olt main_v1 main_v2
  let main_v4 : FVec F S4096x256 .f32 := (extf .f32 · bitsLt_bf16_f32) main_arg1
  let main_v5 : FVec F S4096x256 .f32 := Host.absf main_v4
  let main_cst_0 : FVec F S_ .f32 := constant S_ .f32 0x7F800000#32
  let main_v6 : FVec F S4096x256 .f32 := broadcastInDim S4096x256 ![] bcast_S_S4096x256 main_cst_0
  let main_v7 : IVec S4096x256 1 := cmpf .olt main_v5 main_v6
  let main_v8 : FVec F S4096x256 .f32 := (extf .f32 · bitsLt_bf16_f32) main_arg2
  let main_v9 : FVec F S4096x256 .f32 := Host.absf main_v8
  let main_cst_1 : FVec F S_ .f32 := constant S_ .f32 0x7F800000#32
  let main_v10 : FVec F S4096x256 .f32 := broadcastInDim S4096x256 ![] bcast_S_S4096x256 main_cst_1
  let main_v11 : IVec S4096x256 1 := cmpf .olt main_v9 main_v10
  let main_v12 : FVec F S4096x256 .f32 := Host.absf main_arg3
  let main_cst_2 : FVec F S_ .f32 := constant S_ .f32 0x7F800000#32
  let main_v13 : FVec F S4096x256 .f32 := broadcastInDim S4096x256 ![] bcast_S_S4096x256 main_cst_2
  let main_v14 : IVec S4096x256 1 := cmpf .olt main_v12 main_v13
  let main_v15 : FVec F S4096x256 .f32 := Host.absf main_arg4
  let main_cst_3 : FVec F S_ .f32 := constant S_ .f32 0x7F800000#32
  let main_v16 : FVec F S4096x256 .f32 := broadcastInDim S4096x256 ![] bcast_S_S4096x256 main_cst_3
  let main_v17 : IVec S4096x256 1 := cmpf .olt main_v15 main_v16
  let main_v18 : IVec S4096x256 1 := andi main_v3 main_v7
  fn_part1 (F := F) main_v11 main_v14 main_v17 main_v18
-- ==== Kernel.lean ====
abbrev S4096x256 : Shape := ⟨2, ![4096, 256]⟩
abbrev S4x256 : Shape := ⟨2, ![4, 256]⟩
abbrev S4x1x256 : Shape := ⟨3, ![4, 1, 256]⟩
abbrev S1024x4x256 : Shape := ⟨3, ![1024, 4, 256]⟩
abbrev S4x1024x256 : Shape := ⟨3, ![4, 1024, 256]⟩
abbrev S128x256 : Shape := ⟨2, ![128, 256]⟩
abbrev S128x128 : Shape := ⟨2, ![128, 128]⟩
abbrev S1x1x256 : Shape := ⟨3, ![1, 1, 256]⟩
abbrev S1x256 : Shape := ⟨2, ![1, 256]⟩
abbrev S128 : Shape := ⟨1, ![128]⟩
abbrev S128x1 : Shape := ⟨2, ![128, 1]⟩

abbrev nBuf : Space → Nat
  | .hbm => 29
  | .vmem => 50
  | .smem => 0
  | _ => 0

abbrev bufTy : (tb : Table) → Fin (tcTables nBuf tb) → BufTy
  | .hbm, ⟨0, _⟩ => ⟨S4096x256, .bf16⟩
  | .hbm, ⟨1, _⟩ => ⟨S4096x256, .bf16⟩
  | .hbm, ⟨2, _⟩ => ⟨S4096x256, .bf16⟩
  | .hbm, ⟨3, _⟩ => ⟨S4096x256, .f32⟩
  | .hbm, ⟨4, _⟩ => ⟨S4096x256, .f32⟩
  | .hbm, ⟨5, _⟩ => ⟨S4x256, .f32⟩
  | .hbm, ⟨6, _⟩ => ⟨S4x1x256, .f32⟩
  | .hbm, ⟨7, _⟩ => ⟨S4x256, .f32⟩
  | .hbm, ⟨8, _⟩ => ⟨S4x1x256, .f32⟩
  | .hbm, ⟨9, _⟩ => ⟨S1024x4x256, .bf16⟩
  | .hbm, ⟨10, _⟩ => ⟨S4x1024x256, .bf16⟩
  | .hbm, ⟨11, _⟩ => ⟨S4096x256, .bf16⟩
  | .hbm, ⟨12, _⟩ => ⟨S1024x4x256, .bf16⟩
  | .hbm, ⟨13, _⟩ => ⟨S4x1024x256, .bf16⟩
  | .hbm, ⟨14, _⟩ => ⟨S4096x256, .bf16⟩
  | .hbm, ⟨15, _⟩ => ⟨S1024x4x256, .bf16⟩
  | .hbm, ⟨16, _⟩ => ⟨S4x1024x256, .bf16⟩
  | .hbm, ⟨17, _⟩ => ⟨S4096x256, .bf16⟩
  | .hbm, ⟨18, _⟩ => ⟨S4096x256, .f32⟩
  | .hbm, ⟨19, _⟩ => ⟨S4096x256, .f32⟩
  | .hbm, ⟨20, _⟩ => ⟨S1024x4x256, .f32⟩
  | .hbm, ⟨21, _⟩ => ⟨S4x1024x256, .f32⟩
  | .hbm, ⟨22, _⟩ => ⟨S4096x256, .f32⟩
  | .hbm, ⟨23, _⟩ => ⟨S1024x4x256, .f32⟩
  | .hbm, ⟨24, _⟩ => ⟨S4x1024x256, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S4096x256, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S4x1x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .bf16⟩
  | .local _ .vmem, ⟨16, _⟩ => ⟨S128x256, .bf16⟩
  | .local _ .vmem, ⟨17, _⟩ => ⟨S128x256, .bf16⟩
  | .local _ .vmem, ⟨18, _⟩ => ⟨S128x256, .bf16⟩
  | .local _ .vmem, ⟨19, _⟩ => ⟨S128x256, .bf16⟩
  | .local _ .vmem, ⟨20, _⟩ => ⟨S128x256, .bf16⟩
  | .local _ .vmem, ⟨21, _⟩ => ⟨S128x256, .bf16⟩
  | .local _ .vmem, ⟨22, _⟩ => ⟨S128x256, .bf16⟩
  | .local _ .vmem, ⟨23, _⟩ => ⟨S128x256, .bf16⟩
  | .local _ .vmem, ⟨24, _⟩ => ⟨S128x256, .bf16⟩
  | .local _ .vmem, ⟨25, _⟩ => ⟨S128x256, .bf16⟩
  | .local _ .vmem, ⟨26, _⟩ => ⟨S128x256, .bf16⟩
  | .local _ .vmem, ⟨27, _⟩ => ⟨S128x256, .f32⟩
  | .local _ .vmem, ⟨28, _⟩ => ⟨S128x256, .f32⟩
  | .local _ .vmem, ⟨29, _⟩ => ⟨S128x256, .f32⟩
  | .local _ .vmem, ⟨30, _⟩ => ⟨S128x256, .f32⟩
  | .local _ .vmem, ⟨31, _⟩ => ⟨S128x256, .f32⟩
  | .local _ .vmem, ⟨32, _⟩ => ⟨S128x256, .f32⟩
  | .local _ .vmem, ⟨33, _⟩ => ⟨S128x256, .f32⟩
  | .local _ .vmem, ⟨34, _⟩ => ⟨S128x256, .f32⟩
  | .local _ .vmem, ⟨35, _⟩ => ⟨S128x256, .f32⟩
  | .local _ .vmem, ⟨36, _⟩ => ⟨S128x256, .f32⟩
  | .local _ .vmem, ⟨37, _⟩ => ⟨S128x256, .f32⟩
  | .local _ .vmem, ⟨38, _⟩ => ⟨S128x256, .f32⟩
  | .local _ .vmem, ⟨39, _⟩ => ⟨S128x256, .f32⟩
  | .local _ .vmem, ⟨40, _⟩ => ⟨S128x256, .f32⟩
  | .local _ .vmem, ⟨41, _⟩ => ⟨S128x256, .f32⟩
  | .local _ .vmem, ⟨42, _⟩ => ⟨S128x256, .f32⟩
  | .local _ .vmem, ⟨43, _⟩ => ⟨S4x1x256, .f32⟩
  | .local _ .vmem, ⟨44, _⟩ => ⟨S128x256, .f32⟩
  | .local _ .vmem, ⟨45, _⟩ => ⟨S128x256, .f32⟩
  | .local _ .vmem, ⟨46, _⟩ => ⟨S128x256, .f32⟩
  | .local _ .vmem, ⟨47, _⟩ => ⟨S128x256, .f32⟩
  | .local _ .vmem, ⟨48, _⟩ => ⟨S128x256, .f32⟩
  | .local _ .vmem, ⟨49, _⟩ => ⟨S128x256, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc1_stg10_0 : Ref sig .tc := ⟨.vmem, 35, rfl⟩
abbrev cc1_stg10_1 : Ref sig .tc := ⟨.vmem, 36, rfl⟩
abbrev cc1_stg11_0 : Ref sig .tc := ⟨.vmem, 37, rfl⟩
abbrev cc1_stg11_1 : Ref sig .tc := ⟨.vmem, 38, rfl⟩
abbrev cc1_stg12_0 : Ref sig .tc := ⟨.vmem, 39, rfl⟩
abbrev cc1_stg12_1 : Ref sig .tc := ⟨.vmem, 40, rfl⟩
abbrev cc1_stg13_0 : Ref sig .tc := ⟨.vmem, 41, rfl⟩
abbrev cc1_stg13_1 : Ref sig .tc := ⟨.vmem, 42, rfl⟩
abbrev cc1_stg14_0 : Ref sig .tc := ⟨.vmem, 43, rfl⟩
abbrev cc1_stg15_0 : Ref sig .tc := ⟨.vmem, 44, rfl⟩
abbrev cc1_stg15_1 : Ref sig .tc := ⟨.vmem, 45, rfl⟩
abbrev cc1_stg16_0 : Ref sig .tc := ⟨.vmem, 46, rfl⟩
abbrev cc1_stg16_1 : Ref sig .tc := ⟨.vmem, 47, rfl⟩
abbrev cc1_stg17_0 : Ref sig .tc := ⟨.vmem, 48, rfl⟩
abbrev cc1_stg17_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28
abbrev cc1_sem7_0 : DmaSem sig := 29
abbrev cc1_sem7_1 : DmaSem sig := 30
abbrev cc1_sem8_0 : DmaSem sig := 31
abbrev cc1_sem8_1 : DmaSem sig := 32
abbrev cc1_sem9_0 : DmaSem sig := 33
abbrev cc1_sem9_1 : DmaSem sig := 34
abbrev cc1_sem10_0 : DmaSem sig := 35
abbrev cc1_sem10_1 : DmaSem sig := 36
abbrev cc1_sem11_0 : DmaSem sig := 37
abbrev cc1_sem11_1 : DmaSem sig := 38
abbrev cc1_sem12_0 : DmaSem sig := 39
abbrev cc1_sem12_1 : DmaSem sig := 40
abbrev cc1_sem13_0 : DmaSem sig := 41
abbrev cc1_sem13_1 : DmaSem sig := 42
abbrev cc1_sem14_0 : DmaSem sig := 43
abbrev cc1_sem15_0 : DmaSem sig := 44
abbrev cc1_sem15_1 : DmaSem sig := 45
abbrev cc1_sem16_0 : DmaSem sig := 46
abbrev cc1_sem16_1 : DmaSem sig := 47
abbrev cc1_sem17_0 : DmaSem sig := 48
abbrev cc1_sem17_1 : DmaSem sig := 49

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S128x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S128x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S128x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S128x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S128x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 1 → Memref sig .tc .vmem S4x1x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S128x256 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S128x256 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S128x256 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S4096x256 : Shape := ⟨2, ![4096, 256]⟩
abbrev S1x4096x4x64 : Shape := ⟨4, ![1, 4096, 4, 64]⟩
abbrev S_ : Shape := ⟨0, ![]⟩
abbrev S1x1024x4x4x64 : Shape := ⟨5, ![1, 1024, 4, 4, 64]⟩
abbrev S1x4x4x1024x64 : Shape := ⟨5, ![1, 4, 4, 1024, 64]⟩
abbrev S1x4x4x8x128x64 : Shape := ⟨6, ![1, 4, 4, 8, 128, 64]⟩
abbrev S1x4x4x1x128x64 : Shape := ⟨6, ![1, 4, 4, 1, 128, 64]⟩
abbrev S1x4x4x7x128x64 : Shape := ⟨6, ![1, 4, 4, 7, 128, 64]⟩
abbrev S1x4x4x8x256x64 : Shape := ⟨6, ![1, 4, 4, 8, 256, 64]⟩
abbrev S1x4x4x8x128x256 : Shape := ⟨6, ![1, 4, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S8x128x256 : Shape := ⟨3, ![8, 128, 256]⟩
abbrev S1x4x4x8x128 : Shape := ⟨5, ![1, 4, 4, 8, 128]⟩
abbrev S1x4x4x8x128x1 : Shape := ⟨6, ![1, 4, 4, 8, 128, 1]⟩
abbrev S1x4x4x1024 : Shape := ⟨4, ![1, 4, 4, 1024]⟩
abbrev S1x1024x4x4 : Shape := ⟨4, ![1, 1024, 4, 4]⟩
abbrev S1x4096x4 : Shape := ⟨3, ![1, 4096, 4]⟩
abbrev S1x4096x4x1 : Shape := ⟨4, ![1, 4096, 4, 1]⟩
abbrev S4096x4 : Shape := ⟨2, ![4096, 4]⟩
abbrev S1x4x4x8x64x256 : Shape := ⟨6, ![1, 4, 4, 8, 64, 256]⟩
abbrev S4x4x8x128 : Shape := ⟨4, ![4, 4, 8, 128]⟩
abbrev S1024x4x256 : Shape := ⟨3, ![1024, 4, 256]⟩
abbrev S4x1024x256 : Shape := ⟨3, ![4, 1024, 256]⟩

abbrev nBuf : Space → Nat
  | .hbm => 232
  | .vmem => 0
  | .smem => 0
  | _ => 0

abbrev hbmTy0_0 (i : Nat) : BufTy := match i % 128 with
  | 0 => ⟨S4096x256, .bf16⟩
  | 1 => ⟨S4096x256, .bf16⟩
  | 2 => ⟨S4096x256, .bf16⟩
  | 3 => ⟨S4096x256, .f32⟩
  | 4 => ⟨S4096x256, .f32⟩
  | 5 => ⟨S4096x256, .f32⟩
  | 6 => ⟨S4096x256, .f32⟩
  | 7 => ⟨S4096x256, .f32⟩
  | 8 => ⟨S1x4096x4x64, .f32⟩
  | 9 => ⟨S1x4096x4x64, .f32⟩
  | 10 => ⟨S1x4096x4x64, .f32⟩
  | 11 => ⟨S_, .i32⟩
  | 12 => ⟨S_, .f32⟩
  | 13 => ⟨S1x4096x4x64, .f32⟩
  | 14 => ⟨S_, .f32⟩
  | 15 => ⟨S1x1024x4x4x64, .f32⟩
  | 16 => ⟨S1x4x4x1024x64, .f32⟩
  | 17 => ⟨S1x4x4x8x128x64, .f32⟩
  | 18 => ⟨S_, .i32⟩
  | 19 => ⟨S_, .f32⟩
  | 20 => ⟨S1x4096x4x64, .f32⟩
  | 21 => ⟨S_, .f32⟩
  | 22 => ⟨S1x1024x4x4x64, .f32⟩
  | 23 => ⟨S1x4x4x1024x64, .f32⟩
  | 24 => ⟨S1x4x4x8x128x64, .f32⟩
  | 25 => ⟨S1x4x4x1x128x64, .f32⟩
  | 26 => ⟨S_, .f32⟩
  | 27 => ⟨S1x4x4x1x128x64, .f32⟩
  | 28 => ⟨S1x4x4x7x128x64, .f32⟩
  | 29 => ⟨S1x4x4x8x128x64, .f32⟩
  | 30 => ⟨S_, .f32⟩
  | 31 => ⟨S1x4x4x1x128x64, .f32⟩
  | 32 => ⟨S1x4x4x8x256x64, .f32⟩
  | 33 => ⟨S_, .i32⟩
  | 34 => ⟨S_, .f32⟩
  | 35 => ⟨S1x4096x4x64, .f32⟩
  | 36 => ⟨S_, .f32⟩
  | 37 => ⟨S1x1024x4x4x64, .f32⟩
  | 38 => ⟨S1x4x4x1024x64, .f32⟩
  | 39 => ⟨S1x4x4x8x128x64, .f32⟩
  | 40 => ⟨S1x4x4x1x128x64, .f32⟩
  | 41 => ⟨S_, .f32⟩
  | 42 => ⟨S1x4x4x1x128x64, .f32⟩
  | 43 => ⟨S1x4x4x7x128x64, .f32⟩
  | 44 => ⟨S1x4x4x8x128x64, .f32⟩
  | 45 => ⟨S_, .f32⟩
  | 46 => ⟨S1x4x4x1x128x64, .f32⟩
  | 47 => ⟨S1x4x4x8x256x64, .f32⟩
  | 48 => ⟨S1x4x4x8x128x256, .f32⟩
  | 49 => ⟨S_, .f32⟩
  | 50 => ⟨S1x4x4x8x128x256, .f32⟩
  | 51 => ⟨S1x4x4x8x128x256, .f32⟩
  | 52 => ⟨S128, .i32⟩
  | 53 => ⟨S128x1, .i32⟩
  | 54 => ⟨S256, .i32⟩
  | 55 => ⟨S1x256, .i32⟩
  | 56 => ⟨S_, .i32⟩
  | 57 => ⟨S128x1, .i32⟩
  | 58 => ⟨S128x1, .i32⟩
  | 59 => ⟨S128x256, .i32⟩
  | 60 => ⟨S128x256, .i32⟩
  | 61 => ⟨S128x256, .i32⟩
  | 62 => ⟨S_, .i32⟩
  | 63 => ⟨S128x256, .i32⟩
  | 64 => ⟨S128x256, .i1⟩
  | 65 => ⟨S_, .i32⟩
  | 66 => ⟨S128x256, .i32⟩
  | 67 => ⟨S128x256, .i1⟩
  | 68 => ⟨S128x256, .i1⟩
  | 69 => ⟨S1x128x256, .i1⟩
  | 70 => ⟨S8, .i32⟩
  | 71 => ⟨S_, .i32⟩
  | 72 => ⟨S8, .i32⟩
  | 73 => ⟨S8, .i1⟩
  | 74 => ⟨S8x1x1, .i1⟩
  | 75 => ⟨S_, .i32⟩
  | 76 => ⟨S1x256, .i32⟩
  | 77 => ⟨S1x256, .i1⟩
  | 78 => ⟨S1x1x256, .i1⟩
  | 79 => ⟨S8x1x256, .i1⟩
  | 80 => ⟨S8x1x256, .i1⟩
  | 81 => ⟨S8x1x256, .i1⟩
  | 82 => ⟨S8x128x256, .i1⟩
  | 83 => ⟨S8x128x256, .i1⟩
  | 84 => ⟨S8x128x256, .i1⟩
  | 85 => ⟨S_, .f32⟩
  | 86 => ⟨S_, .f32⟩
  | 87 => ⟨S1x4x4x8x128x256, .i1⟩
  | 88 => ⟨S1x4x4x8x128x256, .f32⟩
  | 89 => ⟨S1x4x4x8x128x256, .f32⟩
  | 90 => ⟨S_, .f32⟩
  | 91 => ⟨S1x4x4x8x128x256, .f32⟩
  | 92 => ⟨S_, .f32⟩
  | 93 => ⟨S1x4x4x8x128, .f32⟩
  | 94 => ⟨S1x4x4x8x128x1, .f32⟩
  | 95 => ⟨S1x4x4x8x128x256, .f32⟩
  | 96 => ⟨S1x4x4x8x128x256, .i1⟩
  | 97 => ⟨S1x4x4x8x128x256, .f32⟩
  | 98 => ⟨S_, .f32⟩
  | 99 => ⟨S1x4x4x8x128, .f32⟩
  | 100 => ⟨S1x4x4x8x128x1, .f32⟩
  | 101 => ⟨S1x4x4x8x128x256, .f32⟩
  | 102 => ⟨S1x4x4x8x128x256, .f32⟩
  | 103 => ⟨S1x4x4x8x128x256, .f32⟩
  | 104 => ⟨S_, .f32⟩
  | 105 => ⟨S1x4x4x8x128, .f32⟩
  | 106 => ⟨S1x4x4x8x128x1, .f32⟩
  | 107 => ⟨S1x4x4x8x128x64, .f32⟩
  | 108 => ⟨S1x4x4x8x128x64, .f32⟩
  | 109 => ⟨S1x4x4x8x128x64, .f32⟩
  | 110 => ⟨S1x4x4x8x128x1, .f32⟩
  | 111 => ⟨S_, .f32⟩
  | 112 => ⟨S1x4x4x8x128x1, .f32⟩
  | 113 => ⟨S1x4x4x8x128x1, .f32⟩
  | 114 => ⟨S1x4x4x8x128x1, .f32⟩
  | 115 => ⟨S1x4x4x8x128x1, .f32⟩
  | 116 => ⟨S1x4x4x8x128, .f32⟩
  | 117 => ⟨S1x4x4x1024x64, .f32⟩
  | 118 => ⟨S1x1024x4x4x64, .f32⟩
  | 119 => ⟨S1x4096x4x64, .f32⟩
  | 120 => ⟨S1x4x4x1024, .f32⟩
  | 121 => ⟨S1x1024x4x4, .f32⟩
  | 122 => ⟨S1x4096x4, .f32⟩
  | 123 => ⟨S4096x256, .f32⟩
  | 124 => ⟨S1x4096x4x1, .f32⟩
  | 125 => ⟨S1x4096x4x64, .f32⟩
  | 126 => ⟨S4096x256, .f32⟩
  | 127 => ⟨S1x4096x4x64, .f32⟩
  | _ => ⟨S4096x256, .bf16⟩

abbrev hbmTy0_1 (i : Nat) : BufTy := match i % 128 with
  | 0 => ⟨S_, .f32⟩
  | 1 => ⟨S4096x4, .f32⟩
  | 2 => ⟨S1x4096x4x1, .f32⟩
  | 3 => ⟨S_, .f32⟩
  | 4 => ⟨S4096x4, .f32⟩
  | 5 => ⟨S1x4096x4, .f32⟩
  | 6 => ⟨S1x4096x4x64, .f32⟩
  | 7 => ⟨S1x1024x4x4, .f32⟩
  | 8 => ⟨S1x4x4x1024, .f32⟩
  | 9 => ⟨S1x4x4x8x128, .f32⟩
  | 10 => ⟨S1x1024x4x4x64, .f32⟩
  | 11 => ⟨S1x4x4x1024x64, .f32⟩
  | 12 => ⟨S1x4x4x8x128x64, .f32⟩
  | 13 => ⟨S1x4x4x8x128x1, .f32⟩
  | 14 => ⟨S1x4x4x8x128x1, .f32⟩
  | 15 => ⟨S1x4x4x8x128x64, .f32⟩
  | 16 => ⟨S1x4x4x8x128x64, .f32⟩
  | 17 => ⟨S1x4x4x8x128x64, .f32⟩
  | 18 => ⟨S_, .f32⟩
  | 19 => ⟨S1x4x4x8x128, .f32⟩
  | 20 => ⟨S1x4x4x8x128x1, .f32⟩
  | 21 => ⟨S1x4x4x8x128x1, .f32⟩
  | 22 => ⟨S1x4x4x8x128x1, .f32⟩
  | 23 => ⟨S1x4x4x8x128x64, .f32⟩
  | 24 => ⟨S1x4x4x8x128x64, .f32⟩
  | 25 => ⟨S1x4x4x8x64x256, .f32⟩
  | 26 => ⟨S1x4x4x8x256x64, .f32⟩
  | 27 => ⟨S1x4x4x8x128x256, .f32⟩
  | 28 => ⟨S_, .f32⟩
  | 29 => ⟨S4x4x8x128, .f32⟩
  | 30 => ⟨S1x4x4x8x128, .f32⟩
  | 31 => ⟨S1x4x4x8x128x256, .f32⟩
  | 32 => ⟨S1x4x4x8x128x256, .f32⟩
  | 33 => ⟨S1x4x4x8x128x256, .f32⟩
  | 34 => ⟨S1x4x4x8x128x256, .f32⟩
  | 35 => ⟨S_, .f32⟩
  | 36 => ⟨S1x4x4x8x128, .f32⟩
  | 37 => ⟨S1x4x4x8x128x1, .f32⟩
  | 38 => ⟨S1x4x4x8x128x1, .f32⟩
  | 39 => ⟨S_, .f32⟩
  | 40 => ⟨S4x4x8x128, .f32⟩
  | 41 => ⟨S1x4x4x8x128, .f32⟩
  | 42 => ⟨S1x4x4x8x128, .f32⟩
  | 43 => ⟨S1x4x4x8x128x256, .f32⟩
  | 44 => ⟨S1x4x4x8x128x256, .f32⟩
  | 45 => ⟨S1x4x4x8x128x256, .f32⟩
  | 46 => ⟨S_, .f32⟩
  | 47 => ⟨S1x4x4x8x128x256, .f32⟩
  | 48 => ⟨S1x4x4x8x128x256, .f32⟩
  | 49 => ⟨S_, .f32⟩
  | 50 => ⟨S1x4x4x8x128x256, .f32⟩
  | 51 => ⟨S1x4x4x8x128x256, .f32⟩
  | 52 => ⟨S1x4x4x8x256x64, .f32⟩
  | 53 => ⟨S1x4x4x8x128x64, .f32⟩
  | 54 => ⟨S1x4x4x8x128x64, .f32⟩
  | 55 => ⟨S1x4x4x8x128x64, .f32⟩
  | 56 => ⟨S1x4x4x1x128x64, .f32⟩
  | 57 => ⟨S1x4x4x7x128x64, .f32⟩
  | 58 => ⟨S_, .f32⟩
  | 59 => ⟨S1x4x4x8x128x64, .f32⟩
  | 60 => ⟨S1x4x4x8x128x64, .f32⟩
  | 61 => ⟨S1x4x4x1024x64, .f32⟩
  | 62 => ⟨S1x1024x4x4x64, .f32⟩
  | 63 => ⟨S1x4096x4x64, .f32⟩
  | 64 => ⟨S_, .f32⟩
  | 65 => ⟨S1x4096x4x64, .f32⟩
  | 66 => ⟨S1x4096x4x64, .f32⟩
  | 67 => ⟨S1x4x4x8x128x64, .f32⟩
  | 68 => ⟨S1x4x4x8x128x64, .f32⟩
  | 69 => ⟨S1x4x4x1x128x64, .f32⟩
  | 70 => ⟨S1x4x4x7x128x64, .f32⟩
  | 71 => ⟨S_, .f32⟩
  | 72 => ⟨S1x4x4x8x128x64, .f32⟩
  | 73 => ⟨S1x4x4x8x128x64, .f32⟩
  | 74 => ⟨S1x4x4x1024x64, .f32⟩
  | 75 => ⟨S1x1024x4x4x64, .f32⟩
  | 76 => ⟨S1x4096x4x64, .f32⟩
  | 77 => ⟨S_, .f32⟩
  | 78 => ⟨S1x4096x4x64, .f32⟩
  | 79 => ⟨S1x4096x4x64, .f32⟩
  | 80 => ⟨S1x4x4x1024x64, .f32⟩
  | 81 => ⟨S1x1024x4x4x64, .f32⟩
  | 82 => ⟨S1x4096x4x64, .f32⟩
  | 83 => ⟨S_, .f32⟩
  | 84 => ⟨S1x4096x4x64, .f32⟩
  | 85 => ⟨S1x4096x4x64, .f32⟩
  | 86 => ⟨S4096x256, .f32⟩
  | 87 => ⟨S4096x256, .f32⟩
  | 88 => ⟨S4096x256, .f32⟩
  | 89 => ⟨S1024x4x256, .f32⟩
  | 90 => ⟨S4x1024x256, .f32⟩
  | 91 => ⟨S4096x256, .f32⟩
  | 92 => ⟨S1024x4x256, .f32⟩
  | 93 => ⟨S4x1024x256, .f32⟩
  | 94 => ⟨S4096x256, .f32⟩
  | 95 => ⟨S1024x4x256, .f32⟩
  | 96 => ⟨S4x1024x256, .f32⟩
  | 97 => ⟨S4096x256, .f32⟩
  | 98 => ⟨S1024x4x256, .f32⟩
  | 99 => ⟨S4x1024x256, .f32⟩
  | 100 => ⟨S4096x256, .f32⟩
  | 101 => ⟨S1024x4x256, .f32⟩
  | 102 => ⟨S4x1024x256, .f32⟩
  | 103 => ⟨S4096x256, .f32⟩
  | _ => ⟨S4096x256, .bf16⟩

abbrev hbmTy (i : Nat) : BufTy := match i / 128 with
  | 0 => hbmTy0_0 i
  | 1 => hbmTy0_1 i
  | _ => ⟨S4096x256, .bf16⟩

abbrev bufTy : (tb : Table) → Fin (tcTables nBuf tb) → BufTy
  | .hbm, ⟨i, _⟩ => hbmTy i
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_call1_v0 : Ref sig .tc := ⟨.hbm, 19, rfl⟩
abbrev main_v10_0 : Ref sig .tc := ⟨.hbm, 20, rfl⟩
abbrev main_v10_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_call2_v0 : Ref sig .tc := ⟨.hbm, 34, rfl⟩
abbrev main_v20_0 : Ref sig .tc := ⟨.hbm, 35, rfl⟩
abbrev main_v20_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_call3_v0 : Ref sig .tc := ⟨.hbm, 86, rfl⟩
abbrev main_v61_1 : Ref sig .tc := ⟨.hbm, 87, rfl⟩
abbrev main_call3_v2 : Ref sig .tc := ⟨.hbm, 88, rfl⟩
abbrev main_v61_0 : Ref sig .tc := ⟨.hbm, 89, rfl⟩
abbrev main_call3_cst : Ref sig .tc := ⟨.hbm, 90, rfl⟩
abbrev main_v61_2 : Ref sig .tc := ⟨.hbm, 91, rfl⟩
abbrev main_cst_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_13 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_16 : Ref sig .tc := ⟨.hbm, 128, rfl⟩
abbrev main_v94 : Ref sig .tc := ⟨.hbm, 129, rfl⟩
abbrev main_v95 : Ref sig .tc := ⟨.hbm, 130, rfl⟩
abbrev main_cst_17 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_18 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_19 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_20 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_21 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_call4_cst : Ref sig .tc := ⟨.hbm, 174, rfl⟩
abbrev main_call4_v0 : Ref sig .tc := ⟨.hbm, 175, rfl⟩
abbrev main_v134 : Ref sig .tc := ⟨.hbm, 176, rfl⟩
abbrev main_cst_22 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_cst_23 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_call5_cst : Ref sig .tc := ⟨.hbm, 192, rfl⟩
abbrev main_call5_v0 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_24 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_call6_cst : Ref sig .tc := ⟨.hbm, 205, rfl⟩
abbrev main_call6_v0 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_call7_cst : Ref sig .tc := ⟨.hbm, 211, rfl⟩
abbrev main_call7_v0 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩

abbrev nD : Nat := 1
abbrev τ : Topo := Topo.v7x

variable {F : FTy → Type} [FloatOps F]
-- ==== Kernel2.lean ====
abbrev S4096x1024 : Shape := ⟨2, ![4096, 1024]⟩
abbrev S1024x5632 : Shape := ⟨2, ![1024, 5632]⟩
abbrev S4096x2816 : Shape := ⟨2, ![4096, 2816]⟩
abbrev S2816x1024 : Shape := ⟨2, ![2816, 1024]⟩
abbrev S4096x5632 : Shape := ⟨2, ![4096, 5632]⟩
abbrev S1024x1024 : Shape := ⟨2, ![1024, 1024]⟩
abbrev S1024x512 : Shape := ⟨2, ![1024, 512]⟩
abbrev S1024x2816 : Shape := ⟨2, ![1024, 2816]⟩
abbrev S2816x512 : Shape := ⟨2, ![2816, 512]⟩
abbrev S1408x1024 : Shape := ⟨2, ![1408, 1024]⟩
abbrev S1024x1408 : Shape := ⟨2, ![1024, 1408]⟩
abbrev S512x5632 : Shape := ⟨2, ![512, 5632]⟩
abbrev S4096x512 : Shape := ⟨2, ![4096, 512]⟩
abbrev S512x512 : Shape := ⟨2, ![512, 512]⟩

abbrev nBuf : Space → Nat
  | .hbm => 12
  | .vmem => 32
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x2816, .bf16⟩
  | .hbm, ⟨3, _⟩ => ⟨S2816x1024, .bf16⟩
  | .hbm, ⟨4, _⟩ => ⟨S4096x1024, .f32⟩
  | .hbm, ⟨5, _⟩ => ⟨S4096x1024, .f32⟩
  | .hbm, ⟨6, _⟩ => ⟨S4096x5632, .bf16⟩
  | .hbm, ⟨7, _⟩ => ⟨S4096x5632, .f32⟩
  | .hbm, ⟨8, _⟩ => ⟨S4096x1024, .f32⟩
  | .hbm, ⟨9, _⟩ => ⟨S4096x2816, .f32⟩
  | .hbm, ⟨10, _⟩ => ⟨S4096x1024, .f32⟩
  | .hbm, ⟨11, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x2816, .bf16⟩
  | .local _ .vmem, ⟨7, _⟩ => ⟨S1024x2816, .bf16⟩
  | .local _ .vmem, ⟨8, _⟩ => ⟨S2816x512, .bf16⟩
  | .local _ .vmem, ⟨9, _⟩ => ⟨S2816x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x1024, .f32⟩
  | .local _ .vmem, ⟨15, _⟩ => ⟨S1024x1024, .f32⟩
  | .local _ .vmem, ⟨16, _⟩ => ⟨S1408x1024, .bf16⟩
  | .local _ .vmem, ⟨17, _⟩ => ⟨S1408x1024, .bf16⟩
  | .local _ .vmem, ⟨18, _⟩ => ⟨S1024x1408, .f32⟩
  | .local _ .vmem, ⟨19, _⟩ => ⟨S1024x1408, .f32⟩
  | .local _ .vmem, ⟨20, _⟩ => ⟨S1024x5632, .bf16⟩
  | .local _ .vmem, ⟨21, _⟩ => ⟨S1024x5632, .bf16⟩
  | .local _ .vmem, ⟨22, _⟩ => ⟨S512x5632, .bf16⟩
  | .local _ .vmem, ⟨23, _⟩ => ⟨S512x5632, .bf16⟩
  | .local _ .vmem, ⟨24, _⟩ => ⟨S1024x512, .f32⟩
  | .local _ .vmem, ⟨25, _⟩ => ⟨S1024x512, .f32⟩
  | .local _ .vmem, ⟨26, _⟩ => ⟨S4096x512, .bf16⟩
  | .local _ .vmem, ⟨27, _⟩ => ⟨S4096x512, .bf16⟩
  | .local _ .vmem, ⟨28, _⟩ => ⟨S4096x512, .bf16⟩
  | .local _ .vmem, ⟨29, _⟩ => ⟨S4096x512, .bf16⟩
  | .local _ .vmem, ⟨30, _⟩ => ⟨S512x512, .f32⟩
  | .local _ .vmem, ⟨31, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2816x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1408x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x5632 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x5632 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 11], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== Reference2Ideal.lean ====
abbrev S4096x1024 : Shape := ⟨2, ![4096, 1024]⟩
abbrev S1024x5632 : Shape := ⟨2, ![1024, 5632]⟩
abbrev S4096x2816 : Shape := ⟨2, ![4096, 2816]⟩
abbrev S2816x1024 : Shape := ⟨2, ![2816, 1024]⟩
abbrev S4096x5632 : Shape := ⟨2, ![4096, 5632]⟩
abbrev S1024x2816 : Shape := ⟨2, ![1024, 2816]⟩
abbrev S5632x1024 : Shape := ⟨2, ![5632, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x2816, .bf16⟩
  | .hbm, ⟨3, _⟩ => ⟨S2816x1024, .bf16⟩
  | .hbm, ⟨4, _⟩ => ⟨S4096x1024, .f32⟩
  | .hbm, ⟨5, _⟩ => ⟨S4096x1024, .f32⟩
  | .hbm, ⟨6, _⟩ => ⟨S4096x5632, .bf16⟩
  | .hbm, ⟨7, _⟩ => ⟨S4096x1024, .f32⟩
  | .hbm, ⟨8, _⟩ => ⟨S1024x5632, .f32⟩
  | .hbm, ⟨9, _⟩ => ⟨S4096x5632, .f32⟩
  | .hbm, ⟨10, _⟩ => ⟨S4096x2816, .f32⟩
  | .hbm, ⟨11, _⟩ => ⟨S2816x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1024x2816, .f32⟩
  | .hbm, ⟨16, _⟩ => ⟨S2816x1024, .f32⟩
  | .hbm, ⟨17, _⟩ => ⟨S4096x2816, .f32⟩
  | .hbm, ⟨18, _⟩ => ⟨S4096x5632, .f32⟩
  | .hbm, ⟨19, _⟩ => ⟨S5632x1024, .f32⟩
  | .hbm, ⟨20, _⟩ => ⟨S1024x5632, .f32⟩
  | .hbm, ⟨21, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel3.lean ====
abbrev S4096x1024 : Shape := ⟨2, ![4096, 1024]⟩
abbrev S4096x2816 : Shape := ⟨2, ![4096, 2816]⟩
abbrev S2816x1024 : Shape := ⟨2, ![2816, 1024]⟩
abbrev S4096x256 : Shape := ⟨2, ![4096, 256]⟩
abbrev S4096x512 : Shape := ⟨2, ![4096, 512]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S4096x1024, .f32⟩
  | .hbm, ⟨4, _⟩ => ⟨S2816x1024, .f32⟩
  | .local _ .vmem, ⟨0, _⟩ => ⟨S4096x256, .bf16⟩
  | .local _ .vmem, ⟨1, _⟩ => ⟨S4096x256, .bf16⟩
  | .local _ .vmem, ⟨2, _⟩ => ⟨S4096x512, .f32⟩
  | .local _ .vmem, ⟨3, _⟩ => ⟨S4096x512, .f32⟩
  | .local _ .vmem, ⟨4, _⟩ => ⟨S256x512, .f32⟩
  | .local _ .vmem, ⟨5, _⟩ => ⟨S256x512, .f32⟩
  | .local _ .vmem, ⟨6, _⟩ => ⟨S4096x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x1024 : Shape := ⟨2, ![4096, 1024]⟩
abbrev S4096x2816 : Shape := ⟨2, ![4096, 2816]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S4096x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x2816, .f32⟩
  | .hbm, ⟨10, _⟩ => ⟨S2816x1024, .f32⟩
  | .hbm, ⟨11, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel4.lean ====
abbrev S4096x1024 : Shape := ⟨2, ![4096, 1024]⟩
abbrev S1024x2816 : Shape := ⟨2, ![1024, 2816]⟩
abbrev S1024x1024 : Shape := ⟨2, ![1024, 1024]⟩
abbrev S4096x2816 : Shape := ⟨2, ![4096, 2816]⟩
abbrev S1024x1536 : Shape := ⟨2, ![1024, 1536]⟩
abbrev S4096x512 : Shape := ⟨2, ![4096, 512]⟩
abbrev S512x1024 : Shape := ⟨2, ![512, 1024]⟩
abbrev S4096x1536 : Shape := ⟨2, ![4096, 1536]⟩
abbrev S1024x1408 : Shape := ⟨2, ![1024, 1408]⟩
abbrev S1024x512 : Shape := ⟨2, ![1024, 512]⟩
abbrev S512x512 : Shape := ⟨2, ![512, 512]⟩
abbrev S512x1536 : Shape := ⟨2, ![512, 1536]⟩
abbrev S512x2816 : Shape := ⟨2, ![512, 2816]⟩
abbrev S4096x1408 : Shape := ⟨2, ![4096, 1408]⟩
abbrev S512x1408 : Shape := ⟨2, ![512, 1408]⟩

abbrev nBuf : Space → Nat
  | .hbm => 29
  | .vmem => 80
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S4096x1024, .bf16⟩
  | .hbm, ⟨3, _⟩ => ⟨S1024x1024, .bf16⟩
  | .hbm, ⟨4, _⟩ => ⟨S4096x1024, .f32⟩
  | .hbm, ⟨5, _⟩ => ⟨S4096x2816, .bf16⟩
  | .hbm, ⟨6, _⟩ => ⟨S4096x1024, .bf16⟩
  | .hbm, ⟨7, _⟩ => ⟨S1024x1536, .bf16⟩
  | .hbm, ⟨8, _⟩ => ⟨S4096x1024, .bf16⟩
  | .hbm, ⟨9, _⟩ => ⟨S1024x1024, .bf16⟩
  | .hbm, ⟨10, _⟩ => ⟨S4096x512, .bf16⟩
  | .hbm, ⟨11, _⟩ => ⟨S512x1024, .bf16⟩
  | .hbm, ⟨12, _⟩ => ⟨S4096x1024, .f32⟩
  | .hbm, ⟨13, _⟩ => ⟨S4096x1024, .f32⟩
  | .hbm, ⟨14, _⟩ => ⟨S4096x1024, .bf16⟩
  | .hbm, ⟨15, _⟩ => ⟨S4096x1536, .bf16⟩
  | .hbm, ⟨16, _⟩ => ⟨S4096x2816, .f32⟩
  | .hbm, ⟨17, _⟩ => ⟨S4096x1024, .f32⟩
  | .hbm, ⟨18, _⟩ => ⟨S4096x1536, .f32⟩
  | .hbm, ⟨19, _⟩ => ⟨S4096x1024, .f32⟩
  | .hbm, ⟨20, _⟩ => ⟨S4096x1024, .f32⟩
  | .hbm, ⟨21, _⟩ => ⟨S4096x512, .f32⟩
  | .hbm, ⟨22, _⟩ => ⟨S512x1024, .f32⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S1024x1536, .f32⟩
  | .hbm, ⟨27, _⟩ => ⟨S4096x1024, .f32⟩
  | .hbm, ⟨28, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x1024, .bf16⟩
  | .local _ .vmem, ⟨15, _⟩ => ⟨S1024x1024, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .f32⟩
  | .local _ .vmem, ⟨19, _⟩ => ⟨S1024x512, .f32⟩
  | .local _ .vmem, ⟨20, _⟩ => ⟨S1024x1024, .bf16⟩
  | .local _ .vmem, ⟨21, _⟩ => ⟨S1024x1024, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .f32⟩
  | .local _ .vmem, ⟨25, _⟩ => ⟨S1024x512, .f32⟩
  | .local _ .vmem, ⟨26, _⟩ => ⟨S1024x512, .bf16⟩
  | .local _ .vmem, ⟨27, _⟩ => ⟨S1024x512, .bf16⟩
  | .local _ .vmem, ⟨28, _⟩ => ⟨S512x512, .bf16⟩
  | .local _ .vmem, ⟨29, _⟩ => ⟨S512x512, .bf16⟩
  | .local _ .vmem, ⟨30, _⟩ => ⟨S1024x512, .f32⟩
  | .local _ .vmem, ⟨31, _⟩ => ⟨S1024x512, .f32⟩
  | .local _ .vmem, ⟨32, _⟩ => ⟨S1024x512, .f32⟩
  | .local _ .vmem, ⟨33, _⟩ => ⟨S1024x512, .f32⟩
  | .local _ .vmem, ⟨34, _⟩ => ⟨S1024x1024, .f32⟩
  | .local _ .vmem, ⟨35, _⟩ => ⟨S1024x1024, .f32⟩
  | .local _ .vmem, ⟨36, _⟩ => ⟨S512x1024, .bf16⟩
  | .local _ .vmem, ⟨37, _⟩ => ⟨S1024x512, .f32⟩
  | .local _ .vmem, ⟨38, _⟩ => ⟨S1024x512, .f32⟩
  | .local _ .vmem, ⟨39, _⟩ => ⟨S4096x512, .bf16⟩
  | .local _ .vmem, ⟨40, _⟩ => ⟨S4096x512, .f32⟩
  | .local _ .vmem, ⟨41, _⟩ => ⟨S4096x512, .f32⟩
  | .local _ .vmem, ⟨42, _⟩ => ⟨S512x512, .f32⟩
  | .local _ .vmem, ⟨43, _⟩ => ⟨S512x512, .f32⟩
  | .local _ .vmem, ⟨44, _⟩ => ⟨S1024x1024, .bf16⟩
  | .local _ .vmem, ⟨45, _⟩ => ⟨S1024x1024, .bf16⟩
  | .local _ .vmem, ⟨46, _⟩ => ⟨S512x1024, .bf16⟩
  | .local _ .vmem, ⟨47, _⟩ => ⟨S512x1024, .bf16⟩
  | .local _ .vmem, ⟨48, _⟩ => ⟨S1024x512, .f32⟩
  | .local _ .vmem, ⟨49, _⟩ => ⟨S1024x512, .f32⟩
  | .local _ .vmem, ⟨50, _⟩ => ⟨S4096x512, .bf16⟩
  | .local _ .vmem, ⟨51, _⟩ => ⟨S4096x512, .bf16⟩
  | .local _ .vmem, ⟨52, _⟩ => ⟨S4096x512, .bf16⟩
  | .local _ .vmem, ⟨53, _⟩ => ⟨S4096x512, .bf16⟩
  | .local _ .vmem, ⟨54, _⟩ => ⟨S512x512, .f32⟩
  | .local _ .vmem, ⟨55, _⟩ => ⟨S512x512, .f32⟩
  | .local _ .vmem, ⟨56, _⟩ => ⟨S1024x1536, .bf16⟩
  | .local _ .vmem, ⟨57, _⟩ => ⟨S1024x1536, .bf16⟩
  | .local _ .vmem, ⟨58, _⟩ => ⟨S512x1536, .bf16⟩
  | .local _ .vmem, ⟨59, _⟩ => ⟨S512x1536, .bf16⟩
  | .local _ .vmem, ⟨60, _⟩ => ⟨S1024x512, .f32⟩
  | .local _ .vmem, ⟨61, _⟩ => ⟨S1024x512, .f32⟩
  | .local _ .vmem, ⟨62, _⟩ => ⟨S4096x512, .bf16⟩
  | .local _ .vmem, ⟨63, _⟩ => ⟨S4096x512, .bf16⟩
  | .local _ .vmem, ⟨64, _⟩ => ⟨S4096x512, .bf16⟩
  | .local _ .vmem, ⟨65, _⟩ => ⟨S4096x512, .bf16⟩
  | .local _ .vmem, ⟨66, _⟩ => ⟨S512x512, .f32⟩
  | .local _ .vmem, ⟨67, _⟩ => ⟨S512x512, .f32⟩
  | .local _ .vmem, ⟨68, _⟩ => ⟨S1024x2816, .bf16⟩
  | .local _ .vmem, ⟨69, _⟩ => ⟨S1024x2816, .bf16⟩
  | .local _ .vmem, ⟨70, _⟩ => ⟨S512x2816, .bf16⟩
  | .local _ .vmem, ⟨71, _⟩ => ⟨S512x2816, .bf16⟩
  | .local _ .vmem, ⟨72, _⟩ => ⟨S1024x512, .f32⟩
  | .local _ .vmem, ⟨73, _⟩ => ⟨S1024x512, .f32⟩
  | .local _ .vmem, ⟨74, _⟩ => ⟨S4096x512, .bf16⟩
  | .local _ .vmem, ⟨75, _⟩ => ⟨S4096x512, .bf16⟩
  | .local _ .vmem, ⟨76, _⟩ => ⟨S4096x1408, .bf16⟩
  | .local _ .vmem, ⟨77, _⟩ => ⟨S4096x1408, .bf16⟩
  | .local _ .vmem, ⟨78, _⟩ => ⟨S512x1408, .f32⟩
  | .local _ .vmem, ⟨79, _⟩ => ⟨S512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg2_1 : Ref sig .tc := ⟨.vmem, 38, rfl⟩
abbrev cc6_stg0_0 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg2_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg2_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg1_1 : Ref sig .tc := ⟨.vmem, 59, rfl⟩
abbrev cc9_stg2_0 : Ref sig .tc := ⟨.vmem, 60, rfl⟩
abbrev cc9_stg2_1 : Ref sig .tc := ⟨.vmem, 61, rfl⟩
abbrev cc10_stg0_0 : Ref sig .tc := ⟨.vmem, 62, rfl⟩
abbrev cc10_stg0_1 : Ref sig .tc := ⟨.vmem, 63, rfl⟩
abbrev cc10_stg1_0 : Ref sig .tc := ⟨.vmem, 64, rfl⟩
abbrev cc10_stg1_1 : Ref sig .tc := ⟨.vmem, 65, rfl⟩
abbrev cc10_stg2_0 : Ref sig .tc := ⟨.vmem, 66, rfl⟩
abbrev cc10_stg2_1 : Ref sig .tc := ⟨.vmem, 67, rfl⟩
abbrev cc11_stg0_0 : Ref sig .tc := ⟨.vmem, 68, rfl⟩
abbrev cc11_stg0_1 : Ref sig .tc := ⟨.vmem, 69, rfl⟩
abbrev cc11_stg1_0 : Ref sig .tc := ⟨.vmem, 70, rfl⟩
abbrev cc11_stg1_1 : Ref sig .tc := ⟨.vmem, 71, rfl⟩
abbrev cc11_stg2_0 : Ref sig .tc := ⟨.vmem, 72, rfl⟩
abbrev cc11_stg2_1 : Ref sig .tc := ⟨.vmem, 73, rfl⟩
abbrev cc12_stg0_0 : Ref sig .tc := ⟨.vmem, 74, rfl⟩
abbrev cc12_stg0_1 : Ref sig .tc := ⟨.vmem, 75, rfl⟩
abbrev cc12_stg1_0 : Ref sig .tc := ⟨.vmem, 76, rfl⟩
abbrev cc12_stg1_1 : Ref sig .tc := ⟨.vmem, 77, rfl⟩
abbrev cc12_stg2_0 : Ref sig .tc := ⟨.vmem, 78, rfl⟩
abbrev cc12_stg2_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38
abbrev cc6_sem0_0 : DmaSem sig := 39
abbrev cc6_sem1_0 : DmaSem sig := 40
abbrev cc6_sem1_1 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc8_sem0_0 : DmaSem sig := 50
abbrev cc8_sem0_1 : DmaSem sig := 51
abbrev cc8_sem1_0 : DmaSem sig := 52
abbrev cc8_sem1_1 : DmaSem sig := 53
abbrev cc8_sem2_0 : DmaSem sig := 54
abbrev cc8_sem2_1 : DmaSem sig := 55
abbrev cc9_sem0_0 : DmaSem sig := 56
abbrev cc9_sem0_1 : DmaSem sig := 57
abbrev cc9_sem1_0 : DmaSem sig := 58
abbrev cc9_sem1_1 : DmaSem sig := 59
abbrev cc9_sem2_0 : DmaSem sig := 60
abbrev cc9_sem2_1 : DmaSem sig := 61
abbrev cc10_sem0_0 : DmaSem sig := 62
abbrev cc10_sem0_1 : DmaSem sig := 63
abbrev cc10_sem1_0 : DmaSem sig := 64
abbrev cc10_sem1_1 : DmaSem sig := 65
abbrev cc10_sem2_0 : DmaSem sig := 66
abbrev cc10_sem2_1 : DmaSem sig := 67
abbrev cc11_sem0_0 : DmaSem sig := 68
abbrev cc11_sem0_1 : DmaSem sig := 69
abbrev cc11_sem1_0 : DmaSem sig := 70
abbrev cc11_sem1_1 : DmaSem sig := 71
abbrev cc11_sem2_0 : DmaSem sig := 72
abbrev cc11_sem2_1 : DmaSem sig := 73
abbrev cc12_sem0_0 : DmaSem sig := 74
abbrev cc12_sem0_1 : DmaSem sig := 75
abbrev cc12_sem1_0 : DmaSem sig := 76
abbrev cc12_sem1_1 : DmaSem sig := 77
abbrev cc12_sem2_0 : DmaSem sig := 78
abbrev cc12_sem2_1 : DmaSem sig := 79

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 3], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S512x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1024x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![1, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 1 → Memref sig .tc .vmem S512x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S4096x512 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 2 → Memref sig .tc .vmem S4096x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S512x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![4, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S512x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![2, 2], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S4096x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S4096x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S512x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![4, 2], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S1024x1536 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S512x1536 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S1024x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨2, ![2, 3], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S4096x512 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S4096x512 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S512x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev grid11 : Pipeline.Grid := ⟨2, ![4, 2], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage11_0 : Fin 2 → Memref sig .tc .vmem S1024x2816 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false]

abbrev stage11_1 : Fin 2 → Memref sig .tc .vmem S512x2816 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S1024x512 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]

abbrev grid12 : Pipeline.Grid := ⟨2, ![2, 2], ![false, false]⟩

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage12_0 : Fin 2 → Memref sig .tc .vmem S4096x512 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![false, true]

abbrev stage12_1 : Fin 2 → Memref sig .tc .vmem S4096x1408 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true, false]

abbrev stage12_2 : Fin 2 → Memref sig .tc .vmem S512x1408 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true]
-- ==== Reference4Ideal.lean ====
abbrev S4096x1024 : Shape := ⟨2, ![4096, 1024]⟩
abbrev S1024x2816 : Shape := ⟨2, ![1024, 2816]⟩
abbrev S1024x1024 : Shape := ⟨2, ![1024, 1024]⟩
abbrev S4096x2816 : Shape := ⟨2, ![4096, 2816]⟩
abbrev S1024x1536 : Shape := ⟨2, ![1024, 1536]⟩
abbrev S4096x512 : Shape := ⟨2, ![4096, 512]⟩
abbrev S512x1024 : Shape := ⟨2, ![512, 1024]⟩
abbrev S4096x1536 : Shape := ⟨2, ![4096, 1536]⟩
abbrev S1024x512 : Shape := ⟨2, ![1024, 512]⟩
abbrev S1536x1024 : Shape := ⟨2, ![1536, 1024]⟩
abbrev S2816x1024 : Shape := ⟨2, ![2816, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S4096x1024, .bf16⟩
  | .hbm, ⟨3, _⟩ => ⟨S1024x1024, .bf16⟩
  | .hbm, ⟨4, _⟩ => ⟨S4096x1024, .f32⟩
  | .hbm, ⟨5, _⟩ => ⟨S4096x2816, .bf16⟩
  | .hbm, ⟨6, _⟩ => ⟨S4096x1024, .bf16⟩
  | .hbm, ⟨7, _⟩ => ⟨S1024x1536, .bf16⟩
  | .hbm, ⟨8, _⟩ => ⟨S4096x1024, .bf16⟩
  | .hbm, ⟨9, _⟩ => ⟨S1024x1024, .bf16⟩
  | .hbm, ⟨10, _⟩ => ⟨S4096x512, .bf16⟩
  | .hbm, ⟨11, _⟩ => ⟨S512x1024, .bf16⟩
  | .hbm, ⟨12, _⟩ => ⟨S4096x1024, .f32⟩
  | .hbm, ⟨13, _⟩ => ⟨S4096x1024, .f32⟩
  | .hbm, ⟨14, _⟩ => ⟨S4096x1024, .bf16⟩
  | .hbm, ⟨15, _⟩ => ⟨S4096x1536, .bf16⟩
  | .hbm, ⟨16, _⟩ => ⟨S4096x1024, .f32⟩
  | .hbm, ⟨17, _⟩ => ⟨S1024x2816, .f32⟩
  | .hbm, ⟨18, _⟩ => ⟨S4096x2816, .f32⟩
  | .hbm, ⟨19, _⟩ => ⟨S4096x1024, .f32⟩
  | .hbm, ⟨20, _⟩ => ⟨S1024x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x1536, .f32⟩
  | .hbm, ⟨25, _⟩ => ⟨S4096x1536, .f32⟩
  | .hbm, ⟨26, _⟩ => ⟨S4096x1024, .f32⟩
  | .hbm, ⟨27, _⟩ => ⟨S1024x1024, .f32⟩
  | .hbm, ⟨28, _⟩ => ⟨S4096x1024, .f32⟩
  | .hbm, ⟨29, _⟩ => ⟨S4096x512, .f32⟩
  | .hbm, ⟨30, _⟩ => ⟨S512x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1024x512, .f32⟩
  | .hbm, ⟨35, _⟩ => ⟨S512x1024, .f32⟩
  | .hbm, ⟨36, _⟩ => ⟨S4096x512, .f32⟩
  | .hbm, ⟨37, _⟩ => ⟨S4096x1024, .f32⟩
  | .hbm, ⟨38, _⟩ => ⟨S1024x1024, .f32⟩
  | .hbm, ⟨39, _⟩ => ⟨S1024x1024, .f32⟩
  | .hbm, ⟨40, _⟩ => ⟨S4096x1024, .f32⟩
  | .hbm, ⟨41, _⟩ => ⟨S4096x1536, .f32⟩
  | .hbm, ⟨42, _⟩ => ⟨S1536x1024, .f32⟩
  | .hbm, ⟨43, _⟩ => ⟨S1024x1536, .f32⟩
  | .hbm, ⟨44, _⟩ => ⟨S4096x1024, .f32⟩
  | .hbm, ⟨45, _⟩ => ⟨S4096x2816, .f32⟩
  | .hbm, ⟨46, _⟩ => ⟨S2816x1024, .f32⟩
  | .hbm, ⟨47, _⟩ => ⟨S1024x2816, .f32⟩
  | .hbm, ⟨48, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x1024 : Shape := ⟨2, ![4096, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S4096x512 : Shape := ⟨2, ![4096, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .hbm, ⟨4, _⟩ => ⟨S1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | .local _ .vmem, ⟨5, _⟩ => ⟨S512x512, .f32⟩
  | .local _ .vmem, ⟨6, _⟩ => ⟨S4096x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference7Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Run.lean ====
/- The run of the two kernels: every execution ends with the buffers of the last boundary. -/
module

public import proofs.«01_k».proof.Proof.Gen.KernelIdeal.Frame

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the two kernels ends with every buffer at the last boundary's contents and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end Cert.Attn

end
-- ==== Proof.Ops.lean ====
/- The kernels' vector operations read at an index, for vectors whose entries are real numbers: one lemma per operation,
   in the extended reals. -/
module

public import proofs.«01_k».proof.Proof.Gen.KernelIdeal.Skeleton
public import Idealize.ShloMosaic.PureOps.Ideal
public import Idealize.ShloMosaic.Lib.Pointwise

@[expose] public section

set_option maxRecDepth 16384

noncomputable section

namespace Cert.Attn

open Idealize.ShloMosaic Cert.KernelIdeal
open Cert.KernelIdeal.Facts₀ Cert.KernelIdeal.Facts

/-- A sum of real numbers taken in the extended reals is the real sum. -/
theorem coe_sum {ι : Type*} (s : Finset ι) (f : ι → ℝ) : (∑ k ∈ s, ((f k : ℝ) : EReal)) = ((∑ k ∈ s, f k : ℝ) : EReal) := by
  induction s using Finset.cons_induction with
  | empty => simp
  | cons a s h ih => rw [Finset.sum_cons, Finset.sum_cons, ih, EReal.coe_add]

/-- The value the masked entries carry. -/
theorem named_mask : (Named.named κ "mask" 0xF149F2CA#32 : Ideal .f32) = ⊥ := rfl

/-- The constants of the two kernels: an eighth, a sixty-fourth, and minus infinity. -/
theorem ofBits_eighth : Ideal.ofBits .f32 0x3E000000#32 = ((1 / 8 : ℝ) : EReal) := by
  simp [Ideal.ofBits, Ideal.ieee]; rw [← EReal.coe_mul]; norm_num

theorem ofBits_sixtyfourth : Ideal.ofBits .f32 0x3C800000#32 = ((1 / 64 : ℝ) : EReal) := by
  simp [Ideal.ofBits, Ideal.ieee]; rw [← EReal.coe_mul]; norm_num

theorem ofBits_neg_inf : Ideal.ofBits .f32 0xFF800000#32 = ⊥ := by
  simp [Ideal.ofBits, Ideal.ieee]

/-- One head's lanes (one row of the mask array), on every row. -/
def lanes (m : Vec Ideal S1x1x256 .f32) : FVec Ideal S128x256 .f32 :=
  broadcastTo S128x256 (shapeCast S1x256 m shapeCasts_S1x1x256_S1x256) broadcasts_S1x256_S128x256

/-- A column on every column of a square. -/
def wide (x : FVec Ideal S128x1 .f32) : FVec Ideal S128x128 .f32 := broadcastTo S128x128 x broadcasts_S128x1_S128x128

/-- A column on every lane. -/
def wideL (x : FVec Ideal S128x1 .f32) : FVec Ideal S128x256 .f32 := broadcastTo S128x256 x broadcasts_S128x1_S128x256

/-- Rows against rows: the product of `x` with the transpose of `y`. -/
def mmNT (x y : FVec Ideal S128x256 .f32) : FVec Ideal S128x128 .f32 :=
  matmul dot_S128x256_S128x256_S128x128_1_1_0_0_n_n none (truncf .bf16 x bitsLt_bf16_f32) (truncf .bf16 y bitsLt_bf16_f32)
    (constant S128x128 .f32 0x00000000#32)

/-- The product of a square with `y`. -/
def mmNN (x : FVec Ideal S128x128 .f32) (y : FVec Ideal S128x256 .f32) : FVec Ideal S128x256 .f32 :=
  matmul dot_S128x128_S128x256_S128x256_1_0_0_1_n_n none (truncf .bf16 x bitsLt_bf16_f32) (truncf .bf16 y bitsLt_bf16_f32)
    (constant S128x256 .f32 0x00000000#32)

/-- The product of a square's transpose with `y`. -/
def mmTN (x : FVec Ideal S128x128 .f32) (y : FVec Ideal S128x256 .f32) : FVec Ideal S128x256 .f32 :=
  matmul dot_S128x128_S128x256_S128x256_0_0_1_1_n_n none (truncf .bf16 x bitsLt_bf16_f32) (truncf .bf16 y bitsLt_bf16_f32)
    (constant S128x256 .f32 0x00000000#32)

/-- A row's sum over a square's columns. -/
def sumS (x : FVec Ideal S128x128 .f32) : FVec Ideal S128x1 .f32 :=
  shapeCast S128x1 (multiReduction .add [1] S128 x 0x00000000#32 reduces_S128x128_S128 (.inl rfl) rfl) shapeCasts_S128_S128x1

/-- A row's sum over the lanes. -/
def sumL (x : FVec Ideal S128x256 .f32) : FVec Ideal S128x1 .f32 :=
  shapeCast S128x1 (multiReduction .add [1] S128 x 0x00000000#32 reduces_S128x256_S128 (.inl rfl) rfl) shapeCasts_S128_S128x1

/-- A row's maximum over a square's columns. -/
def maxS (x : FVec Ideal S128x128 .f32) : FVec Ideal S128x1 .f32 :=
  shapeCast S128x1 (multiReduction .maximumf [1] S128 x 0xFF800000#32 reduces_S128x128_S128 (.inl rfl) rfl) shapeCasts_S128_S128x1

theorem lanes_apply (m : Vec Ideal S1x1x256 .f32) (i : Fin 128) (c : Fin 256) : lanes m (ix2 i c) = m (ix3 0 0 c) := by
  pointwise [lanes]

theorem wide_apply (x : FVec Ideal S128x1 .f32) (i j : Fin 128) : wide x (ix2 i j) = x (ix2 i 0) := by
  pointwise [wide]

theorem wideL_apply (x : FVec Ideal S128x1 .f32) (i : Fin 128) (c : Fin 256) : wideL x (ix2 i c) = x (ix2 i 0) := by
  pointwise [wideL]

theorem mmNT_apply (x y : FVec Ideal S128x256 .f32) (i j : Fin 128) :
    mmNT x y (ix2 i j) = ∑ c : Fin 256, x (ix2 i c) * y (ix2 j c) := by
  pointwise [mmNT]

theorem mmNN_apply (x : FVec Ideal S128x128 .f32) (y : FVec Ideal S128x256 .f32) (i : Fin 128) (c : Fin 256) :
    mmNN x y (ix2 i c) = ∑ j : Fin 128, x (ix2 i j) * y (ix2 j c) := by
  pointwise [mmNN]

theorem mmTN_apply (x : FVec Ideal S128x128 .f32) (y : FVec Ideal S128x256 .f32) (j : Fin 128) (c : Fin 256) :
    mmTN x y (ix2 j c) = ∑ i : Fin 128, x (ix2 i j) * y (ix2 i c) := by
  pointwise [mmTN]

theorem sumS_apply (x : FVec Ideal S128x128 .f32) (i : Fin 128) : sumS x (ix2 i 0) = ∑ j : Fin 128, x (ix2 i j) := by
  pointwise [sumS]

theorem sumL_apply (x : FVec Ideal S128x256 .f32) (i : Fin 128) : sumL x (ix2 i 0) = ∑ c : Fin 256, x (ix2 i c) := by
  pointwise [sumL]

theorem maxS_apply (x : FVec Ideal S128x128 .f32) (i : Fin 128) :
    maxS x (ix2 i 0) = Finset.univ.fold max ⊥ fun j : Fin 128 => x (ix2 i j) := by
  pointwise [maxS]
  rw [ofBits_neg_inf]

end Cert.Attn

end
-- ==== Proof.BlockFwd.lean ====
/- One head of the forward kernel on one block of 128 rows, over real-valued blocks: the masked scores, the exponentials
   below the row's maximum, their sum, and what the head adds to the attention and to the log-sum-exp. -/
module

public import proofs.«01_k».proof.Proof.Ops

@[expose] public section

set_option maxRecDepth 16384

noncomputable section

namespace Cert.Attn

open Idealize.ShloMosaic Cert.KernelIdeal
open Cert.KernelIdeal.Facts₀ Cert.KernelIdeal.Facts

/-- The scores of one head, masked: minus infinity outside the band `ok`. -/
def score (x : FVec Ideal S128x256 .f32) (m : Vec Ideal S1x1x256 .f32) (k : FVec Ideal S128x256 .f32) (ok : IVec S128x128 1) :
    FVec Ideal S128x128 .f32 :=
  select ok (mulf (mmNT (mulf x (lanes m)) k) (broadcast S128x128 (Scalar.ofBits .f32 0x3E000000#32)))
    (broadcast S128x128 (Named.named κ "mask" 0xF149F2CA#32))

/-- The row maximum over the current and the previous block's scores. -/
def rowMax (s s' : FVec Ideal S128x128 .f32) : FVec Ideal S128x1 .f32 := maximumf (maxS s) (maxS s')

/-- The exponentials of the scores below a column. -/
def expBelow (s : FVec Ideal S128x128 .f32) (mx : FVec Ideal S128x1 .f32) : FVec Ideal S128x128 .f32 := exp (subf s (wide mx))

/-- The softmax denominator. -/
def denom (s s' : FVec Ideal S128x128 .f32) : FVec Ideal S128x1 .f32 :=
  addf (sumS (expBelow s (rowMax s s'))) (sumS (expBelow s' (rowMax s s')))

/-- What one head adds to the attention: the exponentials times the head's values over the denominator. -/
def headO (s s' : FVec Ideal S128x128 .f32) (m : Vec Ideal S1x1x256 .f32) (v v' acc : FVec Ideal S128x256 .f32) :
    FVec Ideal S128x256 .f32 :=
  addf acc (divf (addf (mmNN (expBelow s (rowMax s s')) (mulf v (lanes m))) (mmNN (expBelow s' (rowMax s s')) (mulf v' (lanes m))))
    (wideL (denom s s')))

/-- What one head adds to the log-sum-exp. -/
def headL (s s' : FVec Ideal S128x128 .f32) (m : Vec Ideal S1x1x256 .f32) (acc : FVec Ideal S128x256 .f32) :
    FVec Ideal S128x256 .f32 :=
  addf acc (mulf (wideL (addf (rowMax s s') (log (denom s s')))) (lanes m))

/-! ## Over the reals -/

/-- The score of row `i` of `x` against row `j` of `k`, over the lanes `l` selects, times an eighth. -/
def sc (l : Fin 256 → ℝ) (x k : Fin 128 → Fin 256 → ℝ) (i j : Fin 128) : ℝ := (∑ c, x i c * l c * k j c) * (1 / 8)

/-- The weight of a pair: the exponential of its score `a` in the band `p`, zero outside. -/
def wt (p : Fin 128 → Fin 128 → Bool) (a : Fin 128 → Fin 128 → ℝ) (i j : Fin 128) : ℝ := if p i j then Real.exp (a i j) else 0

theorem wt_nonneg (p : Fin 128 → Fin 128 → Bool) (a : Fin 128 → Fin 128 → ℝ) (i j : Fin 128) : 0 ≤ wt p a i j := by
  unfold wt; split
  · exact (Real.exp_pos _).le
  · exact le_rfl

/-- A row's weights over the current and the previous block. -/
def zz (p p' : Fin 128 → Fin 128 → Bool) (a a' : Fin 128 → Fin 128 → ℝ) (i : Fin 128) : ℝ := ∑ j, wt p a i j + ∑ j, wt p' a' i j

theorem zz_pos (p p' : Fin 128 → Fin 128 → Bool) (a a' : Fin 128 → Fin 128 → ℝ) (i : Fin 128) (h : ∃ j, p i j = true) :
    0 < zz p p' a a' i := by
  obtain ⟨j, hj⟩ := h
  refine add_pos_of_pos_of_nonneg (Finset.sum_pos' (fun j _ => wt_nonneg _ _ _ _) ⟨j, Finset.mem_univ _, ?_⟩)
    (Finset.sum_nonneg fun j _ => wt_nonneg _ _ _ _)
  unfold wt; rw [if_pos hj]; exact Real.exp_pos _

/-- The vector `s` holds the scores `a` in the band `p`, and minus infinity outside. -/
def Masked (s : FVec Ideal S128x128 .f32) (p : Fin 128 → Fin 128 → Bool) (a : Fin 128 → Fin 128 → ℝ) : Prop :=
  ∀ i j, s (ix2 i j) = if p i j then ((a i j : ℝ) : EReal) else ⊥

theorem score_masked {x k : FVec Ideal S128x256 .f32} {m : Vec Ideal S1x1x256 .f32} {ok : IVec S128x128 1}
    {xr kr : Fin 128 → Fin 256 → ℝ} {l : Fin 256 → ℝ} {p : Fin 128 → Fin 128 → Bool}
    (hx : ∀ i c, x (ix2 i c) = (xr i c : EReal)) (hk : ∀ i c, k (ix2 i c) = (kr i c : EReal))
    (hm : ∀ c, m (ix3 0 0 c) = (l c : EReal)) (hp : ∀ i j, ok (ix2 i j) = if p i j then 1#1 else 0#1) :
    Masked (score x m k ok) p (sc l xr kr) := by
  intro i j
  pointwise [score]
  rw [mmNT_apply, hp, named_mask, ofBits_eighth]
  simp only [Ideal.mulf_def, lanes_apply, hx, hk, hm, ← EReal.coe_mul, coe_sum, pointwise]
  cases p i j <;> simp [sc, Scalar.select]

/-- The maximum over two rows of scores, one of them in its band, is a real number. -/
theorem rowMax_real {s s' : FVec Ideal S128x128 .f32} {p p' : Fin 128 → Fin 128 → Bool} {a a' : Fin 128 → Fin 128 → ℝ}
    (hs : Masked s p a) (hs' : Masked s' p' a') (i : Fin 128) (h : ∃ j, p i j = true) :
    ∃ M : ℝ, rowMax s s' (ix2 i 0) = (M : EReal) := by
  obtain ⟨j, hj⟩ := h
  have lt : ∀ (q : Fin 128 → Fin 128 → Bool) (b : Fin 128 → Fin 128 → ℝ),
      (Finset.univ.sup fun j : Fin 128 => if q i j then ((b i j : ℝ) : EReal) else ⊥) < ⊤ := by
    intro q b
    rw [Finset.sup_lt_iff (by exact bot_lt_top)]
    intro j _
    split
    · exact EReal.coe_lt_top _
    · exact bot_lt_top
  have e : rowMax s s' (ix2 i 0) = max (Finset.univ.sup fun j : Fin 128 => if p i j then ((a i j : ℝ) : EReal) else ⊥)
      (Finset.univ.sup fun j : Fin 128 => if p' i j then ((a' i j : ℝ) : EReal) else ⊥) := by
    pointwise [rowMax]
    rw [maxS_apply, maxS_apply]
    simp only [hs i, hs' i]
    rfl
  rw [e]
  have h1 := max_lt (lt p a) (lt p' a')
  have h2 : ((a i j : ℝ) : EReal) ≤ Finset.univ.sup fun j : Fin 128 => if p i j then ((a i j : ℝ) : EReal) else ⊥ := by
    have := Finset.le_sup (f := fun j : Fin 128 => if p i j then ((a i j : ℝ) : EReal) else ⊥) (Finset.mem_univ j)
    simpa [hj] using this
  have h3 := lt_of_lt_of_le (EReal.bot_lt_coe _) (h2.trans (le_max_left _ (Finset.univ.sup fun j : Fin 128 => if p' i j then ((a' i j : ℝ) : EReal) else ⊥)))
  exact ⟨_, (EReal.coe_toReal h1.ne h3.ne').symm⟩

theorem expBelow_apply {s : FVec Ideal S128x128 .f32} {p : Fin 128 → Fin 128 → Bool} {a : Fin 128 → Fin 128 → ℝ}
    (hs : Masked s p a) {mx : FVec Ideal S128x1 .f32} {M : ℝ} {i : Fin 128} (hM : mx (ix2 i 0) = (M : EReal)) (j : Fin 128) :
    expBelow s mx (ix2 i j) = ((wt p a i j * Real.exp (-M) : ℝ) : EReal) := by
  pointwise [expBelow]
  rw [wide_apply, hs, hM]
  cases h : p i j
  · simp [wt, h, Ideal.exp_bot]
  · simp only [wt, h, if_true]
    rw [← EReal.coe_sub, Ideal.exp_coe, ← Real.exp_add, sub_eq_add_neg]

theorem denom_apply {s s' : FVec Ideal S128x128 .f32} {p p' : Fin 128 → Fin 128 → Bool} {a a' : Fin 128 → Fin 128 → ℝ}
    (hs : Masked s p a) (hs' : Masked s' p' a') {i : Fin 128} {M : ℝ} (hM : rowMax s s' (ix2 i 0) = (M : EReal)) :
    denom s s' (ix2 i 0) = ((zz p p' a a' i * Real.exp (-M) : ℝ) : EReal) := by
  pointwise [denom]
  rw [sumS_apply, sumS_apply]
  simp only [expBelow_apply hs hM, expBelow_apply hs' hM, coe_sum, ← EReal.coe_add, zz, add_mul, Finset.sum_mul]

/-- One head's part of the attention, over the reals: the weighted mean of the values, on the head's lanes. -/
theorem headO_apply {s s' : FVec Ideal S128x128 .f32} {p p' : Fin 128 → Fin 128 → Bool} {a a' : Fin 128 → Fin 128 → ℝ}
    (hs : Masked s p a) (hs' : Masked s' p' a') {m : Vec Ideal S1x1x256 .f32} {l : Fin 256 → ℝ}
    (hm : ∀ c, m (ix3 0 0 c) = (l c : EReal)) {v v' acc : FVec Ideal S128x256 .f32} {vr vr' : Fin 128 → Fin 256 → ℝ}
    (hv : ∀ i c, v (ix2 i c) = (vr i c : EReal)) (hv' : ∀ i c, v' (ix2 i c) = (vr' i c : EReal))
    (i : Fin 128) (h : ∃ j, p i j = true) (c : Fin 256) :
    headO s s' m v v' acc (ix2 i c) = acc (ix2 i c) +
      (((∑ j, wt p a i j * (vr j c * l c) + ∑ j, wt p' a' i j * (vr' j c * l c)) / zz p p' a a' i : ℝ) : EReal) := by
  obtain ⟨M, hM⟩ := rowMax_real hs hs' i h
  have hz := zz_pos p p' a a' i h
  have he := Real.exp_pos (-M)
  pointwise [headO]
  rw [mmNN_apply, mmNN_apply, wideL_apply, denom_apply hs hs' hM]
  simp only [expBelow_apply hs hM, expBelow_apply hs' hM, Ideal.mulf_def, lanes_apply, hv, hv', hm, pointwise, ← EReal.coe_mul, coe_sum,
    ← EReal.coe_add]
  rw [Ideal.div_coe (mul_pos hz he).ne', ← EReal.coe_mul]
  refine congrArg (fun r : ℝ => acc (ix2 i c) + (r : EReal)) ?_
  have : ∀ (q : Fin 128 → Fin 128 → Bool) (b : Fin 128 → Fin 128 → ℝ) (u : Fin 128 → Fin 256 → ℝ),
      ∑ j, wt q b i j * Real.exp (-M) * (u j c * l c) = Real.exp (-M) * ∑ j, wt q b i j * (u j c * l c) := by
    intro q b u; rw [Finset.mul_sum]; exact Finset.sum_congr rfl fun j _ => by ring
  rw [this, this, mul_one_div, ← mul_add, mul_comm (Real.exp (-M)), mul_div_mul_right _ _ he.ne']

/-- One head's part of the log-sum-exp, over the reals, on the head's lanes. -/
theorem headL_apply {s s' : FVec Ideal S128x128 .f32} {p p' : Fin 128 → Fin 128 → Bool} {a a' : Fin 128 → Fin 128 → ℝ}
    (hs : Masked s p a) (hs' : Masked s' p' a') {m : Vec Ideal S1x1x256 .f32} {l : Fin 256 → ℝ}
    (hm : ∀ c, m (ix3 0 0 c) = (l c : EReal)) {acc : FVec Ideal S128x256 .f32}
    (i : Fin 128) (h : ∃ j, p i j = true) (c : Fin 256) :
    headL s s' m acc (ix2 i c) = acc (ix2 i c) + ((Real.log (zz p p' a a' i) * l c : ℝ) : EReal) := by
  obtain ⟨M, hM⟩ := rowMax_real hs hs' i h
  have hz := zz_pos p p' a a' i h
  have he := Real.exp_pos (-M)
  pointwise [headL]
  rw [wideL_apply, lanes_apply, hm]
  pointwise
  rw [hM, denom_apply hs hs' hM, Ideal.log_coe, if_neg (mul_pos hz he).not_ge, ← EReal.coe_add, ← EReal.coe_mul]
  refine congrArg (fun r : ℝ => acc (ix2 i c) + ((r * l c : ℝ) : EReal)) ?_
  rw [Real.log_mul hz.ne' he.ne', Real.log_exp]
  ring

end Cert.Attn

end
-- ==== Proof.BlockBwd.lean ====
/- One head of the backward kernel on one block of 128 rows, over real-valued blocks: the probabilities recomputed from the
   log-sum-exp, the gradient of the scores, and the products that make up the three gradients. -/
module

public import proofs.«01_k».proof.Proof.BlockFwd

@[expose] public section

set_option maxRecDepth 16384

noncomputable section

namespace Cert.Attn

open Idealize.ShloMosaic Cert.KernelIdeal
open Cert.KernelIdeal.Facts₀ Cert.KernelIdeal.Facts

/-- One head's log-sum-exp of each row: the mean over the head's lanes of the array. -/
def lseCol (y : FVec Ideal S128x256 .f32) (m : Vec Ideal S1x1x256 .f32) : FVec Ideal S128x1 .f32 :=
  mulf (sumL (mulf y (lanes m))) (broadcast S128x1 (Scalar.ofBits .f32 0x3C800000#32))

/-- One head's probabilities: the exponentials of the scores below the log-sum-exp, zero outside the band. -/
def prob (ok : IVec S128x128 1) (s : FVec Ideal S128x128 .f32) (y : FVec Ideal S128x1 .f32) : FVec Ideal S128x128 .f32 :=
  select ok (exp (subf s (wide y))) (broadcast S128x128 (Scalar.ofBits .f32 0x00000000#32))

/-- What every score of a row has in common in its gradient: the log-sum-exp's cotangent less the attention's along itself. -/
def delta (d g o : FVec Ideal S128x256 .f32) (m : Vec Ideal S1x1x256 .f32) : FVec Ideal S128x1 .f32 :=
  subf (sumL (mulf d (lanes m))) (sumL (mulf (mulf g o) (lanes m)))

/-- The gradient of the scores before their scaling. -/
def dscore (w : FVec Ideal S128x128 .f32) (g v : FVec Ideal S128x256 .f32) (m : Vec Ideal S1x1x256 .f32) (y : FVec Ideal S128x1 .f32) :
    FVec Ideal S128x128 .f32 :=
  mulf (mulf w (addf (mmNT (mulf g (lanes m)) (mulf v (lanes m))) (wide y))) (broadcast S128x128 (Scalar.ofBits .f32 0x3E000000#32))

/-- A product with a head's lanes of `x`, added to what the earlier heads left. -/
def accNN (acc : FVec Ideal S128x256 .f32) (w : FVec Ideal S128x128 .f32) (x : FVec Ideal S128x256 .f32) (m : Vec Ideal S1x1x256 .f32) :
    FVec Ideal S128x256 .f32 := addf acc (mmNN w (mulf x (lanes m)))

/-- The same with the square transposed. -/
def accTN (acc : FVec Ideal S128x256 .f32) (w : FVec Ideal S128x128 .f32) (x : FVec Ideal S128x256 .f32) (m : Vec Ideal S1x1x256 .f32) :
    FVec Ideal S128x256 .f32 := addf acc (mmTN w (mulf x (lanes m)))

/-! ## Over the reals -/

theorem lseCol_apply {y : FVec Ideal S128x256 .f32} {m : Vec Ideal S1x1x256 .f32} {l : Fin 256 → ℝ} {yr : Fin 128 → Fin 256 → ℝ}
    (hm : ∀ c, m (ix3 0 0 c) = (l c : EReal)) (hy : ∀ i c, y (ix2 i c) = (yr i c : EReal)) (i : Fin 128) :
    lseCol y m (ix2 i 0) = (((∑ c, yr i c * l c) * (1 / 64) : ℝ) : EReal) := by
  pointwise [lseCol]
  rw [sumL_apply, ofBits_sixtyfourth]
  simp only [Ideal.mulf_def, lanes_apply, hy, hm, pointwise, ← EReal.coe_mul, coe_sum]

theorem prob_apply {ok : IVec S128x128 1} {p : Fin 128 → Fin 128 → Bool} {s : FVec Ideal S128x128 .f32} {a : Fin 128 → Fin 128 → ℝ}
    {y : FVec Ideal S128x1 .f32} {yr : Fin 128 → ℝ} (hp : ∀ i j, ok (ix2 i j) = if p i j then 1#1 else 0#1)
    (hs : Masked s p a) (hy : ∀ i, y (ix2 i 0) = (yr i : EReal)) (i j : Fin 128) :
    prob ok s y (ix2 i j) = ((wt p a i j * Real.exp (-yr i) : ℝ) : EReal) := by
  pointwise [prob]
  rw [wide_apply, hp, hs, hy]
  cases h : p i j
  · simp [wt, h, Scalar.select]
  · simp only [wt, h, if_true, Scalar.select]
    rw [← EReal.coe_sub, Ideal.exp_coe, ← Real.exp_add, sub_eq_add_neg]
    rfl

theorem delta_apply {d g o : FVec Ideal S128x256 .f32} {m : Vec Ideal S1x1x256 .f32} {l : Fin 256 → ℝ}
    {dr gr or : Fin 128 → Fin 256 → ℝ} (hm : ∀ c, m (ix3 0 0 c) = (l c : EReal)) (hd : ∀ i c, d (ix2 i c) = (dr i c : EReal))
    (hg : ∀ i c, g (ix2 i c) = (gr i c : EReal)) (ho : ∀ i c, o (ix2 i c) = (or i c : EReal)) (i : Fin 128) :
    delta d g o m (ix2 i 0) = ((∑ c, dr i c * l c - ∑ c, gr i c * or i c * l c : ℝ) : EReal) := by
  pointwise [delta]
  rw [sumL_apply, sumL_apply]
  simp only [Ideal.mulf_def, lanes_apply, hd, hg, ho, hm, pointwise, ← EReal.coe_mul, coe_sum, ← EReal.coe_sub]

theorem dscore_apply {w : FVec Ideal S128x128 .f32} {g v : FVec Ideal S128x256 .f32} {m : Vec Ideal S1x1x256 .f32}
    {y : FVec Ideal S128x1 .f32} {l : Fin 256 → ℝ} {wr : Fin 128 → Fin 128 → ℝ} {gr vr : Fin 128 → Fin 256 → ℝ} {yr : Fin 128 → ℝ}
    (hm : ∀ c, m (ix3 0 0 c) = (l c : EReal)) (hw : ∀ i j, w (ix2 i j) = (wr i j : EReal))
    (hg : ∀ i c, g (ix2 i c) = (gr i c : EReal)) (hv : ∀ i c, v (ix2 i c) = (vr i c : EReal))
    (hy : ∀ i, y (ix2 i 0) = (yr i : EReal)) (i j : Fin 128) :
    dscore w g v m y (ix2 i j) = ((wr i j * (∑ c, gr i c * l c * (vr j c * l c) + yr i) * (1 / 8) : ℝ) : EReal) := by
  pointwise [dscore]
  rw [mmNT_apply, wide_apply, ofBits_eighth, hw, hy]
  simp only [Ideal.mulf_def, lanes_apply, hg, hv, hm, pointwise, ← EReal.coe_mul, coe_sum, ← EReal.coe_add]

theorem accNN_apply {w : FVec Ideal S128x128 .f32} {x : FVec Ideal S128x256 .f32} {m : Vec Ideal S1x1x256 .f32}
    {l : Fin 256 → ℝ} {wr : Fin 128 → Fin 128 → ℝ} {xr : Fin 128 → Fin 256 → ℝ} (acc : FVec Ideal S128x256 .f32)
    (hm : ∀ c, m (ix3 0 0 c) = (l c : EReal)) (hw : ∀ i j, w (ix2 i j) = (wr i j : EReal))
    (hx : ∀ i c, x (ix2 i c) = (xr i c : EReal)) (i : Fin 128) (c : Fin 256) :
    accNN acc w x m (ix2 i c) = acc (ix2 i c) + ((∑ j, wr i j * (xr j c * l c) : ℝ) : EReal) := by
  pointwise [accNN]
  rw [mmNN_apply]
  simp only [Ideal.mulf_def, lanes_apply, hw, hx, hm, pointwise, ← EReal.coe_mul, coe_sum]

theorem accTN_apply {w : FVec Ideal S128x128 .f32} {x : FVec Ideal S128x256 .f32} {m : Vec Ideal S1x1x256 .f32}
    {l : Fin 256 → ℝ} {wr : Fin 128 → Fin 128 → ℝ} {xr : Fin 128 → Fin 256 → ℝ} (acc : FVec Ideal S128x256 .f32)
    (hm : ∀ c, m (ix3 0 0 c) = (l c : EReal)) (hw : ∀ i j, w (ix2 i j) = (wr i j : EReal))
    (hx : ∀ i c, x (ix2 i c) = (xr i c : EReal)) (j : Fin 128) (c : Fin 256) :
    accTN acc w x m (ix2 j c) = acc (ix2 j c) + ((∑ i, wr i j * (xr i c * l c) : ℝ) : EReal) := by
  pointwise [accTN]
  rw [mmTN_apply]
  simp only [Ideal.mulf_def, lanes_apply, hw, hx, hm, pointwise, ← EReal.coe_mul, coe_sum]

end Cert.Attn

end
-- ==== Proof.Blocks.lean ====
/- The blocks the two kernels store, as their four heads one after another. -/
module

public import proofs.«01_k».proof.Proof.BlockBwd
public import proofs.«01_k».proof.Proof.Gen.KernelIdeal.Frame
public import Idealize.ShloMosaic.Lib.Pipeline.Value

@[expose] public section

set_option maxRecDepth 16384

noncomputable section

namespace Cert.Attn

open Idealize.ShloMosaic Cert.KernelIdeal
open Cert.KernelIdeal.Facts₀ Cert.KernelIdeal.Facts
open Cert.KernelIdeal.Gen (r0_0 r0_1 r0_2 r0_3 r0_4 r1_0 r1_1 r1_2 r1_3 r1_4)

/-- A bf16 block, read whole and widened. -/
def up (x : Vec Ideal S128x256 .bf16) : FVec Ideal S128x256 .f32 :=
  extf .f32 (shapeCast S128x256 (View.ld x r0_0) shapeCasts_S128x256_S128x256) bitsLt_bf16_f32

/-- An f32 block, read whole. -/
def whole (x : Vec Ideal S128x256 .f32) : FVec Ideal S128x256 .f32 :=
  shapeCast S128x256 (View.ld x r0_0) shapeCasts_S128x256_S128x256

/-- What the accumulators start from. -/
def zero : FVec Ideal S128x256 .f32 := broadcast S128x256 (Scalar.ofBits .f32 0x00000000#32)

/-- The forward kernel's attention block: its four heads in turn. -/
def fwdO (q kc kp vc vp : FVec Ideal S128x256 .f32) (okc okp : IVec S128x128 1) (m0 m1 m2 m3 : Vec Ideal S1x1x256 .f32) :
    FVec Ideal S128x256 .f32 :=
  headO (score q m3 kc okc) (score q m3 kp okp) m3 vc vp
    (headO (score q m2 kc okc) (score q m2 kp okp) m2 vc vp
      (headO (score q m1 kc okc) (score q m1 kp okp) m1 vc vp
        (headO (score q m0 kc okc) (score q m0 kp okp) m0 vc vp zero)))

/-- The forward kernel's log-sum-exp block: its four heads in turn. -/
def fwdL (q kc kp : FVec Ideal S128x256 .f32) (okc okp : IVec S128x128 1) (m0 m1 m2 m3 : Vec Ideal S1x1x256 .f32) :
    FVec Ideal S128x256 .f32 :=
  headL (score q m3 kc okc) (score q m3 kp okp) m3
    (headL (score q m2 kc okc) (score q m2 kp okp) m2
      (headL (score q m1 kc okc) (score q m1 kp okp) m1
        (headL (score q m0 kc okc) (score q m0 kp okp) m0 zero)))

theorem out0_6_eq (i : grid0.Coords) (x0 x1 x2 x3 x4 : Vec Ideal S128x256 .bf16) (x5 : Vec Ideal S4x1x256 .f32) :
    Gen.out0_6 i x0 x1 x2 x3 x4 x5 = View.canon [⟨r0_0, fwdO (up x0) (up x1) (up x2) (up x3) (up x4) Gen.k0_pay10 (Gen.k0_pay11 i)
      (View.ld x5 r0_1) (View.ld x5 r0_2) (View.ld x5 r0_3) (View.ld x5 r0_4)⟩] := rfl

theorem out0_7_eq (i : grid0.Coords) (x0 x1 x2 x3 x4 : Vec Ideal S128x256 .bf16) (x5 : Vec Ideal S4x1x256 .f32) :
    Gen.out0_7 i x0 x1 x2 x3 x4 x5 = View.canon [⟨r0_0, fwdL (up x0) (up x1) (up x2) Gen.k0_pay10 (Gen.k0_pay11 i)
      (View.ld x5 r0_1) (View.ld x5 r0_2) (View.ld x5 r0_3) (View.ld x5 r0_4)⟩] := rfl

/-! ## Backward -/

/-- One head's gradient of the scores within a block or against the previous one: rows of `q` (with cotangent `g` and the
    rest of their row's data) against the keys `k` and values `v`. -/
def dS (ok : IVec S128x128 1) (q k v g o y d : FVec Ideal S128x256 .f32) (m : Vec Ideal S1x1x256 .f32) : FVec Ideal S128x128 .f32 :=
  dscore (prob ok (score q m k ok) (lseCol y m)) g v m (delta d g o m)

/-- What one head adds to the queries' gradient. -/
def headQ (okc okp : IVec S128x128 1) (q kc kp vc vp g o y d : FVec Ideal S128x256 .f32) (m : Vec Ideal S1x1x256 .f32)
    (acc : FVec Ideal S128x256 .f32) : FVec Ideal S128x256 .f32 :=
  accNN (accNN acc (dS okc q kc vc g o y d m) kc m) (dS okp q kp vp g o y d m) kp m

/-- What one head adds to the keys' gradient: from the block's own rows and from the next block's. -/
def headK (okc okn : IVec S128x128 1) (q qn k v g gn o on y yn d dn : FVec Ideal S128x256 .f32) (m : Vec Ideal S1x1x256 .f32)
    (acc : FVec Ideal S128x256 .f32) : FVec Ideal S128x256 .f32 :=
  accTN (accTN acc (dS okc q k v g o y d m) q m) (dS okn qn k v gn on yn dn m) qn m

/-- What one head adds to the values' gradient: from the block's own rows and from the next block's. -/
def headV (okc okn : IVec S128x128 1) (q qn k g gn y yn : FVec Ideal S128x256 .f32) (m : Vec Ideal S1x1x256 .f32)
    (acc : FVec Ideal S128x256 .f32) : FVec Ideal S128x256 .f32 :=
  accTN (accTN acc (prob okc (score q m k okc) (lseCol y m)) g m) (prob okn (score qn m k okn) (lseCol yn m)) gn m

/-- The same block may be used with every head's lanes in turn. -/
def heads (f : Vec Ideal S1x1x256 .f32 → FVec Ideal S128x256 .f32 → FVec Ideal S128x256 .f32) (m0 m1 m2 m3 : Vec Ideal S1x1x256 .f32) :
    FVec Ideal S128x256 .f32 := f m3 (f m2 (f m1 (f m0 zero)))

/-- The next block's rows against this block's keys: the band, and whether there is a next block. -/
def okNext (i : grid1.Coords) : IVec S128x128 1 :=
  Gen.k1_pay11 (Scalar.andi (Scalar.cmpi .ne (Scalar.select (Scalar.andi (Scalar.xori (Scalar.cmpi .slt (Scalar.remsi (Scalar.addi (BitVec.ofNat 32 (i 0).val) 1#32) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (Scalar.addi (BitVec.ofNat 32 (i 0).val) 1#32) (Scalar.select (Scalar.cmpi .eq 8#32 0#32) 1#32 8#32)) 0#32)) (Scalar.addi (Scalar.remsi (Scalar.addi (BitVec.ofNat 32 (i 0).val) 1#32) (Scalar.select (Scalar.cmpi .eq 8#32 0#32) 1#32 8#32)) (Scalar.select (Scalar.cmpi .eq 8#32 0#32) 1#32 8#32)) (Scalar.remsi (Scalar.addi (BitVec.ofNat 32 (i 0).val) 1#32) (Scalar.select (Scalar.cmpi .eq 8#32 0#32) 1#32 8#32))) 0#32) (Scalar.cmpi .slt (Scalar.addi (BitVec.ofNat 32 (i 0).val) 1#32) 32#32))

/-- The block's rows against the previous block's keys: the band, and whether there is a previous block. -/
def okPrev (i : grid1.Coords) : IVec S128x128 1 :=
  Gen.k1_pay10 (Scalar.cmpi .ne (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)

section
variable (i : grid1.Coords) (x0 x1 x2 x3 x4 x5 : Vec Ideal S128x256 .bf16) (x6 x7 x8 x9 x10 x11 x12 x13 : Vec Ideal S128x256 .f32)
  (x14 : Vec Ideal S4x1x256 .f32)

theorem out1_15_eq : Gen.out1_15 i x0 x1 x2 x3 x4 x5 x6 x7 x8 x9 x10 x11 x12 x13 x14 = View.canon [⟨r1_0,
    heads (headQ Gen.k1_pay9 (okPrev i) (up x0) (up x2) (up x3) (up x4) (up x5) (whole x10) (whole x6) (whole x8) (whole x12))
      (View.ld x14 r1_1) (View.ld x14 r1_2) (View.ld x14 r1_3) (View.ld x14 r1_4)⟩] := rfl

theorem out1_16_eq : Gen.out1_16 i x0 x1 x2 x3 x4 x5 x6 x7 x8 x9 x10 x11 x12 x13 x14 = View.canon [⟨r1_0,
    heads (headK Gen.k1_pay9 (okNext i) (up x0) (up x1) (up x2) (up x4) (whole x10) (whole x11) (whole x6) (whole x7) (whole x8) (whole x9)
        (whole x12) (whole x13))
      (View.ld x14 r1_1) (View.ld x14 r1_2) (View.ld x14 r1_3) (View.ld x14 r1_4)⟩] := rfl

theorem out1_17_eq : Gen.out1_17 i x0 x1 x2 x3 x4 x5 x6 x7 x8 x9 x10 x11 x12 x13 x14 = View.canon [⟨r1_0,
    heads (headV Gen.k1_pay9 (okNext i) (up x0) (up x1) (up x2) (whole x10) (whole x11) (whole x8) (whole x9))
      (View.ld x14 r1_1) (View.ld x14 r1_2) (View.ld x14 r1_3) (View.ld x14 r1_4)⟩] := rfl

end

end Cert.Attn

end
-- ==== Proof.Math.lean ====
/- Attention over one residue of the sequence, and its gradients, over the reals. The sequence of a residue is cut in blocks
   of 128 rows; 32 blocks are all four residues' blocks one after another (eight a residue). A row of a block attends to the
   rows of its own block that are not after it, and to the rows of the block before it that are not before its own place. -/
module

public import proofs.«01_k».proof.Proof.BlockBwd

@[expose] public section

noncomputable section

namespace Cert.Attn

/-- A block of 128 rows and 256 lanes for each of the 32 blocks. -/
abbrev Rows := Fin 32 → Fin 128 → Fin 256 → ℝ

/-- The head a lane belongs to. -/
def hd (c : Fin 256) : Fin 4 := ⟨c.val / 64, by omega⟩

/-- A head's lanes: one on them, zero elsewhere. -/
def lane (h : Fin 4) (c : Fin 256) : ℝ := if hd c = h then 1 else 0

/-- The block before, and the block after (itself at the ends). -/
def pv (b : Fin 32) : Fin 32 := ⟨b.val - 1, by omega⟩
def nx (b : Fin 32) : Fin 32 := ⟨min (b.val + 1) 31, by omega⟩

/-- Whether the block has a block before it, or after it, in its residue. -/
def hasP (b : Fin 32) : Bool := decide (b.val % 8 ≠ 0)
def hasN (b : Fin 32) : Bool := decide ((b.val + 1) % 8 ≠ 0)

/-- The pairs within a block, with the block before, and of the block after with this one. -/
def pc (i j : Fin 128) : Bool := decide (j ≤ i)
def pp (b : Fin 32) (i j : Fin 128) : Bool := decide (i ≤ j) && hasP b
def pn (b : Fin 32) (i j : Fin 128) : Bool := decide (i ≤ j) && hasN b

theorem pc_self (i : Fin 128) : ∃ j, pc i j = true := ⟨i, by simp [pc]⟩

section
variable (Q K V G D : Rows)

/-- The scores within a block and against the block before. -/
def ac (b : Fin 32) (h : Fin 4) : Fin 128 → Fin 128 → ℝ := sc (lane h) (Q b) (K b)
def ap (b : Fin 32) (h : Fin 4) : Fin 128 → Fin 128 → ℝ := sc (lane h) (Q b) (K (pv b))

/-- The sum of a row's weights. -/
def Z (b : Fin 32) (h : Fin 4) (i : Fin 128) : ℝ := zz pc (pp b) (ac Q K b h) (ap Q K b h) i

theorem Z_pos (b : Fin 32) (h : Fin 4) (i : Fin 128) : 0 < Z Q K b h i := zz_pos _ _ _ _ _ (pc_self i)

/-- The attention. -/
def O (b : Fin 32) (i : Fin 128) (c : Fin 256) : ℝ :=
  (∑ j, wt pc (ac Q K b (hd c)) i j * V b j c + ∑ j, wt (pp b) (ap Q K b (hd c)) i j * V (pv b) j c) / Z Q K b (hd c) i

/-- The log-sum-exp, on every lane of its head. -/
def L (b : Fin 32) (i : Fin 128) (c : Fin 256) : ℝ := Real.log (Z Q K b (hd c) i)

/-- The probabilities within a block and against the block before. -/
def Pc (b : Fin 32) (h : Fin 4) (i j : Fin 128) : ℝ := wt pc (ac Q K b h) i j / Z Q K b h i
def Pp (b : Fin 32) (h : Fin 4) (i j : Fin 128) : ℝ := wt (pp b) (ap Q K b h) i j / Z Q K b h i

/-- What the scores of a row have in common in their gradients. -/
def Dl (b : Fin 32) (h : Fin 4) (i : Fin 128) : ℝ := ∑ c, D b i c * lane h c - ∑ c, G b i c * O Q K V b i c * lane h c

/-- The gradients of the products of queries with keys. -/
def Sc (b : Fin 32) (h : Fin 4) (i j : Fin 128) : ℝ :=
  Pc Q K b h i j * (∑ c, G b i c * lane h c * V b j c + Dl Q K V G D b h i) * (1 / 8)
def Sp (b : Fin 32) (h : Fin 4) (i j : Fin 128) : ℝ :=
  Pp Q K b h i j * (∑ c, G b i c * lane h c * V (pv b) j c + Dl Q K V G D b h i) * (1 / 8)

/-- The gradients of the queries, of the keys, and of the values. -/
def dQ (b : Fin 32) (i : Fin 128) (c : Fin 256) : ℝ :=
  ∑ j, Sc Q K V G D b (hd c) i j * K b j c + ∑ j, Sp Q K V G D b (hd c) i j * K (pv b) j c
def dK (b : Fin 32) (j : Fin 128) (c : Fin 256) : ℝ :=
  ∑ i, Sc Q K V G D b (hd c) i j * Q b i c + (if hasN b then ∑ i, Sp Q K V G D (nx b) (hd c) i j * Q (nx b) i c else 0)
def dV (b : Fin 32) (j : Fin 128) (c : Fin 256) : ℝ :=
  ∑ i, Pc Q K b (hd c) i j * G b i c + (if hasN b then ∑ i, Pp Q K (nx b) (hd c) i j * G (nx b) i c else 0)

end

/-! ## Lanes -/

theorem lane_self (c : Fin 256) : lane (hd c) c = 1 := by simp [lane]

theorem lane_of_ne {h : Fin 4} {c : Fin 256} (n : h ≠ hd c) : lane h c = 0 := by simp [lane, n.symm]

theorem lane_mul_self (h : Fin 4) (c : Fin 256) : lane h c * lane h c = lane h c := by
  unfold lane; split <;> simp

/-- The lane `d` of head `h`. -/
def at' (h : Fin 4) (d : Fin 64) : Fin 256 := ⟨h.val * 64 + d.val, by omega⟩

theorem hd_at (h : Fin 4) (d : Fin 64) : hd (at' h d) = h := by
  apply Fin.ext; show (h.val * 64 + d.val) / 64 = h.val; omega

/-- A sum over a head's lanes. -/
theorem sum_lane (h : Fin 4) (f : Fin 256 → ℝ) : ∑ c, lane h c * f c = ∑ d : Fin 64, f (at' h d) := by
  have e : ∀ c, lane h c * f c = if hd c = h then f c else 0 := by intro c; unfold lane; split <;> simp
  simp only [e]
  rw [← Finset.sum_filter]
  refine (Finset.sum_bij (fun (d : Fin 64) _ => at' h d) (fun d _ => ?_) (fun d _ d' _ eq => ?_) (fun c hc => ?_) (fun _ _ => rfl)).symm
  · simp [hd_at]
  · have := congrArg Fin.val eq
    apply Fin.ext
    simp only [at'] at this
    omega
  · refine ⟨⟨c.val % 64, by omega⟩, Finset.mem_univ _, ?_⟩
    have := congrArg Fin.val (Finset.mem_filter.mp hc).2
    simp only [hd] at this
    apply Fin.ext
    simp only [at']
    omega

/-- A function of the lane's head, summed over a head's lanes, over the number of lanes. -/
theorem mean_lane (h : Fin 4) (f : Fin 4 → ℝ) : (∑ c, f (hd c) * lane h c) * (1 / 64) = f h := by
  have : ∀ c, f (hd c) * lane h c = lane h c * f (hd c) := fun c => mul_comm _ _
  simp only [this]
  rw [sum_lane h fun c => f (hd c)]
  simp [hd_at]
  ring

end Cert.Attn

end
-- ==== Proof.Bands.lean ====
/- The kernels' bands, and their whole-block reads, at an index. -/
module

public import proofs.«01_k».proof.Proof.Blocks
public import proofs.«01_k».proof.Proof.Math
public import Idealize.ShloMosaic.Lib.WordCmp

@[expose] public section

set_option maxRecDepth 16384

noncomputable section

namespace Cert.Attn

open Idealize.ShloMosaic Cert.KernelIdeal
open Cert.KernelIdeal.Facts₀ Cert.KernelIdeal.Facts
open Cert.KernelIdeal.Gen (r0_0 r0_1 r0_2 r0_3 r0_4 r1_0 r1_1 r1_2 r1_3 r1_4)

theorem up_apply (x : Vec Ideal S128x256 .bf16) (i : Fin 128) (c : Fin 256) : up x (ix2 i c) = x (ix2 i c) := by
  unfold up
  rw [View.ld_unit_zero (by decide)]
  pointwise

theorem whole_apply (x : Vec Ideal S128x256 .f32) (i : Fin 128) (c : Fin 256) : whole x (ix2 i c) = x (ix2 i c) := by
  unfold whole
  rw [View.ld_unit_zero (by decide)]
  pointwise

theorem cur_apply (i j : Fin 128) : Gen.k0_pay10 (ix2 i j) = if pc i j then 1#1 else 0#1 := by
  pointwise [Gen.k0_pay10]
  rw [WordCmp.cmpi_sle_ofNat (by omega) (by omega)]
  by_cases h : j ≤ i <;> simp [pc, h]

theorem cur1_apply (i j : Fin 128) : Gen.k1_pay9 (ix2 i j) = if pc i j then 1#1 else 0#1 := cur_apply i j

/-- The band of the pairs not before their own place, with a condition on the block. -/
theorem band_apply (w : BitVec 1) (q : Bool) (hw : w = BitVec.ofBool q) (i j : Fin 128) :
    Gen.k1_pay10 w (ix2 i j) = if decide (i ≤ j) && q then 1#1 else 0#1 := by
  subst hw
  pointwise [Gen.k1_pay10]
  rw [WordCmp.cmpi_sge_ofNat (by omega) (by omega), WordCmp.andi_ofBool]
  by_cases h : i ≤ j <;> cases q <;> simp [h]

/-- The kernels' test of a remainder by eight, as words. -/
def remNe (x : BitVec 32) : BitVec 1 :=
  Scalar.cmpi .ne (Scalar.select (Scalar.andi (Scalar.xori (Scalar.cmpi .slt (Scalar.remsi x (Scalar.select (Scalar.cmpi .eq 8#32 0#32) 1#32 8#32)) 0#32) (Scalar.cmpi .slt (Scalar.select (Scalar.cmpi .eq 8#32 0#32) 1#32 8#32) 0#32)) (Scalar.cmpi .ne (Scalar.remsi x (Scalar.select (Scalar.cmpi .eq 8#32 0#32) 1#32 8#32)) 0#32)) (Scalar.addi (Scalar.remsi x (Scalar.select (Scalar.cmpi .eq 8#32 0#32) 1#32 8#32)) (Scalar.select (Scalar.cmpi .eq 8#32 0#32) 1#32 8#32)) (Scalar.remsi x (Scalar.select (Scalar.cmpi .eq 8#32 0#32) 1#32 8#32))) 0#32

theorem remNe_prev : ∀ b : Fin 32, remNe (BitVec.ofNat 32 b.val) = BitVec.ofBool (hasP b) := by decide +kernel

theorem remNe_next : ∀ b : Fin 32, Scalar.andi (remNe (Scalar.addi (BitVec.ofNat 32 b.val) 1#32))
    (Scalar.cmpi .slt (Scalar.addi (BitVec.ofNat 32 b.val) 1#32) 32#32) = BitVec.ofBool (hasN b) := by decide +kernel

theorem prev0_apply (t : grid0.Coords) (b : Fin 32) (hb : (t 0).val = b.val) (i j : Fin 128) :
    Gen.k0_pay11 t (ix2 i j) = if pp b i j then 1#1 else 0#1 :=
  (band_apply (remNe (BitVec.ofNat 32 (t 0).val)) (hasP b) (by rw [hb]; exact remNe_prev b) i j :)

theorem prev_apply (t : grid1.Coords) (b : Fin 32) (hb : (t 0).val = b.val) (i j : Fin 128) :
    okPrev t (ix2 i j) = if pp b i j then 1#1 else 0#1 :=
  (band_apply (remNe (BitVec.ofNat 32 (t 0).val)) (hasP b) (by rw [hb]; exact remNe_prev b) i j :)

theorem next_apply (t : grid1.Coords) (b : Fin 32) (hb : (t 0).val = b.val) (i j : Fin 128) :
    okNext t (ix2 i j) = if pn b i j then 1#1 else 0#1 :=
  (band_apply (Scalar.andi (remNe (Scalar.addi (BitVec.ofNat 32 (t 0).val) 1#32))
    (Scalar.cmpi .slt (Scalar.addi (BitVec.ofNat 32 (t 0).val) 1#32) 32#32)) (hasN b) (by rw [hb]; exact remNe_next b) i j :)

/-! ## The heads one after another -/

/-- The accumulation over the four heads, each of which contributes on its own lanes only. -/
theorem heads_apply (f : Vec Ideal S1x1x256 .f32 → FVec Ideal S128x256 .f32 → FVec Ideal S128x256 .f32)
    (m : Fin 4 → Vec Ideal S1x1x256 .f32) (i : Fin 128) (c : Fin 256) (F : Fin 4 → ℝ) (hF : ∀ h, h ≠ hd c → F h = 0)
    (hf : ∀ h acc, f (m h) acc (ix2 i c) = acc (ix2 i c) + ((F h : ℝ) : EReal)) :
    heads f (m 0) (m 1) (m 2) (m 3) (ix2 i c) = ((F (hd c) : ℝ) : EReal) := by
  unfold heads
  rw [hf, hf, hf, hf]
  have z : zero (ix2 i c) = ((0 : ℝ) : EReal) := by
    pointwise [zero]
    exact EReal.coe_zero.symm
  rw [z, ← EReal.coe_add, ← EReal.coe_add, ← EReal.coe_add, ← EReal.coe_add]
  have s : ∑ h, F h = F (hd c) := Finset.sum_eq_single _ (fun h _ n => hF h n) (by simp)
  rw [← s, Fin.sum_univ_four, zero_add]

end Cert.Attn

end
-- ==== Proof.BlockReal.lean ====
/- The blocks the two kernels store, over the reals: attention, log-sum-exp and the three gradients of one block. -/
module

public import proofs.«01_k».proof.Proof.Bands

@[expose] public section

set_option maxRecDepth 16384

noncomputable section

namespace Cert.Attn

open Idealize.ShloMosaic Cert.KernelIdeal

variable {Q K V G D : Rows} {b : Fin 32} {m : Fin 4 → Vec Ideal S1x1x256 .f32} {okc okp okn : IVec S128x128 1}

/-- The block `x` holds the real numbers `r`. -/
def Is (x : FVec Ideal S128x256 .f32) (r : Fin 128 → Fin 256 → ℝ) : Prop := ∀ i c, x (ix2 i c) = ((r i c : ℝ) : EReal)

/-- The mask rows are the heads' lanes. -/
def Lanes (m : Fin 4 → Vec Ideal S1x1x256 .f32) : Prop := ∀ h c, m h (ix3 0 0 c) = ((lane h c : ℝ) : EReal)

/-- The band `ok` is `p`. -/
def Band (ok : IVec S128x128 1) (p : Fin 128 → Fin 128 → Bool) : Prop := ∀ i j, ok (ix2 i j) = if p i j then 1#1 else 0#1

/-- A sum of products with a head's lanes, on a lane: the plain sum on the head's lanes, and zero elsewhere. -/
theorem sum_on_lane (h : Fin 4) (c : Fin 256) (w x : Fin 128 → ℝ) :
    ∑ j, w j * (x j * lane h c) = (∑ j, w j * x j) * lane h c := by
  rw [Finset.sum_mul]; exact Finset.sum_congr rfl fun j _ => (mul_assoc _ _ _).symm

theorem fwdO_is {q kc kp vc vp : FVec Ideal S128x256 .f32} (hq : Is q (Q b)) (hkc : Is kc (K b)) (hkp : Is kp (K (pv b)))
    (hvc : Is vc (V b)) (hvp : Is vp (V (pv b))) (hm : Lanes m) (hc : Band okc pc) (hp : Band okp (pp b)) :
    Is (fwdO q kc kp vc vp okc okp (m 0) (m 1) (m 2) (m 3)) (O Q K V b) := by
  intro i c
  have := heads_apply (fun m acc => headO (score q m kc okc) (score q m kp okp) m vc vp acc) m i c
    (fun h => ((∑ j, wt pc (ac Q K b h) i j * V b j c + ∑ j, wt (pp b) (ap Q K b h) i j * V (pv b) j c) / Z Q K b h i) * lane h c)
    (fun h n => by simp only [lane_of_ne n, mul_zero])
    (fun h acc => by
      have e := headO_apply (score_masked hq hkc (hm h) hc) (score_masked hq hkp (hm h) hp) (hm h) hvc hvp (acc := acc) i (pc_self i) c
      simp only [sum_on_lane, ← add_mul] at e
      rw [mul_div_right_comm] at e
      exact e)
  simp only [lane_self, mul_one] at this
  exact this

theorem fwdL_is {q kc kp : FVec Ideal S128x256 .f32} (hq : Is q (Q b)) (hkc : Is kc (K b)) (hkp : Is kp (K (pv b)))
    (hm : Lanes m) (hc : Band okc pc) (hp : Band okp (pp b)) :
    Is (fwdL q kc kp okc okp (m 0) (m 1) (m 2) (m 3)) (L Q K b) := by
  intro i c
  have := heads_apply (fun m acc => headL (score q m kc okc) (score q m kp okp) m acc) m i c
    (fun h => Real.log (Z Q K b h i) * lane h c)
    (fun h n => by simp only [lane_of_ne n, mul_zero])
    (fun h acc => headL_apply (score_masked hq hkc (hm h) hc) (score_masked hq hkp (hm h) hp) (hm h) (acc := acc) i (pc_self i) c)
  simp only [lane_self, mul_one] at this
  exact this

/-! ## Backward: the pieces of one head, at rows of a block `b` against the keys and values `k`, `v` -/

variable {h : Fin 4} {p : Fin 128 → Fin 128 → Bool} {ok : IVec S128x128 1} {kr vr : Fin 128 → Fin 256 → ℝ}

/-- The recomputed probabilities: the weights over their row's sum. -/
theorem prob_is {q k y : FVec Ideal S128x256 .f32} (hq : Is q (Q b)) (hk : Is k kr) (hy : Is y (L Q K b)) (hm : Lanes m) (hp : Band ok p)
    (i j : Fin 128) :
    prob ok (score q (m h) k ok) (lseCol y (m h)) (ix2 i j) = ((wt p (sc (lane h) (Q b) kr) i j / Z Q K b h i : ℝ) : EReal) := by
  have hl : ∀ i, lseCol y (m h) (ix2 i 0) = ((Real.log (Z Q K b h i) : ℝ) : EReal) := by
    intro i
    rw [lseCol_apply (hm h) hy i]
    exact congrArg _ (mean_lane h fun h => Real.log (Z Q K b h i))
  rw [prob_apply hp (score_masked hq hk (hm h) hp) hl, Real.exp_neg, Real.exp_log (Z_pos Q K b h i)]
  rfl

theorem dS_is {q k v g o y d : FVec Ideal S128x256 .f32} (hq : Is q (Q b)) (hk : Is k kr) (hv : Is v vr) (hg : Is g (G b))
    (ho : Is o (O Q K V b)) (hy : Is y (L Q K b)) (hd : Is d (D b)) (hm : Lanes m) (hp : Band ok p) (i j : Fin 128) :
    dS ok q k v g o y d (m h) (ix2 i j) = ((wt p (sc (lane h) (Q b) kr) i j / Z Q K b h i *
      (∑ c, G b i c * lane h c * vr j c + Dl Q K V G D b h i) * (1 / 8) : ℝ) : EReal) := by
  unfold dS
  rw [dscore_apply (hm h) (prob_is hq hk hy hm hp) hg hv (delta_apply (hm h) hd hg ho) i j]
  have : ∀ c, G b i c * lane h c * (vr j c * lane h c) = G b i c * lane h c * vr j c := fun c => by
    have := lane_mul_self h c
    linear_combination G b i c * vr j c * this
  simp only [this]
  rfl

theorem headQ_is {q kc kp vc vp g o y d : FVec Ideal S128x256 .f32} (hq : Is q (Q b)) (hkc : Is kc (K b)) (hkp : Is kp (K (pv b)))
    (hvc : Is vc (V b)) (hvp : Is vp (V (pv b))) (hg : Is g (G b)) (ho : Is o (O Q K V b)) (hy : Is y (L Q K b)) (hd : Is d (D b))
    (hm : Lanes m) (hc : Band okc pc) (hp : Band okp (pp b)) :
    Is (heads (headQ okc okp q kc kp vc vp g o y d) (m 0) (m 1) (m 2) (m 3)) (dQ Q K V G D b) := by
  intro i c
  have := heads_apply (headQ okc okp q kc kp vc vp g o y d) m i c
    (fun h => (∑ j, Sc Q K V G D b h i j * K b j c + ∑ j, Sp Q K V G D b h i j * K (pv b) j c) * lane h c)
    (fun h n => by simp only [lane_of_ne n, mul_zero])
    (fun h acc => by
      unfold headQ
      rw [accNN_apply _ (hm h) (dS_is hq hkp hvp hg ho hy hd hm hp) hkp, accNN_apply _ (hm h) (dS_is hq hkc hvc hg ho hy hd hm hc) hkc,
        sum_on_lane, sum_on_lane, add_assoc, ← EReal.coe_add, ← add_mul]
      rfl)
  simp only [lane_self, mul_one] at this
  exact this

/-- The pairs of the next block with this one are the next block's pairs with its previous block. -/
theorem pn_eq (n : hasN b = true) : pn b = pp (nx b) ∧ pv (nx b) = b := by
  have : (b.val + 1) % 8 ≠ 0 := by simpa [hasN] using n
  have e : (nx b).val = b.val + 1 := by simp only [nx]; omega
  refine ⟨?_, Fin.ext (by simp only [pv, e]; omega)⟩
  have : hasP (nx b) = true := by simp only [hasP, e]; simpa using this
  funext i j
  simp only [pn, pp, n, this]

theorem pn_none (n : hasN b = false) (i j : Fin 128) : pn b i j = false := by simp [pn, n]

theorem wt_none {a : Fin 128 → Fin 128 → ℝ} (n : hasN b = false) (i j : Fin 128) : wt (pn b) a i j = 0 := by simp [wt, pn_none n]

theorem headK_is {q qn k v g gn o on y yn d dn : FVec Ideal S128x256 .f32} (hq : Is q (Q b)) (hqn : Is qn (Q (nx b))) (hk : Is k (K b))
    (hv : Is v (V b)) (hg : Is g (G b)) (hgn : Is gn (G (nx b))) (ho : Is o (O Q K V b)) (hon : Is on (O Q K V (nx b)))
    (hy : Is y (L Q K b)) (hyn : Is yn (L Q K (nx b))) (hd : Is d (D b)) (hdn : Is dn (D (nx b)))
    (hm : Lanes m) (hc : Band okc pc) (hn : Band okn (pn b)) :
    Is (heads (headK okc okn q qn k v g gn o on y yn d dn) (m 0) (m 1) (m 2) (m 3)) (dK Q K V G D b) := by
  intro j c
  have := heads_apply (headK okc okn q qn k v g gn o on y yn d dn) m j c
    (fun h => (∑ i, Sc Q K V G D b h i j * Q b i c + (if hasN b then ∑ i, Sp Q K V G D (nx b) h i j * Q (nx b) i c else 0)) * lane h c)
    (fun h n => by simp only [lane_of_ne n, mul_zero])
    (fun h acc => by
      unfold headK
      rw [accTN_apply _ (hm h) (dS_is hqn hk hv hgn hon hyn hdn hm hn) hqn, accTN_apply _ (hm h) (dS_is hq hk hv hg ho hy hd hm hc) hq,
        sum_on_lane, sum_on_lane, add_assoc, ← EReal.coe_add, ← add_mul]
      cases n : hasN b
      · simp only [wt_none n, zero_div, zero_mul, Finset.sum_const_zero]; rfl
      · simp only [Sp, Pp, ap, pn_eq n]; rfl)
  simp only [lane_self, mul_one] at this
  exact this

theorem headV_is {q qn k g gn y yn : FVec Ideal S128x256 .f32} (hq : Is q (Q b)) (hqn : Is qn (Q (nx b))) (hk : Is k (K b))
    (hg : Is g (G b)) (hgn : Is gn (G (nx b))) (hy : Is y (L Q K b)) (hyn : Is yn (L Q K (nx b)))
    (hm : Lanes m) (hc : Band okc pc) (hn : Band okn (pn b)) :
    Is (heads (headV okc okn q qn k g gn y yn) (m 0) (m 1) (m 2) (m 3)) (dV Q K G b) := by
  intro j c
  have := heads_apply (headV okc okn q qn k g gn y yn) m j c
    (fun h => (∑ i, Pc Q K b h i j * G b i c + (if hasN b then ∑ i, Pp Q K (nx b) h i j * G (nx b) i c else 0)) * lane h c)
    (fun h n => by simp only [lane_of_ne n, mul_zero])
    (fun h acc => by
      unfold headV
      rw [accTN_apply _ (hm h) (prob_is hqn hk hyn hm hn) hgn, accTN_apply _ (hm h) (prob_is hq hk hy hm hc) hg,
        sum_on_lane, sum_on_lane, add_assoc, ← EReal.coe_add, ← add_mul]
      cases n : hasN b
      · simp only [wt_none n, zero_div, zero_mul, Finset.sum_const_zero]; rfl
      · simp only [Pp, ap, pn_eq n]; rfl)
  simp only [lane_self, mul_one] at this
  exact this

end Cert.Attn

end
-- ==== Proof.Regions.lean ====
/- What the two kernels leave in their result arrays, from the arrays they are given: the blocks at the grid's points tile
   each array, and each block is what one point computes of its blocks. -/
module

public import proofs.«01_k».proof.Proof.BlockReal

@[expose] public section

set_option maxRecDepth 16384

noncomputable section

namespace Cert.Attn

open Idealize.ShloMosaic Cert.KernelIdeal Cert.KernelIdeal.Gen
open Idealize.ShloMosaic.TcCoe
open Idealize.SL Idealize.SL.Sem

/-- The array of 4096 rows whose rows are the blocks' rows one after another. -/
def arr (R : Rows) (y : S4096x256.Idx) : EReal :=
  ((R ⟨(y 0).val / 128, by have h : (y 0).val < 4096 := (y 0).isLt; omega⟩ ⟨(y 0).val % 128, Nat.mod_lt _ (by decide)⟩ (y 1) : ℝ) : EReal)

theorem arr_at (R : Rows) (y : S4096x256.Idx) (b : Fin 32) (i : Fin 128) (c : Fin 256) (h0 : (y 0).val = b.val * 128 + i.val)
    (h1 : (y 1).val = c.val) : arr R y = ((R b i c : ℝ) : EReal) := by
  unfold arr
  have hb : (⟨(y 0).val / 128, by have h : (y 0).val < 4096 := (y 0).isLt; omega⟩ : Fin 32) = b := Fin.ext (by show (y 0).val / 128 = b.val; omega)
  have hi : (⟨(y 0).val % 128, Nat.mod_lt _ (by decide)⟩ : Fin 128) = i := Fin.ext (by show (y 0).val % 128 = i.val; omega)
  have hc : (y 1 : Fin 256) = c := Fin.ext h1
  rw [hb, hi]
  exact congrArg (fun c => ((R b i c : ℝ) : EReal)) hc

/-- A block of the array, by where its rows and columns lie. -/
theorem row_of {A : S4096x256.Idx → EReal} {R : Rows} (h : A = arr R) {b : Fin 32} {f : S128x256.Idx → S4096x256.Idx} {n k : Nat}
    (hf : ∀ y, (f y 0).val = n * 128 + (y 0).val ∧ (f y 1).val = k * 256 + (y 1).val) (hn : n = b.val ∧ k = 0) (i : Fin 128) (l : Fin 256) :
    A (f (ix2 i l)) = ((R b i l : ℝ) : EReal) := by
  rw [h]
  refine arr_at R _ b i l ?_ ?_
  · rw [(hf _).1, hn.1]; rfl
  · rw [(hf _).2, hn.2]; exact (Nat.zero_mul _).symm ▸ Nat.zero_add _

/-- A block is its entries. -/
theorem ix2_eta (x : S128x256.Idx) : ∃ (i : Fin 128) (l : Fin 256), x = ix2 i l :=
  ⟨x 0, x 1, funext fun a => by match a with | 0 => rfl | 1 => rfl⟩

/-- The lanes' array: one row of lanes to a head. -/
def laneArr (y : S4x1x256.Idx) : EReal := ((lane (y 0) (y 2) : ℝ) : EReal)

theorem laneArr_at (y : S4x1x256.Idx) (h : Fin 4) (c : Fin 256) (h0 : (y 0).val = h.val) (h2 : (y 2).val = c.val) :
    laneArr y = ((lane h c : ℝ) : EReal) := by
  have e0 : (y 0 : Fin 4) = h := Fin.ext h0
  have e2 : (y 2 : Fin 256) = c := Fin.ext h2
  show ((lane (y 0) (y 2) : ℝ) : EReal) = _
  exact (congrArg (fun h => ((lane h (y 2) : ℝ) : EReal)) e0).trans (congrArg (fun c => ((lane h c : ℝ) : EReal)) e2)

/-- The head's rows read out of the lanes' array are its lanes. -/
theorem lanes_of {x : Vec Ideal S4x1x256 .f32} (hx : x = laneArr) : Lanes ![View.ld x r0_1, View.ld x r0_2, View.ld x r0_3, View.ld x r0_4] := by
  subst hx
  intro h c
  match h with
  | 0 => exact laneArr_at _ 0 c rfl (Nat.zero_add _ |>.trans (Nat.one_mul _))
  | 1 => exact laneArr_at _ 1 c rfl (Nat.zero_add _ |>.trans (Nat.one_mul _))
  | 2 => exact laneArr_at _ 2 c rfl (Nat.zero_add _ |>.trans (Nat.one_mul _))
  | 3 => exact laneArr_at _ 3 c rfl (Nat.zero_add _ |>.trans (Nat.one_mul _))

theorem origin : (![0, 0] : Fin 2 → Nat) = fun _ => 0 := funext fun a => by fin_cases a <;> rfl

/-- Every row lies in one block of 128. -/
theorem tile (i : S4096x256.Idx) : (i 0).val / 128 < 32 ∧ (i 0).val / 128 * 128 ≤ (i 0).val ∧ (i 0).val < (i 0).val / 128 * 128 + 128
    ∧ 0 ≤ (i 1).val ∧ (i 1).val < 0 + 256 := by
  have h0 : (i 0).val < 4096 := (i 0).isLt
  have h1 : (i 1).val < 256 := (i 1).isLt
  omega

theorem seg {a b n m x : Nat} (ha : a = n) (hb : b = m) (h : n ≤ x ∧ x < n + m) : a ≤ x ∧ x < a + b := by rw [ha, hb]; exact h

variable (V : (c : Dev nD) → (b : Ref sig .tc) → Buf (Elt Ideal) ((c : Thread nD τ).loc b)) (c : Dev nD)

/-! ## The forward kernel -/

/-- The grid's point as a block number. -/
def blk0 (t : Fin cfg0.N) : Fin 32 := ⟨t.val, t.isLt.trans_eq (by decide)⟩

theorem coord0 : ∀ t : Fin cfg0.N, (grid0.coords t 0).val = (blk0 t).val := by decide +kernel

theorem index0_0 : ∀ t : Fin cfg0.N, win0_0.index t 0 = (blk0 t).val ∧ win0_0.index t 1 = 0 := by decide +kernel
theorem index0_1 : ∀ t : Fin cfg0.N, win0_1.index t 0 = (blk0 t).val ∧ win0_1.index t 1 = 0 := by decide +kernel
theorem index0_2 : ∀ t : Fin cfg0.N, win0_2.index t 0 = (pv (blk0 t)).val ∧ win0_2.index t 1 = 0 := by decide +kernel
theorem index0_3 : ∀ t : Fin cfg0.N, win0_3.index t 0 = (blk0 t).val ∧ win0_3.index t 1 = 0 := by decide +kernel
theorem index0_4 : ∀ t : Fin cfg0.N, win0_4.index t 0 = (pv (blk0 t)).val ∧ win0_4.index t 1 = 0 := by decide +kernel
theorem index0_6 : ∀ t : Fin cfg0.N, win0_6.index t 0 = (blk0 t).val ∧ win0_6.index t 1 = 0 := by decide +kernel
theorem index0_7 : ∀ t : Fin cfg0.N, win0_7.index t 0 = (blk0 t).val ∧ win0_7.index t 1 = 0 := by decide +kernel

theorem in0_0 {R : Rows} (h : V c main_v4 = arr R) (t : Fin cfg0.N) : Is (up (iblk0 V c 0 t)) (R (blk0 t)) := fun i l =>
  (up_apply _ i l).trans (row_of h (fun y => ⟨win0_0.rect_emb_val t y 0, win0_0.rect_emb_val t y 1⟩) (index0_0 t) i l)
theorem in0_1 {R : Rows} (h : V c main_v7 = arr R) (t : Fin cfg0.N) : Is (up (iblk0 V c 1 t)) (R (blk0 t)) := fun i l =>
  (up_apply _ i l).trans (row_of h (fun y => ⟨win0_1.rect_emb_val t y 0, win0_1.rect_emb_val t y 1⟩) (index0_1 t) i l)
theorem in0_2 {R : Rows} (h : V c main_v7 = arr R) (t : Fin cfg0.N) : Is (up (iblk0 V c 2 t)) (R (pv (blk0 t))) := fun i l =>
  (up_apply _ i l).trans (row_of h (fun y => ⟨win0_2.rect_emb_val t y 0, win0_2.rect_emb_val t y 1⟩) (index0_2 t) i l)
theorem in0_3 {R : Rows} (h : V c main_v10 = arr R) (t : Fin cfg0.N) : Is (up (iblk0 V c 3 t)) (R (blk0 t)) := fun i l =>
  (up_apply _ i l).trans (row_of h (fun y => ⟨win0_3.rect_emb_val t y 0, win0_3.rect_emb_val t y 1⟩) (index0_3 t) i l)
theorem in0_4 {R : Rows} (h : V c main_v10 = arr R) (t : Fin cfg0.N) : Is (up (iblk0 V c 4 t)) (R (pv (blk0 t))) := fun i l =>
  (up_apply _ i l).trans (row_of h (fun y => ⟨win0_4.rect_emb_val t y 0, win0_4.rect_emb_val t y 1⟩) (index0_4 t) i l)

theorem index0_5 : ∀ (t : Fin cfg0.N) (a : Fin 3), win0_5.index t a = 0 := by decide +kernel

theorem in0_5 (h : V c main_v0 = laneArr) (t : Fin cfg0.N) : iblk0 V c 5 t = laneArr := by
  funext y
  show V c main_v0 ((win0_5.rect t).emb y) = _
  rw [h]
  exact laneArr_at _ (y 0) (y 2) (win0_5.rect_emb_val_of_index_zero t 0 (index0_5 t 0) y) (win0_5.rect_emb_val_of_index_zero t 2 (index0_5 t 2) y)

theorem cover0_6 (i : S4096x256.Idx) : ∃ t : Fin cfg0.N, (cfg0.win 6).flush t = true ∧ i ∈ ((cfg0.win 6).blk t).view.set := by
  have ht := tile i
  obtain ⟨t, hv⟩ : ∃ t : Fin cfg0.N, t.val = (i 0).val / 128 := ⟨⟨(i 0).val / 128, ht.1.trans_eq (by decide)⟩, rfl⟩
  rw [← hv] at ht
  refine ⟨t, flush0_6 t, ?_⟩
  show i ∈ ((View.whole main_v11_0).slice (win0_6.rect t)).set
  rw [View.set_slice_whole, Rect.mem_set_unit]
  have e : ∀ t : Fin cfg0.N, (win0_6.index t 0 * win0_6.size 0 = t.val * 128 ∧ win0_6.xsize (grid0.coords t) 0 = 128)
      ∧ win0_6.index t 1 * win0_6.size 1 = 0 ∧ win0_6.xsize (grid0.coords t) 1 = 256 := by decide +kernel
  intro a
  match a with
  | ⟨0, _⟩ => exact seg (e t).1.1 (e t).1.2 ⟨ht.2.1, ht.2.2.1⟩
  | ⟨1, _⟩ => exact seg (e t).2.1 (e t).2.2 ht.2.2.2

/-- What the kernel leaves of the attention. -/
theorem final0_6 {Q K V' : Rows} (hq : V c main_v4 = arr Q) (hk : V c main_v7 = arr K) (hv : V c main_v10 = arr V') (hm : V c main_v0 = laneArr) :
    (dat0 V c).arrAt 6 cfg0.N = arr (O Q K V') := by
  refine (dat0 V c).arrAt_eq_of_cover 6 (arr (O Q K V')) (fun t _ => ?_) cover0_6
  show (cfg0.win 6).cut (grid0.coords t) ((dat0 V c).after 6 t) = _
  rw [after0_6, out0_6_eq, View.canon_unit_zero origin]
  funext x
  obtain ⟨i, l, rfl⟩ := ix2_eta x
  refine (fwdO_is (in0_0 V c hq t) (in0_1 V c hk t) (in0_2 V c hk t) (in0_3 V c hv t) (in0_4 V c hv t) (lanes_of (in0_5 V c hm t)) cur_apply (prev0_apply _ _ (coord0 t)) i l).trans
    (row_of rfl (fun y => ⟨win0_6.rect_emb_val t y 0, win0_6.rect_emb_val t y 1⟩) (index0_6 t) i l).symm

theorem cover0_7 (i : S4096x256.Idx) : ∃ t : Fin cfg0.N, (cfg0.win 7).flush t = true ∧ i ∈ ((cfg0.win 7).blk t).view.set := by
  have ht := tile i
  obtain ⟨t, hv⟩ : ∃ t : Fin cfg0.N, t.val = (i 0).val / 128 := ⟨⟨(i 0).val / 128, ht.1.trans_eq (by decide)⟩, rfl⟩
  rw [← hv] at ht
  refine ⟨t, flush0_7 t, ?_⟩
  show i ∈ ((View.whole main_v11_1).slice (win0_7.rect t)).set
  rw [View.set_slice_whole, Rect.mem_set_unit]
  have e : ∀ t : Fin cfg0.N, (win0_7.index t 0 * win0_7.size 0 = t.val * 128 ∧ win0_7.xsize (grid0.coords t) 0 = 128)
      ∧ win0_7.index t 1 * win0_7.size 1 = 0 ∧ win0_7.xsize (grid0.coords t) 1 = 256 := by decide +kernel
  intro a
  match a with
  | ⟨0, _⟩ => exact seg (e t).1.1 (e t).1.2 ⟨ht.2.1, ht.2.2.1⟩
  | ⟨1, _⟩ => exact seg (e t).2.1 (e t).2.2 ht.2.2.2

/-- What the kernel leaves of the log-sum-exp. -/
theorem final0_7 {Q K : Rows} (hq : V c main_v4 = arr Q) (hk : V c main_v7 = arr K) (hm : V c main_v0 = laneArr) :
    (dat0 V c).arrAt 7 cfg0.N = arr (L Q K) := by
  refine (dat0 V c).arrAt_eq_of_cover 7 (arr (L Q K)) (fun t _ => ?_) cover0_7
  show (cfg0.win 7).cut (grid0.coords t) ((dat0 V c).after 7 t) = _
  rw [after0_7, out0_7_eq, View.canon_unit_zero origin]
  funext x
  obtain ⟨i, l, rfl⟩ := ix2_eta x
  refine (fwdL_is (in0_0 V c hq t) (in0_1 V c hk t) (in0_2 V c hk t) (lanes_of (in0_5 V c hm t)) cur_apply (prev0_apply _ _ (coord0 t)) i l).trans
    (row_of rfl (fun y => ⟨win0_7.rect_emb_val t y 0, win0_7.rect_emb_val t y 1⟩) (index0_7 t) i l).symm

/-! ## The backward kernel -/

/-- The grid's point as a block number. -/
def blk1 (t : Fin cfg1.N) : Fin 32 := ⟨t.val, t.isLt.trans_eq (by decide)⟩

theorem coord1 : ∀ t : Fin cfg1.N, (grid1.coords t 0).val = (blk1 t).val := by decide +kernel

theorem index1_0 : ∀ t : Fin cfg1.N, win1_0.index t 0 = (blk1 t).val ∧ win1_0.index t 1 = 0 := by decide +kernel
theorem index1_1 : ∀ t : Fin cfg1.N, win1_1.index t 0 = (nx (blk1 t)).val ∧ win1_1.index t 1 = 0 := by decide +kernel
theorem index1_2 : ∀ t : Fin cfg1.N, win1_2.index t 0 = (blk1 t).val ∧ win1_2.index t 1 = 0 := by decide +kernel
theorem index1_3 : ∀ t : Fin cfg1.N, win1_3.index t 0 = (pv (blk1 t)).val ∧ win1_3.index t 1 = 0 := by decide +kernel
theorem index1_4 : ∀ t : Fin cfg1.N, win1_4.index t 0 = (blk1 t).val ∧ win1_4.index t 1 = 0 := by decide +kernel
theorem index1_5 : ∀ t : Fin cfg1.N, win1_5.index t 0 = (pv (blk1 t)).val ∧ win1_5.index t 1 = 0 := by decide +kernel
theorem index1_6 : ∀ t : Fin cfg1.N, win1_6.index t 0 = (blk1 t).val ∧ win1_6.index t 1 = 0 := by decide +kernel
theorem index1_7 : ∀ t : Fin cfg1.N, win1_7.index t 0 = (nx (blk1 t)).val ∧ win1_7.index t 1 = 0 := by decide +kernel
theorem index1_8 : ∀ t : Fin cfg1.N, win1_8.index t 0 = (blk1 t).val ∧ win1_8.index t 1 = 0 := by decide +kernel
theorem index1_9 : ∀ t : Fin cfg1.N, win1_9.index t 0 = (nx (blk1 t)).val ∧ win1_9.index t 1 = 0 := by decide +kernel
theorem index1_10 : ∀ t : Fin cfg1.N, win1_10.index t 0 = (blk1 t).val ∧ win1_10.index t 1 = 0 := by decide +kernel
theorem index1_11 : ∀ t : Fin cfg1.N, win1_11.index t 0 = (nx (blk1 t)).val ∧ win1_11.index t 1 = 0 := by decide +kernel
theorem index1_12 : ∀ t : Fin cfg1.N, win1_12.index t 0 = (blk1 t).val ∧ win1_12.index t 1 = 0 := by decide +kernel
theorem index1_13 : ∀ t : Fin cfg1.N, win1_13.index t 0 = (nx (blk1 t)).val ∧ win1_13.index t 1 = 0 := by decide +kernel
theorem index1_15 : ∀ t : Fin cfg1.N, win1_15.index t 0 = (blk1 t).val ∧ win1_15.index t 1 = 0 := by decide +kernel
theorem index1_16 : ∀ t : Fin cfg1.N, win1_16.index t 0 = (blk1 t).val ∧ win1_16.index t 1 = 0 := by decide +kernel
theorem index1_17 : ∀ t : Fin cfg1.N, win1_17.index t 0 = (blk1 t).val ∧ win1_17.index t 1 = 0 := by decide +kernel

theorem in1_0 {R : Rows} (h : V c main_v4 = arr R) (t : Fin cfg1.N) : Is (up (iblk1 V c 0 t)) (R (blk1 t)) := fun i l =>
  (up_apply _ i l).trans (row_of h (fun y => ⟨win1_0.rect_emb_val t y 0, win1_0.rect_emb_val t y 1⟩) (index1_0 t) i l)
theorem in1_1 {R : Rows} (h : V c main_v4 = arr R) (t : Fin cfg1.N) : Is (up (iblk1 V c 1 t)) (R (nx (blk1 t))) := fun i l =>
  (up_apply _ i l).trans (row_of h (fun y => ⟨win1_1.rect_emb_val t y 0, win1_1.rect_emb_val t y 1⟩) (index1_1 t) i l)
theorem in1_2 {R : Rows} (h : V c main_v7 = arr R) (t : Fin cfg1.N) : Is (up (iblk1 V c 2 t)) (R (blk1 t)) := fun i l =>
  (up_apply _ i l).trans (row_of h (fun y => ⟨win1_2.rect_emb_val t y 0, win1_2.rect_emb_val t y 1⟩) (index1_2 t) i l)
theorem in1_3 {R : Rows} (h : V c main_v7 = arr R) (t : Fin cfg1.N) : Is (up (iblk1 V c 3 t)) (R (pv (blk1 t))) := fun i l =>
  (up_apply _ i l).trans (row_of h (fun y => ⟨win1_3.rect_emb_val t y 0, win1_3.rect_emb_val t y 1⟩) (index1_3 t) i l)
theorem in1_4 {R : Rows} (h : V c main_v10 = arr R) (t : Fin cfg1.N) : Is (up (iblk1 V c 4 t)) (R (blk1 t)) := fun i l =>
  (up_apply _ i l).trans (row_of h (fun y => ⟨win1_4.rect_emb_val t y 0, win1_4.rect_emb_val t y 1⟩) (index1_4 t) i l)
theorem in1_5 {R : Rows} (h : V c main_v10 = arr R) (t : Fin cfg1.N) : Is (up (iblk1 V c 5 t)) (R (pv (blk1 t))) := fun i l =>
  (up_apply _ i l).trans (row_of h (fun y => ⟨win1_5.rect_emb_val t y 0, win1_5.rect_emb_val t y 1⟩) (index1_5 t) i l)
theorem in1_6 {R : Rows} (h : V c main_v11_0 = arr R) (t : Fin cfg1.N) : Is (whole (iblk1 V c 6 t)) (R (blk1 t)) := fun i l =>
  (whole_apply _ i l).trans (row_of h (fun y => ⟨win1_6.rect_emb_val t y 0, win1_6.rect_emb_val t y 1⟩) (index1_6 t) i l)
theorem in1_7 {R : Rows} (h : V c main_v11_0 = arr R) (t : Fin cfg1.N) : Is (whole (iblk1 V c 7 t)) (R (nx (blk1 t))) := fun i l =>
  (whole_apply _ i l).trans (row_of h (fun y => ⟨win1_7.rect_emb_val t y 0, win1_7.rect_emb_val t y 1⟩) (index1_7 t) i l)
theorem in1_8 {R : Rows} (h : V c main_v11_1 = arr R) (t : Fin cfg1.N) : Is (whole (iblk1 V c 8 t)) (R (blk1 t)) := fun i l =>
  (whole_apply _ i l).trans (row_of h (fun y => ⟨win1_8.rect_emb_val t y 0, win1_8.rect_emb_val t y 1⟩) (index1_8 t) i l)
theorem in1_9 {R : Rows} (h : V c main_v11_1 = arr R) (t : Fin cfg1.N) : Is (whole (iblk1 V c 9 t)) (R (nx (blk1 t))) := fun i l =>
  (whole_apply _ i l).trans (row_of h (fun y => ⟨win1_9.rect_emb_val t y 0, win1_9.rect_emb_val t y 1⟩) (index1_9 t) i l)
theorem in1_10 {R : Rows} (h : V c main_v14 = arr R) (t : Fin cfg1.N) : Is (whole (iblk1 V c 10 t)) (R (blk1 t)) := fun i l =>
  (whole_apply _ i l).trans (row_of h (fun y => ⟨win1_10.rect_emb_val t y 0, win1_10.rect_emb_val t y 1⟩) (index1_10 t) i l)
theorem in1_11 {R : Rows} (h : V c main_v14 = arr R) (t : Fin cfg1.N) : Is (whole (iblk1 V c 11 t)) (R (nx (blk1 t))) := fun i l =>
  (whole_apply _ i l).trans (row_of h (fun y => ⟨win1_11.rect_emb_val t y 0, win1_11.rect_emb_val t y 1⟩) (index1_11 t) i l)
theorem in1_12 {R : Rows} (h : V c main_v17 = arr R) (t : Fin cfg1.N) : Is (whole (iblk1 V c 12 t)) (R (blk1 t)) := fun i l =>
  (whole_apply _ i l).trans (row_of h (fun y => ⟨win1_12.rect_emb_val t y 0, win1_12.rect_emb_val t y 1⟩) (index1_12 t) i l)
theorem in1_13 {R : Rows} (h : V c main_v17 = arr R) (t : Fin cfg1.N) : Is (whole (iblk1 V c 13 t)) (R (nx (blk1 t))) := fun i l =>
  (whole_apply _ i l).trans (row_of h (fun y => ⟨win1_13.rect_emb_val t y 0, win1_13.rect_emb_val t y 1⟩) (index1_13 t) i l)

theorem index1_14 : ∀ (t : Fin cfg1.N) (a : Fin 3), win1_14.index t a = 0 := by decide +kernel

theorem in1_14 (h : V c main_v1 = laneArr) (t : Fin cfg1.N) : iblk1 V c 14 t = laneArr := by
  funext y
  show V c main_v1 ((win1_14.rect t).emb y) = _
  rw [h]
  exact laneArr_at _ (y 0) (y 2) (win1_14.rect_emb_val_of_index_zero t 0 (index1_14 t 0) y) (win1_14.rect_emb_val_of_index_zero t 2 (index1_14 t 2) y)

theorem cover1_15 (i : S4096x256.Idx) : ∃ t : Fin cfg1.N, (cfg1.win 15).flush t = true ∧ i ∈ ((cfg1.win 15).blk t).view.set := by
  have ht := tile i
  obtain ⟨t, hv⟩ : ∃ t : Fin cfg1.N, t.val = (i 0).val / 128 := ⟨⟨(i 0).val / 128, ht.1.trans_eq (by decide)⟩, rfl⟩
  rw [← hv] at ht
  refine ⟨t, flush1_15 t, ?_⟩
  show i ∈ ((View.whole main_v18_0).slice (win1_15.rect t)).set
  rw [View.set_slice_whole, Rect.mem_set_unit]
  have e : ∀ t : Fin cfg1.N, (win1_15.index t 0 * win1_15.size 0 = t.val * 128 ∧ win1_15.xsize (grid1.coords t) 0 = 128)
      ∧ win1_15.index t 1 * win1_15.size 1 = 0 ∧ win1_15.xsize (grid1.coords t) 1 = 256 := by decide +kernel
  intro a
  match a with
  | ⟨0, _⟩ => exact seg (e t).1.1 (e t).1.2 ⟨ht.2.1, ht.2.2.1⟩
  | ⟨1, _⟩ => exact seg (e t).2.1 (e t).2.2 ht.2.2.2

/-- What the kernel leaves of the queries' gradient. -/
theorem final1_15 {Q K V' G D : Rows} (hq : V c main_v4 = arr Q) (hk : V c main_v7 = arr K) (hv : V c main_v10 = arr V') (ho : V c main_v11_0 = arr (O Q K V'))
    (hl : V c main_v11_1 = arr (L Q K)) (hg : V c main_v14 = arr G) (hd : V c main_v17 = arr D) (hm : V c main_v1 = laneArr) :
    (dat1 V c).arrAt 15 cfg1.N = arr (dQ Q K V' G D) := by
  refine (dat1 V c).arrAt_eq_of_cover 15 (arr (dQ Q K V' G D)) (fun t _ => ?_) cover1_15
  show (cfg1.win 15).cut (grid1.coords t) ((dat1 V c).after 15 t) = _
  rw [after1_15, out1_15_eq, View.canon_unit_zero origin]
  funext x
  obtain ⟨i, l, rfl⟩ := ix2_eta x
  refine (headQ_is (in1_0 V c hq t) (in1_2 V c hk t) (in1_3 V c hk t) (in1_4 V c hv t) (in1_5 V c hv t) (in1_10 V c hg t) (in1_6 V c ho t) (in1_8 V c hl t) (in1_12 V c hd t)
      (lanes_of (in1_14 V c hm t)) cur1_apply (prev_apply _ _ (coord1 t)) i l).trans
    (row_of rfl (fun y => ⟨win1_15.rect_emb_val t y 0, win1_15.rect_emb_val t y 1⟩) (index1_15 t) i l).symm

theorem cover1_16 (i : S4096x256.Idx) : ∃ t : Fin cfg1.N, (cfg1.win 16).flush t = true ∧ i ∈ ((cfg1.win 16).blk t).view.set := by
  have ht := tile i
  obtain ⟨t, hv⟩ : ∃ t : Fin cfg1.N, t.val = (i 0).val / 128 := ⟨⟨(i 0).val / 128, ht.1.trans_eq (by decide)⟩, rfl⟩
  rw [← hv] at ht
  refine ⟨t, flush1_16 t, ?_⟩
  show i ∈ ((View.whole main_v18_1).slice (win1_16.rect t)).set
  rw [View.set_slice_whole, Rect.mem_set_unit]
  have e : ∀ t : Fin cfg1.N, (win1_16.index t 0 * win1_16.size 0 = t.val * 128 ∧ win1_16.xsize (grid1.coords t) 0 = 128)
      ∧ win1_16.index t 1 * win1_16.size 1 = 0 ∧ win1_16.xsize (grid1.coords t) 1 = 256 := by decide +kernel
  intro a
  match a with
  | ⟨0, _⟩ => exact seg (e t).1.1 (e t).1.2 ⟨ht.2.1, ht.2.2.1⟩
  | ⟨1, _⟩ => exact seg (e t).2.1 (e t).2.2 ht.2.2.2

/-- What the kernel leaves of the keys' gradient. -/
theorem final1_16 {Q K V' G D : Rows} (hq : V c main_v4 = arr Q) (hk : V c main_v7 = arr K) (hv : V c main_v10 = arr V') (ho : V c main_v11_0 = arr (O Q K V'))
    (hl : V c main_v11_1 = arr (L Q K)) (hg : V c main_v14 = arr G) (hd : V c main_v17 = arr D) (hm : V c main_v1 = laneArr) :
    (dat1 V c).arrAt 16 cfg1.N = arr (dK Q K V' G D) := by
  refine (dat1 V c).arrAt_eq_of_cover 16 (arr (dK Q K V' G D)) (fun t _ => ?_) cover1_16
  show (cfg1.win 16).cut (grid1.coords t) ((dat1 V c).after 16 t) = _
  rw [after1_16, out1_16_eq, View.canon_unit_zero origin]
  funext x
  obtain ⟨i, l, rfl⟩ := ix2_eta x
  refine (headK_is (in1_0 V c hq t) (in1_1 V c hq t) (in1_2 V c hk t) (in1_4 V c hv t) (in1_10 V c hg t) (in1_11 V c hg t) (in1_6 V c ho t) (in1_7 V c ho t) (in1_8 V c hl t) (in1_9 V c hl t)
      (in1_12 V c hd t) (in1_13 V c hd t) (lanes_of (in1_14 V c hm t)) cur1_apply (next_apply _ _ (coord1 t)) i l).trans
    (row_of rfl (fun y => ⟨win1_16.rect_emb_val t y 0, win1_16.rect_emb_val t y 1⟩) (index1_16 t) i l).symm

theorem cover1_17 (i : S4096x256.Idx) : ∃ t : Fin cfg1.N, (cfg1.win 17).flush t = true ∧ i ∈ ((cfg1.win 17).blk t).view.set := by
  have ht := tile i
  obtain ⟨t, hv⟩ : ∃ t : Fin cfg1.N, t.val = (i 0).val / 128 := ⟨⟨(i 0).val / 128, ht.1.trans_eq (by decide)⟩, rfl⟩
  rw [← hv] at ht
  refine ⟨t, flush1_17 t, ?_⟩
  show i ∈ ((View.whole main_v18_2).slice (win1_17.rect t)).set
  rw [View.set_slice_whole, Rect.mem_set_unit]
  have e : ∀ t : Fin cfg1.N, (win1_17.index t 0 * win1_17.size 0 = t.val * 128 ∧ win1_17.xsize (grid1.coords t) 0 = 128)
      ∧ win1_17.index t 1 * win1_17.size 1 = 0 ∧ win1_17.xsize (grid1.coords t) 1 = 256 := by decide +kernel
  intro a
  match a with
  | ⟨0, _⟩ => exact seg (e t).1.1 (e t).1.2 ⟨ht.2.1, ht.2.2.1⟩
  | ⟨1, _⟩ => exact seg (e t).2.1 (e t).2.2 ht.2.2.2

/-- What the kernel leaves of the values' gradient. -/
theorem final1_17 {Q K G : Rows} (hq : V c main_v4 = arr Q) (hk : V c main_v7 = arr K)
    (hl : V c main_v11_1 = arr (L Q K)) (hg : V c main_v14 = arr G) (hm : V c main_v1 = laneArr) :
    (dat1 V c).arrAt 17 cfg1.N = arr (dV Q K G) := by
  refine (dat1 V c).arrAt_eq_of_cover 17 (arr (dV Q K G)) (fun t _ => ?_) cover1_17
  show (cfg1.win 17).cut (grid1.coords t) ((dat1 V c).after 17 t) = _
  rw [after1_17, out1_17_eq, View.canon_unit_zero origin]
  funext x
  obtain ⟨i, l, rfl⟩ := ix2_eta x
  refine (headV_is (in1_0 V c hq t) (in1_1 V c hq t) (in1_2 V c hk t) (in1_10 V c hg t) (in1_11 V c hg t) (in1_8 V c hl t) (in1_9 V c hl t)
      (lanes_of (in1_14 V c hm t)) cur1_apply (next_apply _ _ (coord1 t)) i l).trans
    (row_of rfl (fun y => ⟨win1_17.rect_emb_val t y 0, win1_17.rect_emb_val t y 1⟩) (index1_17 t) i l).symm

end Cert.Attn

end
-- ==== Proof.Host.lean ====
/- The arrays the kernels are given: the arguments in the order the kernels walk them, and the heads' lanes. -/
module

public import proofs.«01_k».proof.Proof.Regions
public import Idealize.ShloMosaic.Lib.StableHlo.ReadAt

@[expose] public section

set_option maxRecDepth 16384

noncomputable section

namespace Cert.Attn

open Idealize.ShloMosaic Cert.KernelIdeal
open Idealize.ShloMosaic.TcCoe
open Idealize.SL Idealize.SL.Sem

/-- The row of an argument that the kernels walk as row `n`: residue `n / 1024` of the tokens modulo 4, in order. -/
def tok (n : Fin 4096) : Fin 4096 := ⟨n.val % 1024 * 4 + n.val / 1024, by omega⟩

/-- The real rows of an argument, in the order the kernels walk them. -/
def rows (x : S4096x256.Idx → EReal) : Rows := fun b i c => (x (ix2 (tok ⟨b.val * 128 + i.val, by omega⟩) c)).toReal

/-- Every entry is a real number. -/
def RealArr (x : S4096x256.Idx → EReal) : Prop := ∀ i, ((x i).toReal : EReal) = x i

/-- An array that holds an argument's rows in that order is the array of its real rows. -/
theorem arr_of {A x : S4096x256.Idx → EReal} (hx : RealArr x) (h : ∀ n l, A (ix2 n l) = x (ix2 (tok n) l)) : A = arr (rows x) := by
  funext y
  have e : y = ix2 (y 0) (y 1) := funext fun a => by match a with | 0 => rfl | 1 => rfl
  have h0 : (y 0).val < 4096 := (y 0).isLt
  rw [arr_at (rows x) y ⟨(y 0).val / 128, by omega⟩ ⟨(y 0).val % 128, by omega⟩ (y 1) (by show _ = (y 0).val / 128 * 128 + (y 0).val % 128; omega) rfl]
  unfold rows
  rw [hx]
  refine ((congrArg A e).trans (h _ _)).trans (congrArg (fun n => x (ix2 (tok n) (y 1))) (Fin.ext ?_))
  show (y 0).val = (y 0).val / 128 * 128 + (y 0).val % 128
  omega

section
variable (V : Valuation τ sig (Elt Ideal))

theorem host_v4 (n : Fin 4096) (l : Fin 256) :
    StableHlo.after Gen.hostOps0 V (Proc.devRef .tc main_v4) (ix2 n l) = V (Proc.devRef .tc main_arg0) (ix2 (tok n) l) := by
  unfold Gen.hostOps0
  after_reads_at
  rfl

theorem host_v7 (n : Fin 4096) (l : Fin 256) :
    StableHlo.after Gen.hostOps0 V (Proc.devRef .tc main_v7) (ix2 n l) = V (Proc.devRef .tc main_arg1) (ix2 (tok n) l) := by
  unfold Gen.hostOps0
  after_reads_at
  rfl

theorem host_v10 (n : Fin 4096) (l : Fin 256) :
    StableHlo.after Gen.hostOps0 V (Proc.devRef .tc main_v10) (ix2 n l) = V (Proc.devRef .tc main_arg2) (ix2 (tok n) l) := by
  unfold Gen.hostOps0
  after_reads_at
  rfl

theorem host_v14 (n : Fin 4096) (l : Fin 256) :
    StableHlo.after Gen.hostOps1 V (Proc.devRef .tc main_v14) (ix2 n l) = V (Proc.devRef .tc main_arg3) (ix2 (tok n) l) := by
  unfold Gen.hostOps1
  after_reads_at
  rfl

theorem host_v17 (n : Fin 4096) (l : Fin 256) :
    StableHlo.after Gen.hostOps1 V (Proc.devRef .tc main_v17) (ix2 n l) = V (Proc.devRef .tc main_arg4) (ix2 (tok n) l) := by
  unfold Gen.hostOps1
  after_reads_at
  rfl

/-- The words of the lanes' table are the numbers one and zero. -/
theorem word_lane (h : Fin 4) (l : Fin 256) :
    Ideal.ofBits .f32 (if hd l = h then 0x3F800000#32 else 0x00000000#32) = ((lane h l : ℝ) : EReal) := by
  unfold lane
  split_ifs
  · rw [Ideal.ofBits_one_f32]; rfl
  · rw [Ideal.ofBits_zero_f32]; rfl

theorem lit0_apply : ∀ (h : Fin 4) (l : Fin 256), lit0 (S4x256.rowMajor (ix2 h l)) = if hd l = h then 0x3F800000#32 else 0x00000000#32 := by
  decide +kernel

theorem host_v0 : StableHlo.after Gen.hostOps0 V (Proc.devRef .tc main_v0) = laneArr := by
  funext y
  have e : y = ix3 (y 0) (y 1) (y 2) := funext fun a => by match a with | 0 => rfl | 1 => rfl | 2 => rfl
  rw [e]
  unfold Gen.hostOps0
  after_reads_at
  rw [lit0_apply (y 0) (y 2)]
  show _ = ((lane (y 0) (y 2) : ℝ) : EReal)
  exact word_lane _ _

theorem lit1_apply : ∀ (h : Fin 4) (l : Fin 256), lit1 (S4x256.rowMajor (ix2 h l)) = if hd l = h then 0x3F800000#32 else 0x00000000#32 := by
  decide +kernel

theorem host_v1 : StableHlo.after Gen.hostOps0 V (Proc.devRef .tc main_v1) = laneArr := by
  funext y
  have e : y = ix3 (y 0) (y 1) (y 2) := funext fun a => by match a with | 0 => rfl | 1 => rfl | 2 => rfl
  rw [e]
  unfold Gen.hostOps0
  after_reads_at
  rw [lit1_apply (y 0) (y 2)]
  show _ = ((lane (y 0) (y 2) : ℝ) : EReal)
  exact word_lane _ _

end

end Cert.Attn

end
-- ==== Proof.Arrays.lean ====
/- The buffers the two kernels' run ends with, from the arguments it starts with. -/
module

public import proofs.«01_k».proof.Proof.Host

@[expose] public section

set_option maxRecDepth 16384

noncomputable section

namespace Cert.Attn

open Idealize.ShloMosaic Cert.KernelIdeal
open Idealize.ShloMosaic.TcCoe
open Idealize.SL Idealize.SL.Sem

variable (m : (ℓ : Loc nD τ sig) → Buf (Elt Ideal) ℓ) (ρ : Dev nD → PrngReg) (c : Dev nD)

/-- The five arguments, as arrays of extended reals. -/
abbrev arg_q : S4096x256.Idx → EReal := m ((c : Thread nD τ).loc main_arg0)
abbrev arg_k : S4096x256.Idx → EReal := m ((c : Thread nD τ).loc main_arg1)
abbrev arg_v : S4096x256.Idx → EReal := m ((c : Thread nD τ).loc main_arg2)
abbrev arg_g : S4096x256.Idx → EReal := m ((c : Thread nD τ).loc main_arg3)
abbrev arg_d : S4096x256.Idx → EReal := m ((c : Thread nD τ).loc main_arg4)

/-- The arguments' entries are real numbers. -/
structure RealArgs : Prop where
  hq : RealArr (arg_q m c)
  hk : RealArr (arg_k m c)
  hv : RealArr (arg_v m c)
  hg : RealArr (arg_g m c)
  hd : RealArr (arg_d m c)

variable {m c} (h : RealArgs m c)
include h

theorem entry1_q : Gen.V1 m ρ c main_v4 = arr (rows (arg_q m c)) := arr_of h.hq (host_v4 _)
theorem entry1_k : Gen.V1 m ρ c main_v7 = arr (rows (arg_k m c)) := arr_of h.hk (host_v7 _)
theorem entry1_v : Gen.V1 m ρ c main_v10 = arr (rows (arg_v m c)) := arr_of h.hv (host_v10 _)

/-- The forward kernel leaves the attention's rows. -/
theorem exit1_o : Gen.W2 m ρ c (Proc.devRef .tc main_v11_0) = arr (O (rows (arg_q m c)) (rows (arg_k m c)) (rows (arg_v m c))) :=
  (Gen.W2_arr m ρ c 6).trans (final0_6 (Gen.V1 m ρ) c (entry1_q ρ h) (entry1_k ρ h) (entry1_v ρ h) (host_v0 _))

/-- And the rows' log-sum-exp. -/
theorem exit1_l : Gen.W2 m ρ c (Proc.devRef .tc main_v11_1) = arr (L (rows (arg_q m c)) (rows (arg_k m c))) :=
  (Gen.W2_arr m ρ c 7).trans (final0_7 (Gen.V1 m ρ) c (entry1_q ρ h) (entry1_k ρ h) (host_v0 _))

omit h in
/-- What neither the forward kernel nor the host writes after it is as it was. -/
theorem keep (r : Ref sig .tc) (h1 : ∀ w : Fin cfg0.W, Pipeline.arrRef spec0 w = r → (cfg0.win w).isOut = false) (h2 : r ∉ Gen.hostOps1_W) :
    Gen.V3 m ρ c r = Gen.V1 m ρ c r := (Gen.W3_of m ρ c r h2).trans (Gen.W2_of m ρ c r h1)

theorem entry3_q : Gen.V3 m ρ c main_v4 = arr (rows (arg_q m c)) := (keep ρ main_v4 (by decide) (by decide)).trans (entry1_q ρ h)
theorem entry3_k : Gen.V3 m ρ c main_v7 = arr (rows (arg_k m c)) := (keep ρ main_v7 (by decide) (by decide)).trans (entry1_k ρ h)
theorem entry3_v : Gen.V3 m ρ c main_v10 = arr (rows (arg_v m c)) := (keep ρ main_v10 (by decide) (by decide)).trans (entry1_v ρ h)

omit h in
theorem entry3_m : Gen.V3 m ρ c main_v1 = laneArr := (keep ρ main_v1 (by decide) (by decide)).trans (host_v1 _)

theorem entry3_o : Gen.V3 m ρ c main_v11_0 = arr (O (rows (arg_q m c)) (rows (arg_k m c)) (rows (arg_v m c))) :=
  (Gen.W3_of m ρ c main_v11_0 (by decide)).trans (exit1_o ρ h)

theorem entry3_l : Gen.V3 m ρ c main_v11_1 = arr (L (rows (arg_q m c)) (rows (arg_k m c))) :=
  (Gen.W3_of m ρ c main_v11_1 (by decide)).trans (exit1_l ρ h)

theorem entry3_g : Gen.V3 m ρ c main_v14 = arr (rows (arg_g m c)) :=
  arr_of h.hg fun n l => (host_v14 (Gen.W2 m ρ c) n l).trans (congrFun (Gen.W2_args m ρ c main_arg3 (by decide)) _)

theorem entry3_d : Gen.V3 m ρ c main_v17 = arr (rows (arg_d m c)) :=
  arr_of h.hd fun n l => (host_v17 (Gen.W2 m ρ c) n l).trans (congrFun (Gen.W2_args m ρ c main_arg4 (by decide)) _)

theorem end_o : Gen.W4 m ρ c (Proc.devRef .tc main_v11_0) = arr (O (rows (arg_q m c)) (rows (arg_k m c)) (rows (arg_v m c))) :=
  (Gen.W4_of m ρ c main_v11_0 (by decide)).trans (entry3_o ρ h)

theorem end_l : Gen.W4 m ρ c (Proc.devRef .tc main_v11_1) = arr (L (rows (arg_q m c)) (rows (arg_k m c))) :=
  (Gen.W4_of m ρ c main_v11_1 (by decide)).trans (entry3_l ρ h)

/-- The backward kernel leaves the queries' gradient. -/
theorem end_dq : Gen.W4 m ρ c (Proc.devRef .tc main_v18_0) = arr (dQ (rows (arg_q m c)) (rows (arg_k m c)) (rows (arg_v m c)) (rows (arg_g m c)) (rows (arg_d m c))) :=
  (Gen.W4_arr m ρ c 15).trans (final1_15 (Gen.V3 m ρ) c (entry3_q ρ h) (entry3_k ρ h) (entry3_v ρ h) (entry3_o ρ h) (entry3_l ρ h) (entry3_g ρ h) (entry3_d ρ h) (entry3_m ρ))

/-- And the keys'. -/
theorem end_dk : Gen.W4 m ρ c (Proc.devRef .tc main_v18_1) = arr (dK (rows (arg_q m c)) (rows (arg_k m c)) (rows (arg_v m c)) (rows (arg_g m c)) (rows (arg_d m c))) :=
  (Gen.W4_arr m ρ c 16).trans (final1_16 (Gen.V3 m ρ) c (entry3_q ρ h) (entry3_k ρ h) (entry3_v ρ h) (entry3_o ρ h) (entry3_l ρ h) (entry3_g ρ h) (entry3_d ρ h) (entry3_m ρ))

/-- And the values'. -/
theorem end_dv : Gen.W4 m ρ c (Proc.devRef .tc main_v18_2) = arr (dV (rows (arg_q m c)) (rows (arg_k m c)) (rows (arg_g m c))) :=
  (Gen.W4_arr m ρ c 17).trans (final1_17 (Gen.V3 m ρ) c (entry3_q ρ h) (entry3_k ρ h) (entry3_l ρ h) (entry3_g ρ h) (entry3_m ρ))

end Cert.Attn

end
-- ==== Proof.RefScores.lean ====
/- The reference's forward pass read at an index, over the reals: scores, weights, their sums. A row's window is the block
   before its own, then its own block; each array over the window is read at the two halves. -/
module

public import proofs.«01_k».proof.Proof.Gen.ReferenceIdeal.Run
public import proofs.«01_k».proof.Proof.Math
public import Idealize.ShloMosaic.Lib.Pointwise
public import Idealize.ShloMosaic.Lib.WordCmp

@[expose] public section

set_option maxRecDepth 16384

noncomputable section

namespace Cert.Ref

open Idealize.ShloMosaic Cert.ReferenceIdeal Cert.ReferenceIdeal.Value Cert.Attn
open Idealize.ShloMosaic.TcCoe
open Idealize.SL Idealize.SL.Sem

/-- Block `n` of residue `r` among the 32 blocks. -/
def bk (r : Fin 4) (n : Fin 8) : Fin 32 := ⟨r.val * 8 + n.val, by omega⟩

/-- The window's first half (the block before) and its second half (the own block). -/
def lo (j : Fin 128) : Fin 256 := ⟨j.val, by omega⟩
def hi (j : Fin 128) : Fin 256 := ⟨j.val + 128, by omega⟩

theorem sum_window {α : Type*} [AddCommMonoid α] (f : Fin 256 → α) : ∑ J, f J = ∑ j, f (hi j) + ∑ j, f (lo j) := by
  rw [add_comm]
  exact (Fin.sum_univ_add (a := 128) (b := 128) f).trans (congrArg _ (Finset.sum_congr rfl fun j _ => congrArg f
    (Fin.ext (show 128 + j.val = j.val + 128 from Nat.add_comm _ _))))

theorem hasP_bk (r : Fin 4) (n : Fin 8) : hasP (bk r n) = decide (0 < n.val) := by
  simp only [hasP, bk]
  exact decide_eq_decide.mpr (by omega)

theorem pv_bk (r : Fin 4) (n : Fin 8) (h : 0 < n.val) : pv (bk r n) = bk r ⟨n.val - 1, by omega⟩ := by
  apply Fin.ext; simp only [pv, bk]; omega

variable (V0 : Valuation τ sig (Elt Ideal))

/-- An argument's rows, block by block, are the real rows `R`. -/
def Holds (x : S4096x256.Idx → EReal) (R : Rows) : Prop := ∀ (r : Fin 4) (n : Fin 8) (i : Fin 128) (c : Fin 256),
  x (ix2 ⟨(n.val * 128 + i.val) * 4 + r.val, by omega⟩ c) = ((R (bk r n) i c : ℝ) : EReal)

variable {V0} {Q K V G D : Rows}
  (hq : Holds (V0 (Proc.devRef .tc main_arg0)) Q) (hk : Holds (V0 (Proc.devRef .tc main_arg1)) K) (hv : Holds (V0 (Proc.devRef .tc main_arg2)) V)
  (hg : Holds (V0 (Proc.devRef .tc main_arg3)) G) (hd : Holds (V0 (Proc.devRef .tc main_arg4)) D)
  (z : Fin 1) (h r : Fin 4) (n : Fin 8) (i : Fin 128) (j : Fin 128) (d : Fin 64)

include hq in
theorem v9_at : res_main_v9 V0 (ix6 z h r n i d) = ((Q (bk r n) i (at' h d) : ℝ) : EReal) := by
  pointwise [res_main_v9]
  rw [dif_pos (by omega)]
  exact hq r n i (at' h d)

include hk in
theorem v13_at : res_main_v13 V0 (ix6 z h r n i d) = ((K (bk r n) i (at' h d) : ℝ) : EReal) := by
  pointwise [res_main_v13]
  rw [dif_pos (by omega)]
  exact hk r n i (at' h d)

include hv in
theorem v23_at : res_main_v23 V0 (ix6 z h r n i d) = ((V (bk r n) i (at' h d) : ℝ) : EReal) := by
  pointwise [res_main_v23]
  rw [dif_pos (by omega)]
  exact hv r n i (at' h d)

include hg in
theorem v104_at : res_main_v104 V0 (ix6 z h r n i d) = ((G (bk r n) i (at' h d) : ℝ) : EReal) := by
  pointwise [res_main_v104]
  exact hg r n i (at' h d)

/-- The rows before a block: zero where there is no block before. -/
def bef (R : Rows) (r : Fin 4) (n : Fin 8) (j : Fin 128) (c : Fin 256) : ℝ := if hasP (bk r n) then R (pv (bk r n)) j c else 0

theorem bef_eq (R : Rows) (c : Fin 256) : (if h : n.val < 1 then (0 : EReal) else ((R (bk r ⟨n.val - 1, by omega⟩) j c : ℝ) : EReal))
    = ((bef R r n j c : ℝ) : EReal) := by
  unfold bef
  rw [hasP_bk]
  by_cases h : n.val < 1
  · simp [h, show ¬ 0 < n.val by omega]
  · have hn : 0 < n.val := by omega
    simp only [h, hn, dite_false, decide_true, if_true, pv_bk r n hn]

include hk in
theorem v19_at (J : Fin 256) : res_main_v19 V0 (ix6 z h r n J d) = if hJ : J.val < 128 then ((bef K r n ⟨J.val, hJ⟩ (at' h d) : ℝ) : EReal)
    else ((K (bk r n) ⟨J.val - 128, by omega⟩ (at' h d) : ℝ) : EReal) := by
  pointwise [res_main_v19]
  simp only [v13_at hk]
  by_cases hJ : J.val < 128
  · rw [dif_pos hJ, dif_pos hJ]; exact bef_eq r n ⟨J.val, hJ⟩ K (at' h d)
  · rw [dif_neg hJ, dif_neg hJ]

include hk in
theorem v19_hi : res_main_v19 V0 (ix6 z h r n (hi j) d) = ((K (bk r n) j (at' h d) : ℝ) : EReal) := by
  rw [v19_at hk, dif_neg (by show ¬ j.val + 128 < 128; omega)]
  exact congrArg (fun j => ((K (bk r n) j (at' h d) : ℝ) : EReal)) (Fin.ext (by show j.val + 128 - 128 = j.val; omega))

include hk in
theorem v19_lo : res_main_v19 V0 (ix6 z h r n (lo j) d) = ((bef K r n j (at' h d) : ℝ) : EReal) := by
  rw [v19_at hk, dif_pos (by show j.val < 128; omega)]
  rfl

include hv in
theorem v29_at (J : Fin 256) : res_main_v29 V0 (ix6 z h r n J d) = if hJ : J.val < 128 then ((bef V r n ⟨J.val, hJ⟩ (at' h d) : ℝ) : EReal)
    else ((V (bk r n) ⟨J.val - 128, by omega⟩ (at' h d) : ℝ) : EReal) := by
  pointwise [res_main_v29]
  simp only [v23_at hv]
  by_cases hJ : J.val < 128
  · rw [dif_pos hJ, dif_pos hJ]; exact bef_eq r n ⟨J.val, hJ⟩ V (at' h d)
  · rw [dif_neg hJ, dif_neg hJ]

include hv in
theorem v29_hi : res_main_v29 V0 (ix6 z h r n (hi j) d) = ((V (bk r n) j (at' h d) : ℝ) : EReal) := by
  rw [v29_at hv, dif_neg (by show ¬ j.val + 128 < 128; omega)]
  exact congrArg (fun j => ((V (bk r n) j (at' h d) : ℝ) : EReal)) (Fin.ext (by show j.val + 128 - 128 = j.val; omega))

include hv in
theorem v29_lo : res_main_v29 V0 (ix6 z h r n (lo j) d) = ((bef V r n j (at' h d) : ℝ) : EReal) := by
  rw [v29_at hv, dif_pos (by show j.val < 128; omega)]
  rfl

/-- A place in the window, counted from the row's own place 128 before its end, as a word. -/
def away (k : Nat) : BitVec 32 := BitVec.ofNat 32 (k + (2 ^ 32 - 128))

theorem away_eq (i J : Nat) (hJ : J ≤ 256) : IntOp.subi (IntOp.addi 128#32 (BitVec.ofNat 32 i)) (BitVec.ofNat 32 J) = away (256 + i - J) := by
  apply BitVec.eq_of_toInt_eq
  unfold IntOp.subi IntOp.addi away
  apply congrArg BitVec.toInt
  apply BitVec.eq_of_toNat_eq
  simp only [BitVec.toNat_sub, BitVec.toNat_add, BitVec.toNat_ofNat]
  omega

theorem band_away : ∀ k : Fin 384, IntOp.andi (IntOp.cmpi .sge (away k.val) 0#32) (IntOp.cmpi .sle (away k.val) 128#32)
    = BitVec.ofBool (decide (128 ≤ k.val ∧ k.val ≤ 256)) := by decide +kernel

/-- What of the window a row attends to: in its own block, -/
theorem words_hi (i j : Fin 128) : IntOp.andi (IntOp.cmpi .sge (IntOp.subi (IntOp.addi 128#32 (BitVec.ofNat 32 i.val)) (BitVec.ofNat 32 (j.val + 128))) 0#32)
    (IntOp.cmpi .sle (IntOp.subi (IntOp.addi 128#32 (BitVec.ofNat 32 i.val)) (BitVec.ofNat 32 (j.val + 128))) 128#32)
    = BitVec.ofBool (pc i j) := by
  rw [away_eq _ _ (by omega), band_away ⟨256 + i.val - (j.val + 128), by omega⟩]
  exact congrArg _ (decide_eq_decide.mpr (by rw [Fin.le_def]; dsimp only; omega))

/-- and in the block before. -/
theorem words_lo (i j : Fin 128) : IntOp.andi (IntOp.cmpi .sge (IntOp.subi (IntOp.addi 128#32 (BitVec.ofNat 32 i.val)) (BitVec.ofNat 32 j.val)) 0#32)
    (IntOp.cmpi .sle (IntOp.subi (IntOp.addi 128#32 (BitVec.ofNat 32 i.val)) (BitVec.ofNat 32 j.val)) 128#32)
    = BitVec.ofBool (decide (i ≤ j)) := by
  rw [away_eq _ _ (by omega), band_away ⟨256 + i.val - j.val, by omega⟩]
  exact congrArg _ (decide_eq_decide.mpr (by rw [Fin.le_def]; dsimp only; omega))

theorem words_blk_hi : ∀ (n : Fin 8) (j : Fin 128), IntOp.ori (IntOp.cmpi .sgt (BitVec.ofNat 32 n.val) 0#32)
    (IntOp.cmpi .sge (BitVec.ofNat 32 (j.val + 128)) 128#32) = 1#1 := by decide +kernel

theorem words_blk_lo : ∀ (n : Fin 8) (j : Fin 128), IntOp.ori (IntOp.cmpi .sgt (BitVec.ofNat 32 n.val) 0#32)
    (IntOp.cmpi .sge (BitVec.ofNat 32 j.val) 128#32) = BitVec.ofBool (decide (0 < n.val)) := by decide +kernel

theorem v61_1_hi : res_main_v61_1 V0 (ix6 z h r n i (hi j)) = if pc i j then 1#1 else 0#1 := by
  pointwise [res_main_v61_1, res_main_v41, res_main_v36, hi]
  rw [words_hi, words_blk_hi]
  cases pc i j <;> rfl

theorem v61_1_lo : res_main_v61_1 V0 (ix6 z h r n i (lo j)) = if pp (bk r n) i j then 1#1 else 0#1 := by
  pointwise [res_main_v61_1, res_main_v41, res_main_v36, lo]
  rw [words_lo, words_blk_lo]
  unfold pp
  rw [hasP_bk]
  cases decide (i ≤ j) <;> cases decide (0 < n.val) <;> rfl

end Cert.Ref

end
-- ==== Proof.Finite.lean ====
/- The precondition, read at an entry: every entry of the arguments is a real number. -/
module

public import proofs.«01_k».proof.Defs
public import proofs.«01_k».proof.Proof.Arrays
public import proofs.«01_k».proof.Proof.RefScores

@[expose] public section

set_option maxRecDepth 16384

noncomputable section

namespace Cert.Attn

open Idealize.ShloMosaic Cert.KernelIdeal
open Idealize.ShloMosaic.TcCoe

/-- What the precondition's own operations ask of their shapes. -/
theorem finite_facts : Cert.Pre_finite.Facts := ⟨by decide, by decide⟩

/-- A number whose absolute value lies below infinity is real. -/
theorem real_of_abs {x : EReal} (h : Ideal.cmp .olt (max x (-x)) (Ideal.ofBits .f32 0x7F800000#32) = 1#1) : ((x.toReal : ℝ) : EReal) = x := by
  have htop : Ideal.ofBits .f32 0x7F800000#32 = ⊤ := by simp [Ideal.ofBits, Ideal.ieee]
  rw [htop] at h
  replace h := max_lt_iff.mp ((Ideal.cmp_olt_eq_one _ _).mp h)
  refine EReal.coe_toReal h.1.ne fun e => ?_
  have h2 := h.2
  rw [e, EReal.neg_bot] at h2
  exact lt_irrefl _ h2

theorem and_one {a b : BitVec 1} (h : IntOp.andi a b = 1#1) : a = 1#1 ∧ b = 1#1 := by
  revert h; revert a b; decide

theorem real_args [hF : Cert.Pre_finite.Facts] (m : (ℓ : Loc nD τ sig) → Buf (Elt Ideal) ℓ) (h : Cert.Pre_KernelIdeal_finite m) (c : Dev nD) : RealArgs m c := by
  have key : ∀ i : S4096x256.Idx, (((arg_q m c i).toReal : EReal) = arg_q m c i ∧ ((arg_k m c i).toReal : EReal) = arg_k m c i) ∧ ((arg_v m c i).toReal : EReal) = arg_v m c i
      ∧ ((arg_g m c i).toReal : EReal) = arg_g m c i ∧ ((arg_d m c i).toReal : EReal) = arg_d m c i := fun i => by
    have := congrFun (h c) i
    unfold Cert.Pre_finite.fn Cert.Pre_finite.fn_part1 at this
    obtain ⟨h1, h5⟩ := and_one this
    obtain ⟨h1, h4⟩ := and_one h1
    obtain ⟨h1, h3⟩ := and_one h1
    obtain ⟨h1, h2⟩ := and_one h1
    exact ⟨⟨real_of_abs h1, real_of_abs h2⟩, real_of_abs h3, real_of_abs h4, real_of_abs h5⟩
  exact ⟨fun i => (key i).1.1, fun i => (key i).1.2, fun i => (key i).2.1, fun i => (key i).2.2.1, fun i => (key i).2.2.2⟩

/-- The reference reads an argument's rows in the same order. -/
theorem holds_rows {x : S4096x256.Idx → EReal} (hx : RealArr x) : Cert.Ref.Holds x (rows x) := fun r n i c => by
  unfold rows
  rw [hx]
  refine congrArg (fun t => x (ix2 t c)) (Fin.ext ?_)
  show (n.val * 128 + i.val) * 4 + r.val = ((r.val * 8 + n.val) * 128 + i.val) % 1024 * 4 + ((r.val * 8 + n.val) * 128 + i.val) / 1024
  omega

end Cert.Attn

end
-- ==== Proof.RefReduce.lean ====
/- The reference's sums over axes, as plain sums over the places that are summed away. -/
module

public import proofs.«01_k».proof.Proof.Gen.ReferenceIdeal.Run
public import Idealize.ShloMosaic.Lib.Pointwise

@[expose] public section

set_option maxRecDepth 16384

noncomputable section

namespace Cert.Ref

open Idealize.ShloMosaic Cert.ReferenceIdeal

/-- A sum over the indices that fall on `j`, when `e` lists them. -/
theorem reduce_list {s : Shape} {axes : List (Fin s.rank)} {t : Shape} (h : s.ReducesTo axes t) (x : s.Idx → EReal) (init : EReal) (j : t.Idx)
    {ι : Type} [Fintype ι] (e : ι → s.Idx) (inj : Function.Injective e) (into : ∀ k, h.drop (e k) = j) (onto : ∀ i, h.drop i = j → ∃ k, e k = i) :
    Ideal.hostReduceAdd h x init j = init + ∑ k, x (e k) := by
  unfold Ideal.hostReduceAdd
  refine congrArg (init + ·) (Finset.sum_bij (fun k _ => e k) (fun k _ => ?_) (fun k _ k' _ eq => inj eq) (fun i hi => ?_) (fun _ _ => rfl)).symm
  · exact Finset.mem_filter.mpr ⟨Finset.mem_univ _, into k⟩
  · obtain ⟨k, hk⟩ := onto i (Finset.mem_filter.mp hi).2
    exact ⟨k, Finset.mem_univ _, hk⟩

theorem reduce_row {M : Nat} (h : (⟨6, ![1, 4, 4, 8, 128, M]⟩ : Shape).ReducesTo [5] S1x4x4x8x128) (x : (⟨6, ![1, 4, 4, 8, 128, M]⟩ : Shape).Idx → EReal)
    (init : EReal) (z : Fin 1) (a r : Fin 4) (n : Fin 8) (i : Fin 128) :
    Ideal.hostReduceAdd h x init (ix5 z a r n i) = init + ∑ J : Fin M, x (ix6 z a r n i J) := by
  refine reduce_list h x init _ (fun J => ix6 z a r n i J) (fun J J' e => congrFun e 5) (fun J => ?_) (fun y hy => ⟨y 5, ?_⟩)
  · funext b
    match b with | 0 => rfl | 1 => rfl | 2 => rfl | 3 => rfl | 4 => rfl
  · funext b
    match b with
    | 0 => exact (congrFun hy 0).symm
    | 1 => exact (congrFun hy 1).symm
    | 2 => exact (congrFun hy 2).symm
    | 3 => exact (congrFun hy 3).symm
    | 4 => exact (congrFun hy 4).symm
    | 5 => rfl

theorem reduce_col (h : S1x4x4x8x128x1.ReducesTo [0, 5] S4x4x8x128) (x : S1x4x4x8x128x1.Idx → EReal)
    (init : EReal) (a r : Fin 4) (n : Fin 8) (i : Fin 128) :
    Ideal.hostReduceAdd h x init (ix4 a r n i) = init + x (ix6 0 a r n i 0) := by
  refine (reduce_list h x init _ (fun _ : Unit => ix6 0 a r n i 0) (fun _ _ _ => rfl) (fun J => ?_) (fun y hy => ⟨(), ?_⟩)).trans (by simp)
  · funext b
    match b with | 0 => rfl | 1 => rfl | 2 => rfl | 3 => rfl
  · funext b
    match b with
    | 0 => exact (Subsingleton.elim (α := Fin 1) _ _)
    | 1 => exact (congrFun hy 0).symm
    | 2 => exact (congrFun hy 1).symm
    | 3 => exact (congrFun hy 2).symm
    | 4 => exact (congrFun hy 3).symm
    | 5 => exact (Subsingleton.elim (α := Fin 1) _ _)

theorem reduce_head {M : Nat} (h : (⟨4, ![1, 4096, 4, M]⟩ : Shape).ReducesTo [0, 3] S4096x4) (x : (⟨4, ![1, 4096, 4, M]⟩ : Shape).Idx → EReal)
    (init : EReal) (t : Fin 4096) (a : Fin 4) :
    Ideal.hostReduceAdd h x init (ix2 t a) = init + ∑ d : Fin M, x (ix4 0 t a d) := by
  refine reduce_list h x init _ (fun J => ix4 0 t a J) (fun J J' e => congrFun e 3) (fun J => ?_) (fun y hy => ⟨y 3, ?_⟩)
  · funext b
    match b with | 0 => rfl | 1 => rfl
  · funext b
    match b with
    | 0 => exact (Subsingleton.elim (α := Fin 1) _ _)
    | 1 => exact (congrFun hy 0).symm
    | 2 => exact (congrFun hy 1).symm
    | 3 => rfl

end Cert.Ref

end
-- ==== Proof.RefForward.lean ====
/- The reference's softmax read at an index, over the reals. -/
module

public import proofs.«01_k».proof.Proof.RefScores
public import proofs.«01_k».proof.Proof.RefReduce

@[expose] public section

set_option maxRecDepth 16384

noncomputable section

namespace Cert.Ref

open Idealize.ShloMosaic Cert.ReferenceIdeal Cert.ReferenceIdeal.Value Cert.Attn
open Idealize.ShloMosaic.TcCoe
open Idealize.SL Idealize.SL.Sem

variable {V0 : Valuation τ sig (Elt Ideal)} {Q K V G D : Rows}
  (hq : Holds (V0 (Proc.devRef .tc main_arg0)) Q) (hk : Holds (V0 (Proc.devRef .tc main_arg1)) K) (hv : Holds (V0 (Proc.devRef .tc main_arg2)) V)
  (z : Fin 1) (h r : Fin 4) (n : Fin 8) (i : Fin 128) (j : Fin 128) (d : Fin 64)

/-- The reference's constants: eight, one, zero, and the masked score. -/
theorem ofBits_eight : Ideal.ofBits .f32 0x41000000#32 = ((8 : ℝ) : EReal) := by
  simp [Ideal.ofBits, Ideal.ieee]; rw [← EReal.coe_mul]; norm_num

/-- A score over a head's lanes is the plain product over the head's 64 columns. -/
theorem sc_at (x k : Fin 128 → Fin 256 → ℝ) : sc (lane h) x k i j = (∑ d : Fin 64, x i (at' h d) * k j (at' h d)) * (1 / 8) := by
  unfold sc
  rw [← sum_lane h fun c => x i c * k j c]
  exact congrArg (· * (1 / 8)) (Finset.sum_congr rfl fun c _ => by ring)

include hq hk

theorem v61_0_hi : res_main_v61_0 V0 (ix6 z h r n i (hi j)) = if pc i j then ((ac Q K (bk r n) h i j : ℝ) : EReal) else ⊥ := by
  pointwise [res_main_v61_0]
  simp only [v61_1_hi, v9_at hq, v19_hi hk, ← EReal.coe_mul, coe_sum, ofBits_eight]
  rw [Ideal.div_coe (by norm_num), ← EReal.coe_mul]
  unfold ac
  rw [sc_at]
  cases pc i j
  · exact ofBits_neg_inf
  · rfl

theorem v61_0_lo : res_main_v61_0 V0 (ix6 z h r n i (lo j)) = if pp (bk r n) i j then ((ap Q K (bk r n) h i j : ℝ) : EReal) else ⊥ := by
  pointwise [res_main_v61_0]
  simp only [v61_1_lo, v9_at hq, v19_lo hk, ← EReal.coe_mul, coe_sum, ofBits_eight]
  rw [Ideal.div_coe (by norm_num), ← EReal.coe_mul]
  unfold ap
  rw [sc_at]
  cases e : pp (bk r n) i j
  · exact ofBits_neg_inf
  · have : hasP (bk r n) = true := by unfold pp at e; simp_all
    simp only [bef, this, if_true]
    rfl

omit hq hk in
/-- A place in the window lies in one of its halves. -/
theorem halves (J : Fin 256) : (∃ j, J = hi j) ∨ ∃ j, J = lo j := by
  by_cases h : J.val < 128
  · exact .inr ⟨⟨J.val, h⟩, rfl⟩
  · exact .inl ⟨⟨J.val - 128, by omega⟩, Fin.ext (by show J.val = J.val - 128 + 128; omega)⟩

omit hq hk in
/-- The maximum over a set of numbers below infinity, one of them above minus infinity, is a real number. -/
theorem fold_max_real {ι : Type*} (s : Finset ι) (f : ι → EReal) (h : ∀ x ∈ s, f x ≠ ⊤) (x : ι) (hx : x ∈ s) (hf : f x ≠ ⊥) :
    (((s.fold max ⊥ f).toReal : ℝ) : EReal) = s.fold max ⊥ f := by
  have e : s.fold max ⊥ f = s.sup f := rfl
  rw [e]
  refine EReal.coe_toReal ?_ ?_
  · exact ((Finset.sup_lt_iff bot_lt_top).mpr fun y hy => lt_top_iff_ne_top.mpr (h y hy)).ne
  · exact (lt_of_lt_of_le (bot_lt_iff_ne_bot.mpr hf) (Finset.le_sup hx)).ne'

/-- A masked score is not plus infinity. -/
theorem v61_0_ne_top (J : Fin 256) : @Ne EReal (res_main_v61_0 V0 (ix6 z h r n i J)) ⊤ := by
  obtain ⟨j, rfl⟩ | ⟨j, rfl⟩ := halves J
  · rw [v61_0_hi hq hk]; split
    · exact EReal.coe_ne_top _
    · exact (bot_lt_top : (⊥ : EReal) < ⊤).ne
  · rw [v61_0_lo hq hk]; split
    · exact EReal.coe_ne_top _
    · exact (bot_lt_top : (⊥ : EReal) < ⊤).ne

variable (V0) in
omit hq hk in
/-- The row's maximum, as a real number. -/
def mx : ℝ := (res_main_v62 V0 (ix5 z h r n i) : EReal).toReal

/-- The row's maximum. -/
theorem v62_at : res_main_v62 V0 (ix5 z h r n i) = ((mx V0 z h r n i : ℝ) : EReal) := by
  unfold mx
  have e : (res_main_v62 V0 (ix5 z h r n i) : EReal) = Finset.fold max (⊥ : EReal) (res_main_v61_0 V0 : S1x4x4x8x128x256.Idx → EReal)
      {y | Gen.reducesTo_S1x4x4x8x128x256_S1x4x4x8x128_d5.drop y = ix5 z h r n i} := by
    pointwise [res_main_v62]
    rw [ofBits_neg_inf]
  rw [e]
  refine (fold_max_real _ _ (fun y _ => ?_) (ix6 z h r n i (hi i)) ?_ ?_).symm
  · have ey : y = ix6 (y 0) (y 1) (y 2) (y 3) (y 4) (y 5) := funext fun a => by
      match a with | 0 => rfl | 1 => rfl | 2 => rfl | 3 => rfl | 4 => rfl | 5 => rfl
    rw [ey]
    exact v61_0_ne_top hq hk (y 0) (y 1) (y 2) (y 3) (y 4) (y 5)
  · simp only [Finset.mem_filter, Finset.mem_univ, true_and]
    funext a
    match a with | 0 => rfl | 1 => rfl | 2 => rfl | 3 => rfl | 4 => rfl
  · rw [v61_0_hi hq hk]
    simp [pc]

theorem v68_at : res_main_v68 V0 (ix6 z h r n i 0) = ((mx V0 z h r n i : ℝ) : EReal) := by
  have e0 : z = 0 := Subsingleton.elim _ _
  pointwise [res_main_v68]
  rw [v62_at hq hk, e0]

omit hq hk in
/-- The exponential of a masked score below the row's maximum. -/
theorem exp_below (p : Bool) (a M : ℝ) : Ideal.exp ((if p then ((a : ℝ) : EReal) else ⊥) - ((M : ℝ) : EReal))
    = (((if p then Real.exp a else 0) * Real.exp (-M) : ℝ) : EReal) := by
  cases p
  · simp [Ideal.exp_bot]
  · simp only [if_true]
    rw [← EReal.coe_sub, Ideal.exp_coe, ← Real.exp_add, sub_eq_add_neg]

theorem v71_hi : res_main_v71 V0 (ix6 z h r n i (hi j)) = ((wt pc (ac Q K (bk r n) h) i j * Real.exp (-mx V0 0 h r n i) : ℝ) : EReal) := by
  pointwise [res_main_v71]
  simp only [v61_0_hi hq hk, v68_at hq hk]
  exact exp_below _ _ _

theorem v71_lo : res_main_v71 V0 (ix6 z h r n i (lo j)) = ((wt (pp (bk r n)) (ap Q K (bk r n) h) i j * Real.exp (-mx V0 0 h r n i) : ℝ) : EReal) := by
  pointwise [res_main_v71]
  simp only [v61_0_lo hq hk, v68_at hq hk]
  exact exp_below _ _ _

/-- The sum of a row's weights. -/
theorem v73_at : res_main_v73 V0 (ix6 z h r n i 0) = ((Z Q K (bk r n) h i * Real.exp (-mx V0 0 h r n i) : ℝ) : EReal) := by
  pointwise [res_main_v73]
  rw [reduce_row, zero_add, sum_window]
  simp only [v71_hi hq hk, v71_lo hq hk, coe_sum, ← EReal.coe_add]
  refine congrArg _ ?_
  rw [← Finset.sum_mul, ← Finset.sum_mul, ← add_mul]
  rfl

omit hq hk in
/-- Weights outside the band are zero, so the rows before may be read off the window or off the block before. -/
theorem wt_bef (R : Rows) (c : Fin 256) (a : Fin 128 → Fin 128 → ℝ) :
    wt (pp (bk r n)) a i j * bef R r n j c = wt (pp (bk r n)) a i j * R (pv (bk r n)) j c := by
  unfold bef
  cases e : hasP (bk r n)
  · have : wt (pp (bk r n)) a i j = 0 := by simp [wt, pp, e]
    rw [this, zero_mul, zero_mul]
  · rfl

omit hq hk in
/-- The weighted sum of the values, over the reals. -/
def num (Q K V : Rows) (b : Fin 32) (h : Fin 4) (i : Fin 128) (d : Fin 64) : ℝ :=
  ∑ j, wt pc (ac Q K b h) i j * V b j (at' h d) + ∑ j, wt (pp b) (ap Q K b h) i j * V (pv b) j (at' h d)

omit hq hk in
theorem num_eq : num Q K V (bk r n) h i d = O Q K V (bk r n) i (at' h d) * Z Q K (bk r n) h i := by
  unfold num O
  rw [hd_at, div_mul_cancel₀ _ (Z_pos Q K (bk r n) h i).ne']

include hv in
theorem v74_at : res_main_v74 V0 (ix6 z h r n i d) = ((num Q K V (bk r n) h i d * Real.exp (-mx V0 0 h r n i) : ℝ) : EReal) := by
  pointwise [res_main_v74]
  rw [sum_window]
  simp only [v71_hi hq hk, v71_lo hq hk, v29_hi hv, v29_lo hv, ← EReal.coe_mul, coe_sum, ← EReal.coe_add]
  refine congrArg _ ?_
  unfold num
  rw [add_mul, Finset.sum_mul, Finset.sum_mul]
  refine congrArg₂ (· + ·) (Finset.sum_congr rfl fun j _ => by ring) (Finset.sum_congr rfl fun j _ => ?_)
  rw [mul_right_comm, wt_bef]

include hv in
/-- The reference's attention. -/
theorem out_at : Ideal.div (res_main_v74 V0 (ix6 z h r n i d)) (res_main_v73 V0 (ix6 z h r n i 0)) = ((O Q K V (bk r n) i (at' h d) : ℝ) : EReal) := by
  have hz := Z_pos Q K (bk r n) h i
  have he := Real.exp_pos (-mx V0 0 h r n i)
  rw [v74_at (V0 := V0) hq hk hv, v73_at (V0 := V0) hq hk, Ideal.div_coe (mul_pos hz he).ne', ← EReal.coe_mul, num_eq]
  refine congrArg _ ?_
  field_simp

/-- The reference's log-sum-exp. -/
theorem lse_at : @HAdd.hAdd EReal EReal EReal _ (res_main_v68 V0 (ix6 z h r n i 0)) (Ideal.log (res_main_v73 V0 (ix6 z h r n i 0))) = ((L Q K (bk r n) i (at' h d) : ℝ) : EReal) := by
  have hz := Z_pos Q K (bk r n) h i
  have he := Real.exp_pos (-mx V0 0 h r n i)
  have e0 : z = 0 := Subsingleton.elim _ _
  rw [v73_at hq hk, v68_at hq hk, Ideal.log_coe, if_neg (not_le.mpr (mul_pos hz he)), Real.log_mul hz.ne' he.ne', Real.log_exp, e0, ← EReal.coe_add]
  refine congrArg _ ?_
  unfold L
  rw [hd_at]
  ring

end Cert.Ref

end
-- ==== Proof.RefBackward.lean ====
/- The reference's backward pass read at an index, over the reals. -/
module

public import proofs.«01_k».proof.Proof.RefForward

@[expose] public section

set_option maxRecDepth 16384

noncomputable section

namespace Cert.Ref

open Idealize.ShloMosaic Cert.ReferenceIdeal Cert.ReferenceIdeal.Value Cert.Attn
open Idealize.ShloMosaic.TcCoe
open Idealize.SL Idealize.SL.Sem

/-! ## Over the reals -/

section
variable (Q K V G D : Rows) (b : Fin 32) (h : Fin 4) (i j : Fin 128)

theorem lane_sum (f g : Fin 256 → ℝ) : ∑ c, f c * lane h c * g c = ∑ d : Fin 64, f (at' h d) * g (at' h d) := by
  rw [← sum_lane h fun c => f c * g c]
  exact Finset.sum_congr rfl fun c _ => by ring

theorem Dl_eq : Dl Q K V G D b h i = ∑ d : Fin 64, D b i (at' h d) - ∑ d : Fin 64, G b i (at' h d) * O Q K V b i (at' h d) := by
  unfold Dl
  rw [← sum_lane h fun c => D b i c, ← sum_lane h fun c => G b i c * O Q K V b i c]
  exact congrArg₂ _ (Finset.sum_congr rfl fun c _ => by ring) (Finset.sum_congr rfl fun c _ => by ring)

/-- The probabilities of a row sum to one. -/
theorem prob_sum : ∑ j, Pc Q K b h i j + ∑ j, Pp Q K b h i j = 1 := by
  unfold Pc Pp
  rw [← Finset.sum_div, ← Finset.sum_div, ← add_div]
  exact div_self (Z_pos Q K b h i).ne'

/-- The gradients of a row's probabilities, weighted, sum to the sum of `D`. -/
theorem row_sum : ∑ j, Pc Q K b h i j * (∑ c, G b i c * lane h c * V b j c + Dl Q K V G D b h i)
    + ∑ j, Pp Q K b h i j * (∑ c, G b i c * lane h c * V (pv b) j c + Dl Q K V G D b h i) = ∑ d : Fin 64, D b i (at' h d) := by
  have e : ∑ j, Pc Q K b h i j * ∑ c, G b i c * lane h c * V b j c + ∑ j, Pp Q K b h i j * ∑ c, G b i c * lane h c * V (pv b) j c
      = ∑ d : Fin 64, G b i (at' h d) * O Q K V b i (at' h d) := by
    simp only [lane_sum, Finset.mul_sum]
    rw [Finset.sum_comm, Finset.sum_comm (f := fun j d => Pp Q K b h i j * (G b i (at' h d) * V (pv b) j (at' h d))), ← Finset.sum_add_distrib]
    refine Finset.sum_congr rfl fun d _ => ?_
    unfold O Pc Pp
    rw [hd_at, mul_div_assoc', mul_add, add_div, Finset.mul_sum, Finset.mul_sum, Finset.sum_div, Finset.sum_div]
    exact congrArg₂ _ (Finset.sum_congr rfl fun j _ => by ring) (Finset.sum_congr rfl fun j _ => by ring)
  simp only [mul_add, Finset.sum_add_distrib, ← Finset.sum_mul]
  have p := prob_sum Q K b h i
  have := Dl_eq Q K V G D b h i
  linear_combination e + Dl Q K V G D b h i * p + this

/-- One weight with a scale, times a sum over the same scale. -/
theorem scaled (w Z E y : ℝ) (hZ : 0 < Z) (hE : 0 < E) (g v : Fin 64 → ℝ) :
    (∑ d, g d / (Z * E) * v d + y / (Z * E)) * (w * E) = w / Z * (∑ d, g d * v d + y) := by
  have : ∑ d, g d / (Z * E) * v d = (∑ d, g d * v d) / (Z * E) := by
    rw [Finset.sum_div]; exact Finset.sum_congr rfl fun d _ => by ring
  rw [this]
  field_simp

end

variable {V0 : Valuation τ sig (Elt Ideal)} {Q K V G D : Rows}
  (hq : Holds (V0 (Proc.devRef .tc main_arg0)) Q) (hk : Holds (V0 (Proc.devRef .tc main_arg1)) K) (hv : Holds (V0 (Proc.devRef .tc main_arg2)) V)
  (hg : Holds (V0 (Proc.devRef .tc main_arg3)) G) (hd : Holds (V0 (Proc.devRef .tc main_arg4)) D)
  (z : Fin 1) (h r : Fin 4) (n : Fin 8) (i : Fin 128) (j : Fin 128) (d : Fin 64)

theorem Pp_bef (R : Rows) (c : Fin 256) : Pp Q K (bk r n) h i j * bef R r n j c = Pp Q K (bk r n) h i j * R (pv (bk r n)) j c := by
  unfold Pp
  rw [div_mul_eq_mul_div, div_mul_eq_mul_div, wt_bef]

include hd in
theorem v105_at : res_main_v105 V0 (ix6 z h r n i 0) = ((∑ d : Fin 64, D (bk r n) i (at' h d) : ℝ) : EReal) := by
  pointwise [res_main_v105]
  rw [reduce_head]
  simp only [Fin.sum_univ_one]
  pointwise
  rw [reduce_head]
  pointwise
  refine (Finset.sum_congr rfl fun d _ => hd r n i (at' h d)).trans ?_
  exact coe_sum _ _

include hq hk hg in
theorem v115_at : res_main_v115 V0 (ix6 z h r n i d) = ((G (bk r n) i (at' h d) / (Z Q K (bk r n) h i * Real.exp (-mx V0 0 h r n i)) : ℝ) : EReal) := by
  pointwise [res_main_v115]
  rw [v104_at hg, v73_at hq hk, Ideal.div_coe (mul_pos (Z_pos Q K (bk r n) h i) (Real.exp_pos _)).ne', ← EReal.coe_mul, mul_one_div]

include hq hk hg in
theorem v117_hi : res_main_v117 V0 (ix6 z h r n (hi j) d) = ((∑ i, Pc Q K (bk r n) h i j * G (bk r n) i (at' h d) : ℝ) : EReal) := by
  pointwise [res_main_v117]
  simp only [v115_at hq hk hg, v71_hi hq hk, ← EReal.coe_mul, coe_sum]
  refine congrArg _ (Finset.sum_congr rfl fun i _ => ?_)
  unfold Pc
  have := Z_pos Q K (bk r n) h i
  have := Real.exp_pos (-mx V0 0 h r n i)
  field_simp

include hq hk hg in
theorem v117_lo : res_main_v117 V0 (ix6 z h r n (lo j) d) = ((∑ i, Pp Q K (bk r n) h i j * G (bk r n) i (at' h d) : ℝ) : EReal) := by
  pointwise [res_main_v117]
  simp only [v115_at hq hk hg, v71_lo hq hk, ← EReal.coe_mul, coe_sum]
  refine congrArg _ (Finset.sum_congr rfl fun i _ => ?_)
  unfold Pp
  have := Z_pos Q K (bk r n) h i
  have := Real.exp_pos (-mx V0 0 h r n i)
  field_simp

include hq hk hv hg hd in
theorem v123_at (J : Fin 256) : res_main_v123 V0 (ix6 z h r n i J)
    = @HMul.hMul EReal EReal EReal _ (∑ d, @HMul.hMul EReal EReal EReal _ (res_main_v115 V0 (ix6 z h r n i d)) (res_main_v29 V0 (ix6 z h r n J d))
      + ((Dl Q K V G D (bk r n) h i / (Z Q K (bk r n) h i * Real.exp (-mx V0 0 h r n i)) : ℝ) : EReal)) (res_main_v71 V0 (ix6 z h r n i J)) := by
  have hz := Z_pos Q K (bk r n) h i
  have he := Real.exp_pos (-mx V0 0 h r n i)
  pointwise [res_main_v123]
  refine congrArg (fun y => (_ + y) * _) ?_
  rw [reduce_col]
  pointwise
  rw [reduce_row]
  pointwise
  simp only [v105_at hd, v73_at hq hk, v104_at hg, v74_at hq hk hv, Ideal.div_coe (mul_pos hz he).ne', Ideal.div_coe (mul_pos (mul_pos hz he) (mul_pos hz he)).ne', one_mul,
    ← EReal.coe_mul, coe_sum, ← EReal.coe_neg, ← EReal.coe_add]
  refine congrArg _ ?_
  have e : ∑ d : Fin 64, G (bk r n) i (at' h d) * (1 / (Z Q K (bk r n) h i * Real.exp (-mx V0 0 h r n i) * (Z Q K (bk r n) h i * Real.exp (-mx V0 0 h r n i))))
      * (num Q K V (bk r n) h i d * Real.exp (-mx V0 0 h r n i))
      = (∑ d : Fin 64, G (bk r n) i (at' h d) * O Q K V (bk r n) i (at' h d)) / (Z Q K (bk r n) h i * Real.exp (-mx V0 0 h r n i)) := by
    rw [Finset.sum_div]
    refine Finset.sum_congr rfl fun d _ => ?_
    rw [num_eq]
    field_simp
  rw [e, Dl_eq]
  ring

include hq hk hv hg hd in
theorem v123_hi : res_main_v123 V0 (ix6 z h r n i (hi j))
    = ((Pc Q K (bk r n) h i j * (∑ c, G (bk r n) i c * lane h c * V (bk r n) j c + Dl Q K V G D (bk r n) h i) : ℝ) : EReal) := by
  rw [v123_at hq hk hv hg hd]
  simp only [v115_at hq hk hg, v29_hi hv, v71_hi hq hk, ← EReal.coe_mul, coe_sum, ← EReal.coe_add, lane_sum]
  exact congrArg _ (scaled _ _ _ _ (Z_pos Q K (bk r n) h i) (Real.exp_pos _) _ _)

include hq hk hv hg hd in
theorem v123_lo : res_main_v123 V0 (ix6 z h r n i (lo j))
    = ((Pp Q K (bk r n) h i j * (∑ c, G (bk r n) i c * lane h c * V (pv (bk r n)) j c + Dl Q K V G D (bk r n) h i) : ℝ) : EReal) := by
  rw [v123_at hq hk hv hg hd]
  simp only [v115_at hq hk hg, v29_lo hv, v71_lo hq hk, ← EReal.coe_mul, coe_sum, ← EReal.coe_add, lane_sum]
  refine congrArg _ ((scaled _ _ _ _ (Z_pos Q K (bk r n) h i) (Real.exp_pos _) _ _).trans ?_)
  show Pp Q K (bk r n) h i j * _ = _
  rw [mul_add, mul_add, Finset.mul_sum, Finset.mul_sum]
  refine congrArg (· + _) (Finset.sum_congr rfl fun d _ => ?_)
  rw [mul_left_comm, Pp_bef, mul_left_comm]

/-- How many places reach the row's maximum matters not: what is shared among them is zero. -/
theorem share_zero (f : Fin 256 → EReal) (pos : ∀ J, 0 ≤ f J) (J : Fin 256) : Ideal.div 0 (∑ J, f J) * f J = 0 := by
  unfold Ideal.div
  by_cases e : ∑ J, f J = 0
  · rw [(Finset.sum_eq_zero_iff_of_nonneg fun J _ => pos J).mp e J (Finset.mem_univ _), mul_zero]
  · rw [if_neg e, zero_mul, zero_mul]

theorem v66_nonneg (J : Fin 256) : @LE.le EReal _ 0 (res_main_v66 V0 (ix6 z h r n i J)) := by
  pointwise [res_main_v66]
  exact EReal.coe_nonneg.mpr (Nat.cast_nonneg _)

include hq hk hv hg hd in
theorem v136_at (J : Fin 256) : res_main_v136 V0 (ix6 z h r n i J)
    = Ideal.div (Scalar.select (res_main_v61_1 V0 (ix6 z h r n i J)) (res_main_v123 V0 (ix6 z h r n i J)) 0) ((8 : ℝ) : EReal) := by
  pointwise [res_main_v136]
  rw [reduce_col, reduce_row]
  pointwise
  rw [reduce_row]
  pointwise
  obtain rfl : z = 0 := Subsingleton.elim _ _
  have num : @HAdd.hAdd EReal EReal EReal _ (res_main_v105 V0 (ix6 0 h r n i 0)) (∑ x, @Neg.neg EReal _ (res_main_v123 V0 (ix6 0 h r n i x))) = 0 := by
    rw [sum_window]
    simp only [v105_at hd, v123_hi hq hk hv hg hd, v123_lo hq hk hv hg hd, ← EReal.coe_neg, coe_sum, ← EReal.coe_add]
    rw [← EReal.coe_zero]
    refine congrArg _ ?_
    rw [Finset.sum_neg_distrib, Finset.sum_neg_distrib]
    linear_combination -row_sum Q K V G D (bk r n) h i
  rw [num, ofBits_eight]
  have := share_zero (fun J => res_main_v66 V0 (ix6 0 h r n i J)) (v66_nonneg 0 h r n i) J
  rw [this, add_zero]

/-- A gradient that is zero outside the band, read through the band, over eight. -/
theorem banded (p : Bool) (x : ℝ) (hx : p = false → x = 0) :
    Ideal.div (Scalar.select (if p then 1#1 else 0#1) ((x : ℝ) : EReal) 0) ((8 : ℝ) : EReal) = ((x * (1 / 8) : ℝ) : EReal) := by
  rw [Ideal.div_coe (by norm_num)]
  cases p
  · rw [hx rfl, zero_mul]
    simp [Scalar.select]
  · simp only [if_true]
    rw [EReal.coe_mul]
    rfl

include hq hk hv hg hd in
theorem v136_hi : res_main_v136 V0 (ix6 z h r n i (hi j)) = ((Sc Q K V G D (bk r n) h i j : ℝ) : EReal) := by
  rw [v136_at hq hk hv hg hd, v61_1_hi, v123_hi hq hk hv hg hd, banded]
  · rfl
  · intro e
    simp [Pc, wt, e]

include hq hk hv hg hd in
theorem v136_lo : res_main_v136 V0 (ix6 z h r n i (lo j)) = ((Sp Q K V G D (bk r n) h i j : ℝ) : EReal) := by
  rw [v136_at hq hk hv hg hd, v61_1_lo, v123_lo hq hk hv hg hd, banded]
  · rfl
  · intro e
    simp [Pp, wt, e]

theorem Sp_bef (R : Rows) (c : Fin 256) : Sp Q K V G D (bk r n) h i j * bef R r n j c = Sp Q K V G D (bk r n) h i j * R (pv (bk r n)) j c := by
  unfold Sp
  linear_combination ((∑ c, G (bk r n) i c * lane h c * V (pv (bk r n)) j c + Dl Q K V G D (bk r n) h i) * (1 / 8)) * Pp_bef (Q := Q) (K := K) h r n i j R c

include hq hk hv hg hd in
theorem v137_hi : res_main_v137 V0 (ix6 z h r n (hi j) d) = ((∑ i, Sc Q K V G D (bk r n) h i j * Q (bk r n) i (at' h d) : ℝ) : EReal) := by
  pointwise [res_main_v137]
  simp only [v136_hi hq hk hv hg hd, v9_at hq, ← EReal.coe_mul, coe_sum]

include hq hk hv hg hd in
theorem v137_lo : res_main_v137 V0 (ix6 z h r n (lo j) d) = ((∑ i, Sp Q K V G D (bk r n) h i j * Q (bk r n) i (at' h d) : ℝ) : EReal) := by
  pointwise [res_main_v137]
  simp only [v136_lo hq hk hv hg hd, v9_at hq, ← EReal.coe_mul, coe_sum]

end Cert.Ref

end
-- ==== Proof.RefLayouts.lean ====
/- The layouts of the reference's results, read at an index. -/
module

public import proofs.«01_k».proof.Proof.RefForward
public import proofs.«01_k».proof.Proof.Regions

@[expose] public section

set_option maxRecDepth 16384

noncomputable section

namespace Cert.Ref

open Idealize.ShloMosaic Cert.ReferenceIdeal Cert.ReferenceIdeal.Value Cert.Attn
open Idealize.ShloMosaic.TcCoe
open Idealize.SL Idealize.SL.Sem

/-- An array that holds real rows, read at every block, row, head and lane. -/
theorem arr_ext (A : S4096x256.Idx → EReal) (R : Rows)
    (e : ∀ (r : Fin 4) (n : Fin 8) (i : Fin 128) (h : Fin 4) (d : Fin 64),
      A (ix2 ⟨(r.val * 8 + n.val) * 128 + i.val, by omega⟩ ⟨h.val * 64 + d.val, by omega⟩) = ((R (bk r n) i (at' h d) : ℝ) : EReal)) : A = arr R := by
  funext y
  have h0 : (y 0).val < 4096 := (y 0).isLt
  have h1 : (y 1).val < 256 := (y 1).isLt
  have ey : y = ix2 ⟨((y 0).val / 1024 * 8 + (y 0).val / 128 % 8) * 128 + (y 0).val % 128, by omega⟩ ⟨(y 1).val / 64 * 64 + (y 1).val % 64, by omega⟩ := by
    funext a
    match a with
    | 0 => exact Fin.ext (by show (y 0).val = ((y 0).val / 1024 * 8 + (y 0).val / 128 % 8) * 128 + (y 0).val % 128; omega)
    | 1 => exact Fin.ext (by show (y 1).val = (y 1).val / 64 * 64 + (y 1).val % 64; omega)
  have := e ⟨(y 0).val / 1024, by omega⟩ ⟨(y 0).val / 128 % 8, by omega⟩ ⟨(y 0).val % 128, by omega⟩ ⟨(y 1).val / 64, by omega⟩ ⟨(y 1).val % 64, by omega⟩
  rw [show A y = A (ix2 ⟨((y 0).val / 1024 * 8 + (y 0).val / 128 % 8) * 128 + (y 0).val % 128, by omega⟩ ⟨(y 1).val / 64 * 64 + (y 1).val % 64, by omega⟩)
    from congrArg A ey]
  refine this.trans (arr_at R y _ _ _ ?_ ?_).symm
  · show (y 0).val = ((y 0).val / 1024 * 8 + (y 0).val / 128 % 8) * 128 + (y 0).val % 128; omega
  · show (y 1).val = (y 1).val / 64 * 64 + (y 1).val % 64; omega

/-! ## The layouts -/

open Gen in
/-- The tokens sorted by residue. -/
theorem sorted_at (x : S4096x256.Idx → EReal) (r : Fin 4) (n : Fin 8) (i : Fin 128) (c : Fin 256) :
    (shapeCast S4096x256 (transpose S4x1024x256 [1, 0, 2] (shapeCast S1024x4x256 x shapeCasts_S4096x256_S1024x4x256) transposes_S1024x4x256_S4x1024x256_1_0_2)
      shapeCasts_S4x1024x256_S4096x256 : S4096x256.Idx → EReal) (ix2 ⟨(r.val * 8 + n.val) * 128 + i.val, by omega⟩ c)
      = x (ix2 ⟨(n.val * 128 + i.val) * 4 + r.val, by omega⟩ c) := by
  pointwise
  exact congrArg x (congrArg (fun t => ix2 t c) (Fin.ext (by show ((r.val * 8 + n.val) * 128 + i.val) % 1024 * 4 + r.val = (n.val * 128 + i.val) * 4 + r.val; omega)))

open Gen in
/-- The blocks laid out token by token. -/
theorem tokens_at (x : S1x4x4x8x128x64.Idx → EReal) (r : Fin 4) (n : Fin 8) (i : Fin 128) (h : Fin 4) (d : Fin 64) :
    (shapeCast S4096x256 (shapeCast S1x4096x4x64 (transpose S1x1024x4x4x64 [0, 3, 2, 1, 4] (shapeCast S1x4x4x1024x64 x shapeCasts_S1x4x4x8x128x64_S1x4x4x1024x64) transposes_S1x4x4x1024x64_S1x1024x4x4x64_0_3_2_1_4) shapeCasts_S1x1024x4x4x64_S1x4096x4x64)
      shapeCasts_S1x4096x4x64_S4096x256 : S4096x256.Idx → EReal) (ix2 ⟨(n.val * 128 + i.val) * 4 + r.val, by omega⟩ ⟨h.val * 64 + d.val, by omega⟩)
      = x (ix6 0 h r n i d) := by
  pointwise

open Gen in
/-- The same through a pad and a slice that change nothing. -/
theorem padded_at (x : S1x4x4x8x128x64.Idx → EReal) (v : S_.Idx → EReal) (r : Fin 4) (n : Fin 8) (i : Fin 128) (h : Fin 4) (d : Fin 64) :
    (shapeCast S4096x256 (extractStridedSlice S1x4096x4x64 ![0, 0, 0, 0] (pad S1x4096x4x64 ![0, 0, 0, 0] ![0, 0, 0, 0] ![0, 0, 0, 0] (shapeCast S1x4096x4x64 (transpose S1x1024x4x4x64 [0, 3, 2, 1, 4] (shapeCast S1x4x4x1024x64 x shapeCasts_S1x4x4x8x128x64_S1x4x4x1024x64) transposes_S1x4x4x1024x64_S1x1024x4x4x64_0_3_2_1_4) shapeCasts_S1x1024x4x4x64_S1x4096x4x64) v pads_S1x4096x4x64_S1x4096x4x64_000_000_000_000 h_S_) slices_S1x4096x4x64_S1x4096x4x64_0_0_0_0)
      shapeCasts_S1x4096x4x64_S4096x256 : S4096x256.Idx → EReal) (ix2 ⟨(n.val * 128 + i.val) * 4 + r.val, by omega⟩ ⟨h.val * 64 + d.val, by omega⟩)
      = x (ix6 0 h r n i d) := by
  pointwise
  rw [dif_pos (by omega)]

open Gen in
/-- A head's number on every lane of the head. -/
theorem spread_at (x : S1x4x4x8x128x1.Idx → EReal) (r : Fin 4) (n : Fin 8) (i : Fin 128) (h : Fin 4) (d : Fin 64) :
    (shapeCast S4096x256 (broadcastInDim S1x4096x4x64 ![0, 1, 2, 3] bcast_S1x4096x4x1_S1x4096x4x64_0_1_2_3 (broadcastInDim S1x4096x4x1 ![0, 1, 2] bcast_S1x4096x4_S1x4096x4x1_0_1_2 (shapeCast S1x4096x4 (transpose S1x1024x4x4 [0, 3, 2, 1] (shapeCast S1x4x4x1024 (shapeCast S1x4x4x8x128 x shapeCasts_S1x4x4x8x128x1_S1x4x4x8x128) shapeCasts_S1x4x4x8x128_S1x4x4x1024) transposes_S1x4x4x1024_S1x1024x4x4_0_3_2_1) shapeCasts_S1x1024x4x4_S1x4096x4)))
      shapeCasts_S1x4096x4x64_S4096x256 : S4096x256.Idx → EReal) (ix2 ⟨(n.val * 128 + i.val) * 4 + r.val, by omega⟩ ⟨h.val * 64 + d.val, by omega⟩)
      = x (ix6 0 h r n i 0) := by
  pointwise

end Cert.Ref

end
-- ==== Proof.RefResults.lean ====
/- The reference's five results, as the rows' arrays. -/
module

public import proofs.«01_k».proof.Proof.RefBackward
public import proofs.«01_k».proof.Proof.RefLayouts

@[expose] public section

set_option maxRecDepth 16384

noncomputable section

namespace Cert.Ref

open Idealize.ShloMosaic Cert.ReferenceIdeal Cert.ReferenceIdeal.Value Cert.Attn
open Idealize.ShloMosaic.TcCoe
open Idealize.SL Idealize.SL.Sem

variable {V0 : Valuation τ sig (Elt Ideal)} {Q K V G D : Rows}
  (hq : Holds (V0 (Proc.devRef .tc main_arg0)) Q) (hk : Holds (V0 (Proc.devRef .tc main_arg1)) K) (hv : Holds (V0 (Proc.devRef .tc main_arg2)) V)
  (hg : Holds (V0 (Proc.devRef .tc main_arg3)) G) (hd : Holds (V0 (Proc.devRef .tc main_arg4)) D)

include hq hk hv in
/-- The attention. -/
theorem res_o : val4 V0 (Proc.devRef .tc main_v168) = arr (O Q K V) := by
  rw [val4_main_v168]
  refine arr_ext _ _ fun r n i h d => (sorted_at _ r n i _).trans ((tokens_at _ r n i h d).trans ?_)
  pointwise
  exact out_at hq hk hv 0 h r n i d

/-- A sum with a logarithm, at an index. -/
theorem add_log_at {s : Shape} (x y : FVec Ideal s .f32) (j : s.Idx) : addf x (Host.log y) j = @HAdd.hAdd EReal EReal EReal _ (x j) (Ideal.log (y j)) := rfl

include hq hk in
/-- The log-sum-exp. -/
theorem res_l : val4 V0 (Proc.devRef .tc main_v171) = arr (L Q K) := by
  rw [val4_main_v171]
  exact arr_ext _ _ fun r n i h d => (sorted_at _ r n i _).trans ((spread_at _ r n i h d).trans
    ((add_log_at _ _ _).trans (lse_at hq hk 0 h r n i d)))

include hq hk hv hg hd in
/-- The queries' gradient. -/
theorem res_dq : val4 V0 (Proc.devRef .tc main_v174) = arr (dQ Q K V G D) := by
  rw [val4_main_v174]
  refine arr_ext _ _ fun r n i h d => (sorted_at _ r n i _).trans ((padded_at _ _ r n i h d).trans ?_)
  pointwise
  rw [sum_window]
  simp only [v136_hi hq hk hv hg hd, v136_lo hq hk hv hg hd, v19_hi hk, v19_lo hk, ← EReal.coe_mul, coe_sum, ← EReal.coe_add, Sp_bef]
  unfold dQ
  rw [hd_at]

/-- The block after the last before it, where there is one. -/
theorem next_block (r : Fin 4) (n : Fin 8) (f : Fin 32 → ℝ) (x : Fin 8 → EReal) (e : ∀ n', x n' = ((f (bk r n') : ℝ) : EReal)) :
    (if h : n.val < 7 then x ⟨1 + n.val, by omega⟩ else 0) = (((if hasN (bk r n) then f (nx (bk r n)) else 0 : ℝ)) : EReal) := by
  have hN : hasN (bk r n) = decide (n.val < 7) := by
    simp only [hasN, bk]
    exact decide_eq_decide.mpr (by omega)
  rw [hN]
  by_cases h : n.val < 7
  · have : nx (bk r n) = bk r ⟨1 + n.val, by omega⟩ := by
      apply Fin.ext; simp only [nx, bk]; omega
    simp only [h, dite_true, decide_true, if_true, this, e]
  · simp [h]

include hq hk hv hg hd in
/-- The keys' gradient. -/
theorem res_dk : val4 V0 (Proc.devRef .tc main_v177) = arr (dK Q K V G D) := by
  rw [val4_main_v177]
  refine arr_ext _ _ fun r n i h d => (sorted_at _ r n i _).trans ((padded_at _ _ r n i h d).trans ?_)
  pointwise
  have e : (⟨128 + i.val, by omega⟩ : Fin 256) = hi i := Fin.ext (Nat.add_comm _ _)
  rw [e, v137_hi hq hk hv hg hd, next_block r n (fun b => ∑ i', Sp Q K V G D b h i' i * Q b i' (at' h d)) (fun n' => res_main_v149 V0 (ix6 0 h r n' i d))
    fun n' => ?_]
  · unfold dK
    rw [hd_at, EReal.coe_add]
  · pointwise [res_main_v149]
    exact v137_lo hq hk hv hg hd 0 h r n' i d

include hq hk hg in
/-- The values' gradient. -/
theorem res_dv : val4 V0 (Proc.devRef .tc main_v180) = arr (dV Q K G) := by
  rw [val4_main_v180]
  refine arr_ext _ _ fun r n i h d => (sorted_at _ r n i _).trans ((padded_at _ _ r n i h d).trans ?_)
  pointwise
  have e : (⟨128 + i.val, by omega⟩ : Fin 256) = hi i := Fin.ext (Nat.add_comm _ _)
  rw [e, v117_hi hq hk hg, next_block r n (fun b => ∑ i', Pp Q K b h i' i * G b i' (at' h d)) (fun n' => res_main_v139 V0 (ix6 0 h r n' i d))
    fun n' => ?_]
  · unfold dV
    rw [hd_at, EReal.coe_add]
  · pointwise [res_main_v139]
    exact v117_lo hq hk hg 0 h r n' i d

end Cert.Ref

end
-- ==== Proof.RefRun.lean ====
/- The reference's run: its arguments end as they were, its counters at zero, and its results as the rows' arrays. -/
module

public import proofs.«01_k».proof.Proof.RefResults
public import Idealize.ShloMosaic.Lib.Quiescent

@[expose] public section

noncomputable section

namespace Cert.Ref

open Idealize.ShloMosaic Cert.ReferenceIdeal Cert.ReferenceIdeal.Value Cert.Attn
open Idealize.ShloMosaic.TcCoe
open Idealize.SL Idealize.SL.Sem

variable (m : (ℓ : Loc nD τ sig) → Buf (Elt Ideal) ℓ) (ρ : Dev nD → PrngReg)

/-- The reference's run, every buffer by the operations' own terms. -/
theorem run_vals : θ_run defs (onTc (τ := τ) (main (F := Ideal))) ⟨m, fun _ => 0, ρ⟩ fun r =>
    ∀ (c : Dev nD) (b : Ref sig .tc), r.2.mem ((c.tc : Thread nD τ).loc b) = val4 (StableHlo.launchContents m c) (Proc.devRef .tc b) :=
  (θ_run defs _ _).mono (fun _ h c b => (h c b).trans (congrFun (after_ops (StableHlo.launchContents m c)) (Proc.devRef .tc b)))
    (StableHlo.run_seq scopedRefs_eq scopedSems_eq defs main (fun _ => ops) main_eq (fun _ => ops_sub) m ρ fun _ => ops_fresh)

/-- The reference leaves its arguments and its counters as they were. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => ⟨(h c main_arg0).trans (val4_main_arg0 _), (h c main_arg1).trans (val4_main_arg1 _),
    (h c main_arg2).trans (val4_main_arg2 _), (h c main_arg3).trans (val4_main_arg3 _), (h c main_arg4).trans (val4_main_arg4 _)⟩,
    sem_eq_zero_of_no_sems (by decide) r.2⟩) (run_vals m ρ)

end Cert.Ref

end
-- ==== Proof.Mat.lean ====
/- Products of matrices of extended reals, and how a product of a band of rows and a band of columns sits in the product
   of the whole matrices: each of its entries is the same sum. -/
module

public import Idealize.ShloMosaic.Lib.Pointwise
public import Idealize.ShloMosaic.Lib.Pipeline.ValueKit.Basic

@[expose] public section

noncomputable section

namespace Cert.Mat

open Idealize.ShloMosaic

variable {M K N : Nat}

/-- The indices of a matrix. -/
abbrev Ix (M N : Nat) := (⟨2, ![M, N]⟩ : Shape).Idx

/-- The product of two matrices. -/
def nn (A : Ix M K → EReal) (B : Ix K N → EReal) (y : Ix M N) : EReal := ∑ k : Fin K, A (ix2 (y 0) k) * B (ix2 k (y 1))

/-- The product added to a matrix. -/
def nnAdd (A : Ix M K → EReal) (B : Ix K N → EReal) (C : Ix M N → EReal) (y : Ix M N) : EReal := nn A B y + C y

/-- The product with the second matrix transposed. -/
def nt (A : Ix M K → EReal) (B : Ix N K → EReal) (y : Ix M N) : EReal := ∑ k : Fin K, A (ix2 (y 0) k) * B (ix2 (y 1) k)

/-- The product with the first matrix transposed. -/
def tn (A : Ix K M → EReal) (B : Ix K N → EReal) (y : Ix M N) : EReal := ∑ k : Fin K, A (ix2 k (y 0)) * B (ix2 k (y 1))

/-- An index is its two coordinates. -/
theorem eta (x : Ix M N) : ∃ (i : Fin M) (l : Fin N), x = ix2 i l :=
  ⟨x 0, x 1, funext fun a => by match a with | 0 => rfl | 1 => rfl⟩

theorem ix_ext {x : Ix M N} {i : Fin M} {l : Fin N} (h : (x 0).val = i.val ∧ (x 1).val = l.val) : x = ix2 i l :=
  funext fun a => by match a with | 0 => exact Fin.ext h.1 | 1 => exact Fin.ext h.2

/-- A block's indices in the array: the block starts at multiples of its size. -/
abbrev At {m n M N : Nat} (f : Ix m n → Ix M N) (a s b r : Nat) : Prop := ∀ y, (f y 0).val = a * s + (y 0).val ∧ (f y 1).val = b * r + (y 1).val

/-- Entries of two blocks in a row of their own at the same offset lie in the same row. -/
theorem row_ix {m n N' : Nat} {f : Ix m K → Ix M K} {e : Ix m n → Ix M N'} {a s b r p u u' : Nat} (hf : At f a s b r) (he : At e p s u u')
    (h : a = p) (h' : b = 0) (i : Fin m) (k : Fin K) (l : Fin n) : f (ix2 i k) = ix2 (e (ix2 i l) 0) k :=
  ix_ext ⟨by rw [(hf _).1, (he _).1, h]; rfl, by rw [(hf _).2, h', Nat.zero_mul, Nat.zero_add]; rfl⟩

theorem col_ix {m n N' : Nat} {g : Ix K n → Ix K N} {e : Ix m n → Ix N' N} {a s b r p u u' : Nat} (hg : At g a s b r) (he : At e u u' p r)
    (h : a = 0) (h' : b = p) (i : Fin m) (k : Fin K) (l : Fin n) : g (ix2 k l) = ix2 k (e (ix2 i l) 1) :=
  ix_ext ⟨by rw [(hg _).1, h, Nat.zero_mul, Nat.zero_add]; rfl, by rw [(hg _).2, (he _).2, h']; rfl⟩

theorem row_ix' {m n M' : Nat} {g : Ix n K → Ix N K} {e : Ix m n → Ix M' N} {a s b r p u u' : Nat} (hg : At g a s b r) (he : At e u u' p s)
    (h : a = p) (h' : b = 0) (i : Fin m) (k : Fin K) (l : Fin n) : g (ix2 l k) = ix2 (e (ix2 i l) 1) k :=
  ix_ext ⟨by rw [(hg _).1, (he _).2, h]; rfl, by rw [(hg _).2, h', Nat.zero_mul, Nat.zero_add]; rfl⟩

theorem col_ix' {m n N' : Nat} {f : Ix K m → Ix K M} {e : Ix m n → Ix M N'} {a s b r p u u' : Nat} (hf : At f a s b r) (he : At e p r u u')
    (h : a = 0) (h' : b = p) (i : Fin m) (k : Fin K) (l : Fin n) : f (ix2 k i) = ix2 k (e (ix2 i l) 0) :=
  ix_ext ⟨by rw [(hf _).1, h, Nat.zero_mul, Nat.zero_add]; rfl, by rw [(hf _).2, (he _).1, h']; rfl⟩

variable {m n a a' b b' p q s s' u u' : Nat}

/-- A sum over a row of a band of rows and a column of a band of columns is an entry of the product: the block of the product
    lies at the band of rows' row and the band of columns' column. -/
theorem nn_of (A : Ix M K → EReal) (B : Ix K N → EReal) {f : Ix m K → Ix M K} {g : Ix K n → Ix K N} {e : Ix m n → Ix M N}
    (hf : At f a s a' s') (hg : At g b u' b' u) (he : At e p s q u) (h : a = p ∧ a' = 0 ∧ b = 0 ∧ b' = q) (i : Fin m) (l : Fin n) :
    ∑ k, A (f (ix2 i k)) * B (g (ix2 k l)) = nn A B (e (ix2 i l)) :=
  Finset.sum_congr rfl fun k _ => by rw [row_ix hf he h.1 h.2.1 i k l, col_ix hg he h.2.2.1 h.2.2.2 i k l]; rfl

theorem nnAdd_of (A : Ix M K → EReal) (B : Ix K N → EReal) (C : Ix M N → EReal) {c c' : Nat} {f : Ix m K → Ix M K} {g : Ix K n → Ix K N}
    {d e : Ix m n → Ix M N} (hf : At f a s a' s') (hg : At g b u' b' u) (hd : At d c s c' u) (he : At e p s q u)
    (h : a = p ∧ a' = 0 ∧ b = 0 ∧ b' = q) (h' : c = p ∧ c' = q) (i : Fin m) (l : Fin n) :
    (∑ k, A (f (ix2 i k)) * B (g (ix2 k l))) + C (d (ix2 i l)) = nnAdd A B C (e (ix2 i l)) :=
  congrArg₂ (· + ·) (nn_of A B hf hg he h i l) (congrArg C (funext fun x => Fin.ext (by
    match x with
    | 0 => rw [(hd _).1, (he _).1, h'.1]
    | 1 => rw [(hd _).2, (he _).2, h'.2])))

theorem nt_of (A : Ix M K → EReal) (B : Ix N K → EReal) {f : Ix m K → Ix M K} {g : Ix n K → Ix N K} {e : Ix m n → Ix M N}
    (hf : At f a s a' s') (hg : At g b u b' u') (he : At e p s q u) (h : a = p ∧ a' = 0 ∧ b = q ∧ b' = 0) (i : Fin m) (l : Fin n) :
    ∑ k, A (f (ix2 i k)) * B (g (ix2 l k)) = nt A B (e (ix2 i l)) :=
  Finset.sum_congr rfl fun k _ => by rw [row_ix hf he h.1 h.2.1 i k l, row_ix' hg he h.2.2.1 h.2.2.2 i k l]; rfl

theorem tn_of (A : Ix K M → EReal) (B : Ix K N → EReal) {f : Ix K m → Ix K M} {g : Ix K n → Ix K N} {e : Ix m n → Ix M N}
    (hf : At f a s' a' s) (hg : At g b u' b' u) (he : At e p s q u) (h : a = 0 ∧ a' = p ∧ b = 0 ∧ b' = q) (i : Fin m) (l : Fin n) :
    ∑ k, A (f (ix2 k i)) * B (g (ix2 k l)) = tn A B (e (ix2 i l)) :=
  Finset.sum_congr rfl fun k _ => by rw [col_ix' hf he h.1 h.2.1 i k l, col_ix hg he h.2.2.1 h.2.2.2 i k l]; rfl

/-- The transpose of the product of a transposed matrix with another is the product the other way round. -/
theorem tn_swap (A : Ix K M → EReal) (B : Ix K N → EReal) (i : Fin M) (l : Fin N) : tn B A (ix2 l i) = tn A B (ix2 i l) :=
  Finset.sum_congr rfl fun k _ => mul_comm _ _

/-- A place lies in the block its quotient numbers. -/
theorem within {a n x : Nat} (hn : 0 < n) (h : a = x / n) : a * n ≤ x ∧ x < a * n + n := by
  have e := Nat.div_add_mod x n
  have l := Nat.mod_lt x hn
  rw [h, Nat.mul_comm]
  omega

theorem origin : (![0, 0] : Fin 2 → Nat) = fun _ => 0 := funext fun a => by fin_cases a <;> rfl

end Cert.Mat

end
-- ==== Proof.Ffn.lean ====
/- What each of the five blocked products of the feed-forward layer leaves in its result array: the grid's points cover the
   array with blocks, and a block is the product of a band of rows and a band of columns. -/
module

public import proofs.«01_k».proof.Proof.Mat
public import proofs.«01_k».proof.Proof.Gen.Kernel2Ideal.Frame
public import Idealize.ShloMosaic.Lib.Pointwise

@[expose] public section

set_option maxRecDepth 16384

noncomputable section

namespace Cert.Ffn

open Idealize.ShloMosaic Cert.Kernel2Ideal Cert.Kernel2Ideal.Gen Cert.Mat
open Idealize.ShloMosaic.TcCoe
open Idealize.SL Idealize.SL.Sem

variable (V : (c : Dev nD) → (b : Ref sig .tc) → Buf (Elt Ideal) ((c : Thread nD τ).loc b)) (c : Dev nD)

/-! ## The projection up -/

theorem k0_apply (x : Vec Ideal S1024x1024 .bf16) (y : Vec Ideal S1024x512 .bf16) (i : Fin 1024) (l : Fin 512) :
    (k0_pay1 x y (ix2 i l) : EReal) = ∑ k : Fin 1024, @HMul.hMul EReal EReal EReal _ (x (ix2 i k)) (y (ix2 k l)) := by
  pointwise [k0_pay1]

theorem at0 : ∀ t : Fin cfg0.N, win0_0.index t 0 = win0_2.index t 0 ∧ win0_0.index t 1 = 0
    ∧ win0_1.index t 0 = 0 ∧ win0_1.index t 1 = win0_2.index t 1 := by decide +kernel

theorem onto0 : ∀ (a : Fin 4) (b : Fin 11), ∃ t : Fin cfg0.N, win0_2.index t 0 = a.val ∧ win0_2.index t 1 = b.val := by decide +kernel

theorem cover0 (i : S4096x5632.Idx) : ∃ t : Fin cfg0.N, (cfg0.win 2).flush t = true ∧ i ∈ ((cfg0.win 2).blk t).view.set := by
  have h0 : (i 0).val < 4096 := (i 0).isLt
  have h1 : (i 1).val < 5632 := (i 1).isLt
  obtain ⟨t, e0, e1⟩ := onto0 ⟨(i 0).val / 1024, by omega⟩ ⟨(i 1).val / 512, by omega⟩
  refine ⟨t, flush0_2 t, ?_⟩
  show i ∈ ((View.whole main_v0).slice (win0_2.rect t)).set
  rw [View.set_slice_whole, Rect.mem_set_unit]
  intro a
  match a with
  | ⟨0, _⟩ => exact within (n := 1024) (by decide) e0
  | ⟨1, _⟩ => exact within (n := 512) (by decide) e1

theorem final0 : (dat0 V c).arrAt 2 cfg0.N = nn (M := 4096) (K := 1024) (N := 5632) (V c main_arg0) (V c main_arg1) := by
  refine (dat0 V c).arrAt_eq_of_cover 2 (nn (M := 4096) (K := 1024) (N := 5632) (V c main_arg0) (V c main_arg1)) (fun t _ => ?_) cover0
  show (cfg0.win 2).cut (grid0.coords t) ((dat0 V c).after 2 t) = _
  rw [after0_2]
  unfold out0_2
  rw [View.canon_unit_zero origin, View.ld_unit_zero origin, View.ld_unit_zero origin]
  funext x
  obtain ⟨i, l, rfl⟩ := Mat.eta x
  exact (k0_apply _ _ i l).trans (nn_of (V c main_arg0) (V c main_arg1) (fun y => ⟨win0_0.rect_emb_val t y 0, win0_0.rect_emb_val t y 1⟩)
    (fun y => ⟨win0_1.rect_emb_val t y 0, win0_1.rect_emb_val t y 1⟩) (fun y => ⟨win0_2.rect_emb_val t y 0, win0_2.rect_emb_val t y 1⟩) (at0 t) i l)

/-! ## The projection down, added to the residual -/

theorem k1_apply (x : Vec Ideal S1024x2816 .bf16) (y : Vec Ideal S2816x512 .bf16) (z : Vec Ideal S1024x512 .f32) (i : Fin 1024) (l : Fin 512) :
    (k1_pay1 x y z (ix2 i l) : EReal)
      = @HAdd.hAdd EReal EReal EReal _ (∑ k : Fin 2816, @HMul.hMul EReal EReal EReal _ (x (ix2 i k)) (y (ix2 k l))) (z (ix2 i l)) := by
  pointwise [k1_pay1]

theorem at1 : ∀ t : Fin cfg1.N, win1_0.index t 0 = win1_3.index t 0 ∧ win1_0.index t 1 = 0
    ∧ win1_1.index t 0 = 0 ∧ win1_1.index t 1 = win1_3.index t 1 := by decide +kernel

theorem at1_2 : ∀ t : Fin cfg1.N, win1_2.index t 0 = win1_3.index t 0 ∧ win1_2.index t 1 = win1_3.index t 1 := by decide +kernel

theorem onto1 : ∀ (a : Fin 4) (b : Fin 2), ∃ t : Fin cfg1.N, win1_3.index t 0 = a.val ∧ win1_3.index t 1 = b.val := by decide +kernel

theorem cover1 (i : S4096x1024.Idx) : ∃ t : Fin cfg1.N, (cfg1.win 3).flush t = true ∧ i ∈ ((cfg1.win 3).blk t).view.set := by
  have h0 : (i 0).val < 4096 := (i 0).isLt
  have h1 : (i 1).val < 1024 := (i 1).isLt
  obtain ⟨t, e0, e1⟩ := onto1 ⟨(i 0).val / 1024, by omega⟩ ⟨(i 1).val / 512, by omega⟩
  refine ⟨t, flush1_3 t, ?_⟩
  show i ∈ ((View.whole main_v1).slice (win1_3.rect t)).set
  rw [View.set_slice_whole, Rect.mem_set_unit]
  intro a
  match a with
  | ⟨0, _⟩ => exact within (n := 1024) (by decide) e0
  | ⟨1, _⟩ => exact within (n := 512) (by decide) e1

theorem final1 : (dat1 V c).arrAt 3 cfg1.N = nnAdd (M := 4096) (K := 2816) (N := 1024) (V c main_arg2) (V c main_arg3) (V c main_arg4) := by
  refine (dat1 V c).arrAt_eq_of_cover 3 (nnAdd (M := 4096) (K := 2816) (N := 1024) (V c main_arg2) (V c main_arg3) (V c main_arg4)) (fun t _ => ?_) cover1
  show (cfg1.win 3).cut (grid1.coords t) ((dat1 V c).after 3 t) = _
  rw [after1_3]
  unfold out1_3
  rw [View.canon_unit_zero origin, View.ld_unit_zero origin, View.ld_unit_zero origin, View.ld_unit_zero origin]
  funext x
  obtain ⟨i, l, rfl⟩ := Mat.eta x
  exact (k1_apply _ _ _ i l).trans (nnAdd_of (V c main_arg2) (V c main_arg3) (V c main_arg4) (fun y => ⟨win1_0.rect_emb_val t y 0, win1_0.rect_emb_val t y 1⟩)
    (fun y => ⟨win1_1.rect_emb_val t y 0, win1_1.rect_emb_val t y 1⟩) (fun y => ⟨win1_2.rect_emb_val t y 0, win1_2.rect_emb_val t y 1⟩)
    (fun y => ⟨win1_3.rect_emb_val t y 0, win1_3.rect_emb_val t y 1⟩) (at1 t) (at1_2 t) i l)

/-! ## The gradient of the projection down's left factor -/

theorem k2_apply (x : Vec Ideal S1024x1024 .f32) (y : Vec Ideal S1408x1024 .bf16) (i : Fin 1024) (l : Fin 1408) :
    (k2_pay1 x y (ix2 i l) : EReal) = ∑ k : Fin 1024, @HMul.hMul EReal EReal EReal _ (x (ix2 i k)) (y (ix2 l k)) := by
  pointwise [k2_pay1]

theorem at2 : ∀ t : Fin cfg2.N, win2_0.index t 0 = win2_2.index t 0 ∧ win2_0.index t 1 = 0
    ∧ win2_1.index t 0 = win2_2.index t 1 ∧ win2_1.index t 1 = 0 := by decide +kernel

theorem onto2 : ∀ (a : Fin 4) (b : Fin 2), ∃ t : Fin cfg2.N, win2_2.index t 0 = a.val ∧ win2_2.index t 1 = b.val := by decide +kernel

theorem cover2 (i : S4096x2816.Idx) : ∃ t : Fin cfg2.N, (cfg2.win 2).flush t = true ∧ i ∈ ((cfg2.win 2).blk t).view.set := by
  have h0 : (i 0).val < 4096 := (i 0).isLt
  have h1 : (i 1).val < 2816 := (i 1).isLt
  obtain ⟨t, e0, e1⟩ := onto2 ⟨(i 0).val / 1024, by omega⟩ ⟨(i 1).val / 1408, by omega⟩
  refine ⟨t, flush2_2 t, ?_⟩
  show i ∈ ((View.whole main_v2).slice (win2_2.rect t)).set
  rw [View.set_slice_whole, Rect.mem_set_unit]
  intro a
  match a with
  | ⟨0, _⟩ => exact within (n := 1024) (by decide) e0
  | ⟨1, _⟩ => exact within (n := 1408) (by decide) e1

theorem final2 : (dat2 V c).arrAt 2 cfg2.N = nt (M := 4096) (K := 1024) (N := 2816) (V c main_arg5) (V c main_arg3) := by
  refine (dat2 V c).arrAt_eq_of_cover 2 (nt (M := 4096) (K := 1024) (N := 2816) (V c main_arg5) (V c main_arg3)) (fun t _ => ?_) cover2
  show (cfg2.win 2).cut (grid2.coords t) ((dat2 V c).after 2 t) = _
  rw [after2_2]
  unfold out2_2
  rw [View.canon_unit_zero origin, View.ld_unit_zero origin, View.ld_unit_zero origin]
  funext x
  obtain ⟨i, l, rfl⟩ := Mat.eta x
  exact (k2_apply _ _ i l).trans (nt_of (V c main_arg5) (V c main_arg3) (fun y => ⟨win2_0.rect_emb_val t y 0, win2_0.rect_emb_val t y 1⟩)
    (fun y => ⟨win2_1.rect_emb_val t y 0, win2_1.rect_emb_val t y 1⟩) (fun y => ⟨win2_2.rect_emb_val t y 0, win2_2.rect_emb_val t y 1⟩) (at2 t) i l)

/-! ## The gradient of the projection up's left factor -/

theorem k3_apply (x : Vec Ideal S1024x5632 .bf16) (y : Vec Ideal S512x5632 .bf16) (i : Fin 1024) (l : Fin 512) :
    (k3_pay1 x y (ix2 i l) : EReal) = ∑ k : Fin 5632, @HMul.hMul EReal EReal EReal _ (x (ix2 i k)) (y (ix2 l k)) := by
  pointwise [k3_pay1]

theorem at3 : ∀ t : Fin cfg3.N, win3_0.index t 0 = win3_2.index t 0 ∧ win3_0.index t 1 = 0
    ∧ win3_1.index t 0 = win3_2.index t 1 ∧ win3_1.index t 1 = 0 := by decide +kernel

theorem onto3 : ∀ (a : Fin 4) (b : Fin 2), ∃ t : Fin cfg3.N, win3_2.index t 0 = a.val ∧ win3_2.index t 1 = b.val := by decide +kernel

theorem cover3 (i : S4096x1024.Idx) : ∃ t : Fin cfg3.N, (cfg3.win 2).flush t = true ∧ i ∈ ((cfg3.win 2).blk t).view.set := by
  have h0 : (i 0).val < 4096 := (i 0).isLt
  have h1 : (i 1).val < 1024 := (i 1).isLt
  obtain ⟨t, e0, e1⟩ := onto3 ⟨(i 0).val / 1024, by omega⟩ ⟨(i 1).val / 512, by omega⟩
  refine ⟨t, flush3_2 t, ?_⟩
  show i ∈ ((View.whole main_v3).slice (win3_2.rect t)).set
  rw [View.set_slice_whole, Rect.mem_set_unit]
  intro a
  match a with
  | ⟨0, _⟩ => exact within (n := 1024) (by decide) e0
  | ⟨1, _⟩ => exact within (n := 512) (by decide) e1

theorem final3 : (dat3 V c).arrAt 2 cfg3.N = nt (M := 4096) (K := 5632) (N := 1024) (V c main_arg6) (V c main_arg1) := by
  refine (dat3 V c).arrAt_eq_of_cover 2 (nt (M := 4096) (K := 5632) (N := 1024) (V c main_arg6) (V c main_arg1)) (fun t _ => ?_) cover3
  show (cfg3.win 2).cut (grid3.coords t) ((dat3 V c).after 2 t) = _
  rw [after3_2]
  unfold out3_2
  rw [View.canon_unit_zero origin, View.ld_unit_zero origin, View.ld_unit_zero origin]
  funext x
  obtain ⟨i, l, rfl⟩ := Mat.eta x
  exact (k3_apply _ _ i l).trans (nt_of (V c main_arg6) (V c main_arg1) (fun y => ⟨win3_0.rect_emb_val t y 0, win3_0.rect_emb_val t y 1⟩)
    (fun y => ⟨win3_1.rect_emb_val t y 0, win3_1.rect_emb_val t y 1⟩) (fun y => ⟨win3_2.rect_emb_val t y 0, win3_2.rect_emb_val t y 1⟩) (at3 t) i l)

/-! ## The gradient of the projection up's weight -/

theorem k4_apply (x : Vec Ideal S4096x512 .bf16) (y : Vec Ideal S4096x512 .bf16) (i : Fin 512) (l : Fin 512) :
    (k4_pay1 x y (ix2 i l) : EReal) = ∑ k : Fin 4096, @HMul.hMul EReal EReal EReal _ (x (ix2 k i)) (y (ix2 k l)) := by
  pointwise [k4_pay1]

theorem at4 : ∀ t : Fin cfg4.N, win4_0.index t 0 = 0 ∧ win4_0.index t 1 = win4_2.index t 0
    ∧ win4_1.index t 0 = 0 ∧ win4_1.index t 1 = win4_2.index t 1 := by decide +kernel

theorem onto4 : ∀ (a : Fin 2) (b : Fin 11), ∃ t : Fin cfg4.N, win4_2.index t 0 = a.val ∧ win4_2.index t 1 = b.val := by decide +kernel

theorem cover4 (i : S1024x5632.Idx) : ∃ t : Fin cfg4.N, (cfg4.win 2).flush t = true ∧ i ∈ ((cfg4.win 2).blk t).view.set := by
  have h0 : (i 0).val < 1024 := (i 0).isLt
  have h1 : (i 1).val < 5632 := (i 1).isLt
  obtain ⟨t, e0, e1⟩ := onto4 ⟨(i 0).val / 512, by omega⟩ ⟨(i 1).val / 512, by omega⟩
  refine ⟨t, flush4_2 t, ?_⟩
  show i ∈ ((View.whole main_v4).slice (win4_2.rect t)).set
  rw [View.set_slice_whole, Rect.mem_set_unit]
  intro a
  match a with
  | ⟨0, _⟩ => exact within (n := 512) (by decide) e0
  | ⟨1, _⟩ => exact within (n := 512) (by decide) e1

theorem final4 : (dat4 V c).arrAt 2 cfg4.N = tn (M := 1024) (K := 4096) (N := 5632) (V c main_arg0) (V c main_arg6) := by
  refine (dat4 V c).arrAt_eq_of_cover 2 (tn (M := 1024) (K := 4096) (N := 5632) (V c main_arg0) (V c main_arg6)) (fun t _ => ?_) cover4
  show (cfg4.win 2).cut (grid4.coords t) ((dat4 V c).after 2 t) = _
  rw [after4_2]
  unfold out4_2
  rw [View.canon_unit_zero origin, View.ld_unit_zero origin, View.ld_unit_zero origin]
  funext x
  obtain ⟨i, l, rfl⟩ := Mat.eta x
  exact (k4_apply _ _ i l).trans (tn_of (V c main_arg0) (V c main_arg6) (fun y => ⟨win4_0.rect_emb_val t y 0, win4_0.rect_emb_val t y 1⟩)
    (fun y => ⟨win4_1.rect_emb_val t y 0, win4_1.rect_emb_val t y 1⟩) (fun y => ⟨win4_2.rect_emb_val t y 0, win4_2.rect_emb_val t y 1⟩) (at4 t) i l)

end Cert.Ffn

end
-- ==== Proof.FfnRun.lean ====
/- The run of the feed-forward layer's five products: every execution ends with the products of the arguments. -/
module

public import proofs.«01_k».proof.Proof.Ffn

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen Cert.Mat

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the five products ends with every buffer at the last boundary's contents and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Run

variable (m : (ℓ : Loc nD τ sig) → Buf (Elt Ideal) ℓ) (ρ : Dev nD → PrngReg) (c : Dev nD)

/-- The seven arguments, as matrices. -/
abbrev hn : Ix 4096 1024 → EReal := m ((c : Thread nD τ).loc main_arg0)
abbrev wup : Ix 1024 5632 → EReal := m ((c : Thread nD τ).loc main_arg1)
abbrev z : Ix 4096 2816 → EReal := m ((c : Thread nD τ).loc main_arg2)
abbrev wdown : Ix 2816 1024 → EReal := m ((c : Thread nD τ).loc main_arg3)
abbrev x : Ix 4096 1024 → EReal := m ((c : Thread nD τ).loc main_arg4)
abbrev dout : Ix 4096 1024 → EReal := m ((c : Thread nD τ).loc main_arg5)
abbrev du : Ix 4096 5632 → EReal := m ((c : Thread nD τ).loc main_arg6)

theorem end_u : W5 m ρ c (Proc.devRef .tc main_v0) = nn (hn m c) (wup m c) := by
  refine (W5_of m ρ c main_v0 (by decide)).trans <| (W4_of m ρ c main_v0 (by decide)).trans <| (W3_of m ρ c main_v0 (by decide)).trans <|
    (W2_of m ρ c main_v0 (by decide)).trans <| (W1_arr m ρ c 2).trans <| final0 _ c

theorem end_out : W5 m ρ c (Proc.devRef .tc main_v1) = nnAdd (z m c) (wdown m c) (x m c) := by
  refine (W5_of m ρ c main_v1 (by decide)).trans <| (W4_of m ρ c main_v1 (by decide)).trans <| (W3_of m ρ c main_v1 (by decide)).trans <|
    (W2_arr m ρ c 3).trans <| (final1 _ c).trans ?_
  rw [show V1 m ρ c main_arg2 = _ from W1_args m ρ c main_arg2 (by decide), show V1 m ρ c main_arg3 = _ from W1_args m ρ c main_arg3 (by decide),
    show V1 m ρ c main_arg4 = _ from W1_args m ρ c main_arg4 (by decide)]

theorem end_dz : W5 m ρ c (Proc.devRef .tc main_v2) = nt (dout m c) (wdown m c) := by
  refine (W5_of m ρ c main_v2 (by decide)).trans <| (W4_of m ρ c main_v2 (by decide)).trans <| (W3_arr m ρ c 2).trans <| (final2 _ c).trans ?_
  rw [show V2 m ρ c main_arg5 = _ from W2_args m ρ c main_arg5 (by decide), show V2 m ρ c main_arg3 = _ from W2_args m ρ c main_arg3 (by decide)]

theorem end_dhn : W5 m ρ c (Proc.devRef .tc main_v3) = nt (du m c) (wup m c) := by
  refine (W5_of m ρ c main_v3 (by decide)).trans <| (W4_arr m ρ c 2).trans <| (final3 _ c).trans ?_
  rw [show V3 m ρ c main_arg6 = _ from W3_args m ρ c main_arg6 (by decide), show V3 m ρ c main_arg1 = _ from W3_args m ρ c main_arg1 (by decide)]

theorem end_gup : W5 m ρ c (Proc.devRef .tc main_v4) = tn (hn m c) (du m c) := by
  refine (W5_arr m ρ c 2).trans <| (final4 _ c).trans ?_
  rw [show V4 m ρ c main_arg0 = _ from W4_args m ρ c main_arg0 (by decide), show V4 m ρ c main_arg6 = _ from W4_args m ρ c main_arg6 (by decide)]

end Cert.Ffn

end
-- ==== Proof.Carry.lean ====
/- A buffer that is read whole, as the products with a carried factor read the buffer they carry. -/
module

public import Idealize.ShloMosaic.Lib.Pointwise
public import Idealize.ShloMosaic.Lib.Pipeline.ValueKit.Basic

@[expose] public section

noncomputable section

namespace Cert.Mat

open Idealize.ShloMosaic

/-- A load of the whole of a buffer reads what it holds. -/
theorem load_all {sig : RefSig} {sp : Space} {S : Shape} {e : EltTy} {r : Memref sig .tc sp S e} (h : r.IsWhole) (X : Vec Ideal S e) {off : Fin S.rank → Nat}
    (ho : off = fun _ => 0) (inb : ∀ a, off a + S.size a ≤ S.size a) :
    View.readAt (Elt Ideal) r.view (Rect.unit off S.size inb).toLoadRect (h.unread X) = X :=
  funext fun x => (congrFun (h.read_unread X) _ : _ = X ((Rect.unit off S.size inb).toLoadRect.idx x)).trans (congrFun (View.ld_unit_zero ho inb X) x)

end Cert.Mat

end
-- ==== Proof.DownDw.lean ====
/- What the product with a carried factor leaves: at the first point of a column of blocks the kernel stores the column of the
   second factor, and at every point of the column it multiplies by what it stored. -/
module

public import proofs.«01_k».proof.Proof.Mat
public import proofs.«01_k».proof.Proof.Carry
public import proofs.«01_k».proof.Proof.Gen.Kernel3Ideal.Value

@[expose] public section

set_option maxRecDepth 16384

noncomputable section

namespace Cert.DownDw

open Idealize.ShloMosaic Cert.Kernel3Ideal Cert.Kernel3Ideal.Gen Cert.Kernel3Ideal.Value Cert.Mat
open Idealize.ShloMosaic.TcCoe
open Idealize.SL Idealize.SL.Sem

theorem stored_apply (x : Vec Ideal S4096x512 .f32) (i : Fin 4096) (l : Fin 512) : (k0_pay1 x (ix2 i l) : EReal) = x (ix2 i l) := by
  pointwise [k0_pay1]

theorem block_apply (x : Vec Ideal S4096x256 .bf16) (y : Vec Ideal S4096x512 .bf16) (i : Fin 256) (l : Fin 512) :
    (k0_pay2 x y (ix2 i l) : EReal) = ∑ k : Fin 4096, @HMul.hMul EReal EReal EReal _ (x (ix2 k i)) (y (ix2 k l)) := by
  pointwise [k0_pay2]

theorem first_out {c i a2 h2 a3 h3 a4 h4 a5 h5 hc} (x0 : Vec Ideal S4096x256 .bf16) (x1 : Vec Ideal S4096x512 .f32) :
    out0_A_2 c i a2 h2 a3 h3 a4 h4 a5 h5 hc x0 x1 = k0_pay2 x0 (k0_pay1 x1) := by
  unfold out0_A_2 kernelRun0_A
  dsimp only
  rw [View.read_writes_junk_eq_canon]
  refine (View.canon_unit_zero origin _ _).trans ?_
  unfold kernelRun0_A.sl.v4 kernelRun0_A.sl.HS0_1
  exact congrArg₂ k0_pay2 (load_all h2 x0 origin _) ((View.readCov_unit_zero _ origin _ _).trans (congrArg k0_pay1 (load_all h3 x1 origin _)))

theorem first_stored {c i a2 h2 a3 h3 a4 h4 a5 h5 hc} (x0 : Vec Ideal S4096x256 .bf16) (x1 : Vec Ideal S4096x512 .f32) :
    sout0_A_0 c i a2 h2 a3 h3 a4 h4 a5 h5 hc x0 x1 = k0_pay1 x1 := by
  unfold sout0_A_0 kernelRun0_A
  dsimp only
  rw [View.read_writes_junk_eq_canon]
  unfold kernelRun0_A.sl.HS0_1
  exact (View.canon_unit_zero origin _ _).trans (congrArg k0_pay1 (load_all h3 x1 origin _))

theorem later_out {c i a2 h2 a3 h3 a4 h4 a5 h5 hc} (x0 : Vec Ideal S4096x256 .bf16) (x1 : Vec Ideal S4096x512 .f32) (xs : Vec Ideal S4096x512 .bf16) :
    out0_B_2 c i a2 h2 a3 h3 a4 h4 a5 h5 hc x0 x1 xs = k0_pay2 x0 xs := by
  unfold out0_B_2 kernelRun0_B
  dsimp only
  rw [View.read_writes_junk_eq_canon]
  exact (View.canon_unit_zero origin _ _).trans (congrArg₂ k0_pay2 (load_all h2 x0 origin _) (load_all h5 xs origin _))

variable (m : (ℓ : Loc nD τ sig) → Buf (Elt Ideal) ℓ) (c : Dev nD)

/-- The two factors, as matrices. -/
abbrev z : Ix 4096 2816 → EReal := m ((c : Thread nD τ).loc main_arg1)
abbrev dout : Ix 4096 1024 → EReal := m ((c : Thread nD τ).loc main_arg3)

theorem at0 : ∀ t : Fin cfg0.N, win0_0.index t 0 = 0 ∧ win0_0.index t 1 = win0_2.index t 0
    ∧ win0_1.index t 0 = 0 ∧ win0_1.index t 1 = win0_2.index t 1 := by decide +kernel

/-- The column of blocks does not change between its points. -/
theorem column : ∀ t : Fin cfg0.N, win0_2.index t 1 = t.val / 11 := by decide +kernel

/-- The column of the second factor that a point of the grid multiplies by. -/
def band (n : Nat) (hn : n < cfg0.N) (y : Ix 4096 512) : Ix 4096 1024 :=
  ix2 (y 0) ⟨n / 11 * 512 + (y 1).val, by
    have h := lt_of_lt_of_eq hn (show cfg0.N = 22 from N_0)
    have h' : (y 1).val < 512 := (y 1).isLt
    omega⟩

theorem first_band (t : Fin cfg0.N) (h : t.val % 11 = 0) (y : Ix 4096 512) : ((outsAt0 m c t.val t.isLt).2 y : EReal) = dout m c (band t.val t.isLt y) := by
  rw [outsAt0_A m c t h]
  dsimp only
  rw [first_stored]
  obtain ⟨i, l, rfl⟩ := Mat.eta y
  refine (stored_apply _ i l).trans (congrArg (dout m c) (ix_ext ⟨?_, ?_⟩))
  · exact (win0_1.rect_emb_val t (ix2 i l) 0).trans (by rw [(at0 t).2.2.1, Nat.zero_mul, Nat.zero_add])
  · exact (win0_1.rect_emb_val t (ix2 i l) 1).trans (by rw [(at0 t).2.2.2, column t]; rfl)

/-- After every point of a column of blocks the carried buffer holds the column of the second factor. -/
theorem stored : ∀ (n : Nat) (hn : n < cfg0.N) (y : Ix 4096 512), ((outsAt0 m c n hn).2 y : EReal) = dout m c (band n hn y) := by
  intro n
  induction n with
  | zero => exact fun hn y => first_band m c ⟨0, hn⟩ rfl y
  | succ n ih =>
    intro hn y
    by_cases h : (n + 1) % 11 = 0
    · exact first_band m c ⟨n + 1, hn⟩ h y
    · have e := congrArg Prod.snd (outsAt0_B m c ⟨n + 1, hn⟩ h)
      refine (congrFun e y).trans ((ih (Nat.lt_of_succ_lt hn) y).trans (congrArg (dout m c) (ix_ext ⟨rfl, ?_⟩)))
      show n / 11 * 512 + (y 1).val = (n + 1) / 11 * 512 + (y 1).val
      rw [show (n + 1) / 11 = n / 11 by omega]

/-- So a point's block is the product of a band of the first factor's columns and the column of the second factor. -/
theorem block (t : Fin cfg0.N) : (dats m 0 c).flushed 2 t = (cfg0.win 2).cut (grid0.coords t) (k0_pay2 (iblk m c 0 t) (outsAt0 m c t.val t.isLt).2) := by
  by_cases h : t.val % 11 = 0
  · rw [flushed2_A m c t h, first_out, outsAt0_A m c t h]
    dsimp only
    rw [first_stored]
  · rw [flushed2_B m c t h, later_out, outsAt0_B m c t h]
    rfl

theorem final : (dats m 0 c).arrAt 2 cfg0.N = tn (z m c) (dout m c) := by
  refine (dats m 0 c).arrAt_eq_of_cover 2 (tn (z m c) (dout m c)) (fun t _ => ?_) fun i => (covered_iff2 i).mpr ⟨Nat.zero_le _, (i 0).isLt, Nat.zero_le _, (i 1).isLt⟩
  rw [block]
  funext x
  obtain ⟨i, l, rfl⟩ := Mat.eta x
  have e := column t
  refine (block_apply _ _ i l).trans ((Finset.sum_congr rfl fun k _ => congrArg (@HMul.hMul EReal EReal EReal _ (iblk m c 0 t (ix2 k i))) (stored m c t.val t.isLt (ix2 k l))).trans ?_)
  exact tn_of (z m c) (dout m c) (g := band t.val t.isLt) (b := 0) (b' := t.val / 11) (u := 512) (u' := 1) (fun y => ⟨win0_0.rect_emb_val t y 0, win0_0.rect_emb_val t y 1⟩)
    (fun y => ⟨by rw [Nat.zero_mul, Nat.zero_add]; rfl, rfl⟩) (fun y => ⟨win0_2.rect_emb_val t y 0, win0_2.rect_emb_val t y 1⟩)
    ⟨(at0 t).1, (at0 t).2.1, rfl, e.symm⟩ i l

/-- Every execution ends with the product, and the arguments as they were. -/
theorem run_all (ρ : Dev nD → PrngReg) : θ_run defs (onTc (τ := τ) (main (F := Ideal))) ⟨m, fun _ => 0, ρ⟩ fun r => ∀ c : Dev nD,
      r.2.mem ((c : Thread nD τ).loc main_v0) = tn (z m c) (dout m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.DownDw

end
-- ==== Proof.FfnRef.lean ====
/- The reference of the feed-forward layer's products: its results are the products of its arguments. -/
module

public import proofs.«01_k».proof.Proof.Mat
public import proofs.«01_k».proof.Proof.Gen.Reference2Ideal.Run
public import proofs.«01_k».proof.Proof.Gen.Reference3Ideal.Run
public import Idealize.ShloMosaic.Lib.Quiescent

@[expose] public section

set_option maxRecDepth 16384

noncomputable section

namespace Cert.FfnRef

open Idealize.ShloMosaic Cert.Mat
open Idealize.ShloMosaic.TcCoe
open Idealize.SL Idealize.SL.Sem

section Products

open Cert.Reference2Ideal Cert.Reference2Ideal.Gen

variable (hn : Vec Ideal S4096x1024 .bf16) (wup : Vec Ideal S1024x5632 .bf16) (z : Vec Ideal S4096x2816 .bf16) (wdown : Vec Ideal S2816x1024 .bf16)
  (x dout : Vec Ideal S4096x1024 .f32) (du : Vec Ideal S4096x5632 .bf16)

theorem ref_u : Host.dotGeneral (F := Ideal) dot_S4096x1024_S1024x5632_S4096x5632_1_0_0_1_n_n none (extf .f32 hn bitsLt_bf16_f32) (extf .f32 wup bitsLt_bf16_f32)
    = nn (M := 4096) (K := 1024) (N := 5632) hn wup := by
  funext y
  obtain ⟨i, l, rfl⟩ := Mat.eta y
  show (_ : EReal) = ∑ k : Fin 1024, @HMul.hMul EReal EReal EReal _ (hn (ix2 i k)) (wup (ix2 k l))
  pointwise []

theorem ref_out : addf x (Host.dotGeneral (F := Ideal) dot_S4096x2816_S2816x1024_S4096x1024_1_0_0_1_n_n none (extf .f32 z bitsLt_bf16_f32) (extf .f32 wdown bitsLt_bf16_f32))
    = nnAdd (M := 4096) (K := 2816) (N := 1024) z wdown x := by
  funext y
  obtain ⟨i, l, rfl⟩ := Mat.eta y
  show (_ : EReal) = @HAdd.hAdd EReal EReal EReal _ (∑ k : Fin 2816, @HMul.hMul EReal EReal EReal _ (z (ix2 i k)) (wdown (ix2 k l))) (x (ix2 i l))
  rw [add_comm]
  pointwise []

theorem ref_dz : Host.dotGeneral (F := Ideal) dot_S4096x1024_S2816x1024_S4096x2816_1_1_0_0_n_n none (shapeCast S4096x1024 dout shapeCasts_S4096x1024_S4096x1024 : FVec Ideal S4096x1024 .f32) (extf .f32 wdown bitsLt_bf16_f32)
    = nt (M := 4096) (K := 1024) (N := 2816) dout wdown := by
  funext y
  obtain ⟨i, l, rfl⟩ := Mat.eta y
  show (_ : EReal) = ∑ k : Fin 1024, @HMul.hMul EReal EReal EReal _ (dout (ix2 i k)) (wdown (ix2 l k))
  pointwise []

theorem ref_dhn : Host.dotGeneral (F := Ideal) dot_S4096x5632_S1024x5632_S4096x1024_1_1_0_0_n_n none (extf .f32 du bitsLt_bf16_f32) (extf .f32 wup bitsLt_bf16_f32)
    = nt (M := 4096) (K := 5632) (N := 1024) du wup := by
  funext y
  obtain ⟨i, l, rfl⟩ := Mat.eta y
  show (_ : EReal) = ∑ k : Fin 5632, @HMul.hMul EReal EReal EReal _ (du (ix2 i k)) (wup (ix2 l k))
  pointwise []

theorem ref_gup : transpose S1024x5632 [1, 0] (Host.dotGeneral (F := Ideal) dot_S4096x5632_S4096x1024_S5632x1024_0_0_1_1_n_n none (extf .f32 du bitsLt_bf16_f32) (extf .f32 hn bitsLt_bf16_f32))
      transposes_S5632x1024_S1024x5632_1_0 = tn (M := 1024) (K := 4096) (N := 5632) hn du := by
  funext y
  obtain ⟨i, l, rfl⟩ := Mat.eta y
  refine Eq.trans ?_ (tn_swap (M := 1024) (K := 4096) (N := 5632) hn du i l)
  show (_ : EReal) = ∑ k : Fin 4096, @HMul.hMul EReal EReal EReal _ (du (ix2 k l)) (hn (ix2 k i))
  pointwise []

end Products

section Runs

open Cert.Reference2Ideal

variable (m : (ℓ : Loc nD τ sig) → Buf (Elt Ideal) ℓ) (ρ : Dev nD → PrngReg)

/-- The reference of five of the products ends with them. -/
theorem run_all : θ_run defs (onTc (τ := τ) (main (F := Ideal))) ⟨m, fun _ => 0, ρ⟩ fun r => ∀ c : Dev nD,
      r.2.mem ((c.tc : Thread nD τ).loc main_v2) = nn (M := 4096) (K := 1024) (N := 5632) (m ((c.tc : Thread nD τ).loc main_arg0)) (m ((c.tc : Thread nD τ).loc main_arg1))
      ∧ r.2.mem ((c.tc : Thread nD τ).loc main_v6) = nnAdd (M := 4096) (K := 2816) (N := 1024) (m ((c.tc : Thread nD τ).loc main_arg2)) (m ((c.tc : Thread nD τ).loc main_arg3)) (m ((c.tc : Thread nD τ).loc main_arg4))
      ∧ r.2.mem ((c.tc : Thread nD τ).loc main_v10) = nt (M := 4096) (K := 1024) (N := 2816) (m ((c.tc : Thread nD τ).loc main_arg5)) (m ((c.tc : Thread nD τ).loc main_arg3))
      ∧ r.2.mem ((c.tc : Thread nD τ).loc main_v14) = nt (M := 4096) (K := 5632) (N := 1024) (m ((c.tc : Thread nD τ).loc main_arg6)) (m ((c.tc : Thread nD τ).loc main_arg1))
      ∧ r.2.mem ((c.tc : Thread nD τ).loc main_v13) = tn (M := 1024) (K := 4096) (N := 5632) (m ((c.tc : Thread nD τ).loc main_arg0)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    obtain ⟨h0, h1, h2, h3, h4, ha⟩ := h c
    exact ⟨h0.trans (ref_u _ _), h1.trans (ref_out _ _ _), h2.trans (ref_dz _ _), h3.trans (ref_dhn _ _), h4.trans (ref_gup _ _), ha⟩) (Value.run m ρ)

/-- It leaves its arguments and its counters as they were. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0 :=
  (θ_run defs _ _).mono (fun r h => ⟨fun c => (h c).2.2.2.2.2, sem_eq_zero_of_no_sems (by decide) r.2⟩) (Value.run m ρ)

end Runs

section Carried

open Cert.Reference3Ideal Cert.Reference3Ideal.Gen

theorem ref_gdown (z : Vec Ideal S4096x2816 .bf16) (dout : Vec Ideal S4096x1024 .f32) :
    transpose S2816x1024 [1, 0] (Host.dotGeneral (F := Ideal) dot_S4096x1024_S4096x2816_S1024x2816_0_0_1_1_n_n none
        (shapeCast S4096x1024 dout shapeCasts_S4096x1024_S4096x1024 : FVec Ideal S4096x1024 .f32) (extf .f32 z bitsLt_bf16_f32))
      transposes_S1024x2816_S2816x1024_1_0 = tn (M := 2816) (K := 4096) (N := 1024) z dout := by
  funext y
  obtain ⟨i, l, rfl⟩ := Mat.eta y
  refine Eq.trans ?_ (tn_swap (M := 2816) (K := 4096) (N := 1024) z dout i l)
  show (_ : EReal) = ∑ k : Fin 4096, @HMul.hMul EReal EReal EReal _ (dout (ix2 k l)) (z (ix2 k i))
  pointwise []

variable (m : (ℓ : Loc nD τ sig) → Buf (Elt Ideal) ℓ) (ρ : Dev nD → PrngReg)

/-- The reference of the sixth product ends with it. -/
theorem run_all3 : θ_run defs (onTc (τ := τ) (main (F := Ideal))) ⟨m, fun _ => 0, ρ⟩ fun r => ∀ c : Dev nD,
      r.2.mem ((c.tc : Thread nD τ).loc main_v6) = tn (M := 2816) (K := 4096) (N := 1024) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (ref_gdown _ _), (h c).2⟩) (Value.run m ρ)

theorem frame3 : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2, sem_eq_zero_of_no_sems (by decide) r.2⟩) (Value.run m ρ)

end Carried

end Cert.FfnRef

end
-- ==== Proof.Products.lean ====
/- The feed-forward layer's products and their reference end with the same arrays. -/
module

public import proofs.«01_k».proof.Defs
public import proofs.«01_k».proof.Proof.FfnRun
public import proofs.«01_k».proof.Proof.DownDw
public import proofs.«01_k».proof.Proof.FfnRef

@[expose] public section

noncomputable section

namespace Cert.Products

open Idealize.ShloMosaic Idealize.SL.Sem Cert.Mat

open Cert.Ffn in
theorem algebraic2 : Cert.algebraic_Kernel2Ideal_Reference2Ideal (hKernel2Ideal := Cert.Kernel2Ideal.Gen.facts) (hReference2Ideal := Cert.Reference2Ideal.Gen.facts) := by
  intro m ρ m' ρ' _ hA
  refine ⟨fun c => nn (hn m c) (wup m c), fun c => nnAdd (z m c) (wdown m c) (x m c), fun c => nt (dout m c) (wdown m c), fun c => nt (du m c) (wup m c),
    fun c => tn (hn m c) (du m c), (θ_run _ _ _).mono (fun r h c => ?_) (run_all m ρ), (θ_run _ _ _).mono (fun r h c => ?_) (Cert.FfnRef.run_all m' ρ')⟩
  · have a := h.1 c
    have uc : ∀ b ∈ Cert.Kernel2Ideal.Gen.argRefs, ¬b.isScoped = true := by decide
    have arg : ∀ b ∈ Cert.Kernel2Ideal.Gen.argRefs, r.2.mem ((c.tc : Thread Cert.Kernel2Ideal.nD Cert.Kernel2Ideal.τ).loc b) = m ((c.tc : Thread Cert.Kernel2Ideal.nD Cert.Kernel2Ideal.τ).loc b) :=
      fun b hb => (a _ (Cert.Kernel2Ideal.Gen.mem_uc b (uc b hb))).trans (Cert.Kernel2Ideal.Gen.W5_args m ρ c b hb)
    exact ⟨(a _ (Cert.Kernel2Ideal.Gen.mem_uc Cert.Kernel2Ideal.main_v0 (by decide))).trans (end_u m ρ c),
      (a _ (Cert.Kernel2Ideal.Gen.mem_uc Cert.Kernel2Ideal.main_v1 (by decide))).trans (end_out m ρ c),
      (a _ (Cert.Kernel2Ideal.Gen.mem_uc Cert.Kernel2Ideal.main_v2 (by decide))).trans (end_dz m ρ c),
      (a _ (Cert.Kernel2Ideal.Gen.mem_uc Cert.Kernel2Ideal.main_v3 (by decide))).trans (end_dhn m ρ c),
      (a _ (Cert.Kernel2Ideal.Gen.mem_uc Cert.Kernel2Ideal.main_v4 (by decide))).trans (end_gup m ρ c),
      arg _ (by decide), arg _ (by decide), arg _ (by decide), arg _ (by decide), arg _ (by decide), arg _ (by decide), arg _ (by decide)⟩
  · obtain ⟨e0, e1, e2, e3, e4, e5, e6⟩ := hA c
    obtain ⟨h0, h1, h2, h3, h4, ha⟩ := h c
    rw [e0, e1] at h0
    rw [e2, e3, e4] at h1
    rw [e5, e3] at h2
    rw [e6, e1] at h3
    rw [e0, e6] at h4
    exact ⟨h0, h1, h2, h3, h4, ha⟩

open Cert.DownDw in
theorem algebraic3 : Cert.algebraic_Kernel3Ideal_Reference3Ideal (hKernel3Ideal := Cert.Kernel3Ideal.Gen.facts) (hReference3Ideal := Cert.Reference3Ideal.Gen.facts) := by
  intro m ρ m' ρ' _ hA
  refine ⟨fun c => tn (z m c) (dout m c), run_all m ρ, (θ_run _ _ _).mono (fun r h c => ?_) (Cert.FfnRef.run_all3 m' ρ')⟩
  obtain ⟨e0, e1, e2, e3⟩ := hA c
  obtain ⟨h0, ha⟩ := h c
  rw [e1, e3] at h0
  exact ⟨h0, ha⟩

end Cert.Products

end
-- ==== Proof.Proj.lean ====
/- What each of the thirteen blocked products of the other projections leaves in its result array. -/
module

public import proofs.«01_k».proof.Proof.Mat
public import proofs.«01_k».proof.Proof.Gen.Kernel4Ideal.Frame
public import Idealize.ShloMosaic.Lib.Pointwise
public import Idealize.ShloMosaic.Lib.Pipeline.ValueKit.Geometry
public import Idealize.ShloMosaic.Lib.Pipeline.ValueKit.Acc

@[expose] public section

set_option maxRecDepth 16384

noncomputable section

namespace Cert.Proj

open Idealize.ShloMosaic Cert.Kernel4Ideal Cert.Kernel4Ideal.Gen Cert.Mat
open Idealize.ShloMosaic.TcCoe
open Idealize.SL Idealize.SL.Sem

variable (V : (c : Dev nD) → (b : Ref sig .tc) → Buf (Elt Ideal) ((c : Thread nD τ).loc b)) (c : Dev nD)

/-! ## The first layer's projection in -/

theorem k0_apply (x : Vec Ideal S1024x1024 .bf16) (y : Vec Ideal S1024x1408 .bf16) (i : Fin 1024) (l : Fin 1408) :
    (k0_pay1 x y (ix2 i l) : EReal) = ∑ k : Fin 1024, @HMul.hMul EReal EReal EReal _ (x (ix2 i k)) (y (ix2 k l)) := by
  pointwise [k0_pay1]

theorem at0 : ∀ t : Fin cfg0.N, win0_0.index t 0 = win0_2.index t 0 ∧ win0_0.index t 1 = 0
    ∧ win0_1.index t 0 = 0 ∧ win0_1.index t 1 = win0_2.index t 1 := by decide +kernel

theorem final0 : (dat0 V c).arrAt 2 cfg0.N = nn (M := 4096) (K := 1024) (N := 2816) (V c main_arg0) (V c main_arg1) := by
  refine (dat0 V c).arrAt_eq_of_covers 2 _ (by decide +kernel) fun t _ y => ?_
  blk_simp
  rw [after0_2]
  frame_out
  obtain ⟨i, l, rfl⟩ := Mat.eta y
  exact (k0_apply _ _ i l).trans (nn_of (V c main_arg0) (V c main_arg1) (fun y => ⟨win0_0.rect_emb_val t y 0, win0_0.rect_emb_val t y 1⟩)
    (fun y => ⟨win0_1.rect_emb_val t y 0, win0_1.rect_emb_val t y 1⟩) (fun y => ⟨win0_2.rect_emb_val t y 0, win0_2.rect_emb_val t y 1⟩) (at0 t) i l)

/-! ## The first layer's projection out, added to the residual -/

theorem k1_apply (x : Vec Ideal S1024x1024 .bf16) (y : Vec Ideal S1024x512 .bf16) (z : Vec Ideal S1024x512 .f32) (i : Fin 1024) (l : Fin 512) :
    (k1_pay1 x y z (ix2 i l) : EReal)
      = @HAdd.hAdd EReal EReal EReal _ (∑ k : Fin 1024, @HMul.hMul EReal EReal EReal _ (x (ix2 i k)) (y (ix2 k l))) (z (ix2 i l)) := by
  pointwise [k1_pay1]

theorem at1 : ∀ t : Fin cfg1.N, win1_0.index t 0 = win1_3.index t 0 ∧ win1_0.index t 1 = 0
    ∧ win1_1.index t 0 = 0 ∧ win1_1.index t 1 = win1_3.index t 1 := by decide +kernel

theorem at1_2 : ∀ t : Fin cfg1.N, win1_2.index t 0 = win1_3.index t 0 ∧ win1_2.index t 1 = win1_3.index t 1 := by decide +kernel

theorem final1 : (dat1 V c).arrAt 3 cfg1.N = nnAdd (M := 4096) (K := 1024) (N := 1024) (V c main_arg2) (V c main_arg3) (V c main_arg4) := by
  refine (dat1 V c).arrAt_eq_of_covers 3 _ (by decide +kernel) fun t _ y => ?_
  blk_simp
  rw [after1_3]
  frame_out
  obtain ⟨i, l, rfl⟩ := Mat.eta y
  exact (k1_apply _ _ _ i l).trans (nnAdd_of (V c main_arg2) (V c main_arg3) (V c main_arg4) (fun y => ⟨win1_0.rect_emb_val t y 0, win1_0.rect_emb_val t y 1⟩)
    (fun y => ⟨win1_1.rect_emb_val t y 0, win1_1.rect_emb_val t y 1⟩) (fun y => ⟨win1_2.rect_emb_val t y 0, win1_2.rect_emb_val t y 1⟩)
    (fun y => ⟨win1_3.rect_emb_val t y 0, win1_3.rect_emb_val t y 1⟩) (at1 t) (at1_2 t) i l)

/-! ## The projection to the shared keys and values -/

theorem k2_apply (x : Vec Ideal S1024x1024 .bf16) (y : Vec Ideal S1024x512 .bf16) (i : Fin 1024) (l : Fin 512) :
    (k2_pay1 x y (ix2 i l) : EReal) = ∑ k : Fin 1024, @HMul.hMul EReal EReal EReal _ (x (ix2 i k)) (y (ix2 k l)) := by
  pointwise [k2_pay1]

theorem at2 : ∀ t : Fin cfg2.N, win2_0.index t 0 = win2_2.index t 0 ∧ win2_0.index t 1 = 0
    ∧ win2_1.index t 0 = 0 ∧ win2_1.index t 1 = win2_2.index t 1 := by decide +kernel

theorem final2 : (dat2 V c).arrAt 2 cfg2.N = nn (M := 4096) (K := 1024) (N := 1536) (V c main_arg6) (V c main_arg7) := by
  refine (dat2 V c).arrAt_eq_of_covers 2 _ (by decide +kernel) fun t _ y => ?_
  blk_simp
  rw [after2_2]
  frame_out
  obtain ⟨i, l, rfl⟩ := Mat.eta y
  exact (k2_apply _ _ i l).trans (nn_of (V c main_arg6) (V c main_arg7) (fun y => ⟨win2_0.rect_emb_val t y 0, win2_0.rect_emb_val t y 1⟩)
    (fun y => ⟨win2_1.rect_emb_val t y 0, win2_1.rect_emb_val t y 1⟩) (fun y => ⟨win2_2.rect_emb_val t y 0, win2_2.rect_emb_val t y 1⟩) (at2 t) i l)

/-! ## The second layer's projection in -/

theorem k3_apply (x : Vec Ideal S1024x1024 .bf16) (y : Vec Ideal S1024x512 .bf16) (i : Fin 1024) (l : Fin 512) :
    (k3_pay1 x y (ix2 i l) : EReal) = ∑ k : Fin 1024, @HMul.hMul EReal EReal EReal _ (x (ix2 i k)) (y (ix2 k l)) := k2_apply x y i l

theorem at3 : ∀ t : Fin cfg3.N, win3_0.index t 0 = win3_2.index t 0 ∧ win3_0.index t 1 = 0
    ∧ win3_1.index t 0 = 0 ∧ win3_1.index t 1 = win3_2.index t 1 := by decide +kernel

theorem final3 : (dat3 V c).arrAt 2 cfg3.N = nn (M := 4096) (K := 1024) (N := 1024) (V c main_arg8) (V c main_arg9) := by
  refine (dat3 V c).arrAt_eq_of_covers 2 _ (by decide +kernel) fun t _ y => ?_
  blk_simp
  rw [after3_2]
  frame_out
  obtain ⟨i, l, rfl⟩ := Mat.eta y
  exact (k3_apply _ _ i l).trans (nn_of (V c main_arg8) (V c main_arg9) (fun y => ⟨win3_0.rect_emb_val t y 0, win3_0.rect_emb_val t y 1⟩)
    (fun y => ⟨win3_1.rect_emb_val t y 0, win3_1.rect_emb_val t y 1⟩) (fun y => ⟨win3_2.rect_emb_val t y 0, win3_2.rect_emb_val t y 1⟩) (at3 t) i l)

/-! ## The second layer's projection out, added to the residual -/

theorem k4_apply (x : Vec Ideal S1024x512 .bf16) (y : Vec Ideal S512x512 .bf16) (z : Vec Ideal S1024x512 .f32) (i : Fin 1024) (l : Fin 512) :
    (k4_pay1 x y z (ix2 i l) : EReal)
      = @HAdd.hAdd EReal EReal EReal _ (∑ k : Fin 512, @HMul.hMul EReal EReal EReal _ (x (ix2 i k)) (y (ix2 k l))) (z (ix2 i l)) := by
  pointwise [k4_pay1]

theorem at4 : ∀ t : Fin cfg4.N, win4_0.index t 0 = win4_3.index t 0 ∧ win4_0.index t 1 = 0
    ∧ win4_1.index t 0 = 0 ∧ win4_1.index t 1 = win4_3.index t 1 := by decide +kernel

theorem at4_2 : ∀ t : Fin cfg4.N, win4_2.index t 0 = win4_3.index t 0 ∧ win4_2.index t 1 = win4_3.index t 1 := by decide +kernel

theorem final4 : (dat4 V c).arrAt 3 cfg4.N = nnAdd (M := 4096) (K := 512) (N := 1024) (V c main_arg10) (V c main_arg11) (V c main_arg12) := by
  refine (dat4 V c).arrAt_eq_of_covers 3 _ (by decide +kernel) fun t _ y => ?_
  blk_simp
  rw [after4_3]
  frame_out
  obtain ⟨i, l, rfl⟩ := Mat.eta y
  exact (k4_apply _ _ _ i l).trans (nnAdd_of (V c main_arg10) (V c main_arg11) (V c main_arg12) (fun y => ⟨win4_0.rect_emb_val t y 0, win4_0.rect_emb_val t y 1⟩)
    (fun y => ⟨win4_1.rect_emb_val t y 0, win4_1.rect_emb_val t y 1⟩) (fun y => ⟨win4_2.rect_emb_val t y 0, win4_2.rect_emb_val t y 1⟩)
    (fun y => ⟨win4_3.rect_emb_val t y 0, win4_3.rect_emb_val t y 1⟩) (at4 t) (at4_2 t) i l)

/-! ## The gradients of the second layer's projection out -/

theorem k5_apply (x : Vec Ideal S1024x1024 .f32) (y : Vec Ideal S512x1024 .bf16) (i : Fin 1024) (l : Fin 512) :
    (k5_pay1 x y (ix2 i l) : EReal) = ∑ k : Fin 1024, @HMul.hMul EReal EReal EReal _ (x (ix2 i k)) (y (ix2 l k)) := by
  pointwise [k5_pay1]

theorem at5 : ∀ t : Fin cfg5.N, win5_0.index t 0 = win5_2.index t 0 ∧ win5_0.index t 1 = 0
    ∧ win5_1.index t 0 = win5_2.index t 1 ∧ win5_1.index t 1 = 0 := by decide +kernel

theorem final5 : (dat5 V c).arrAt 2 cfg5.N = nt (M := 4096) (K := 1024) (N := 512) (V c main_arg13) (V c main_arg11) := by
  refine (dat5 V c).arrAt_eq_of_covers 2 _ (by decide +kernel) fun t _ y => ?_
  blk_simp
  rw [after5_2]
  frame_out
  obtain ⟨i, l, rfl⟩ := Mat.eta y
  exact (k5_apply _ _ i l).trans (nt_of (V c main_arg13) (V c main_arg11) (fun y => ⟨win5_0.rect_emb_val t y 0, win5_0.rect_emb_val t y 1⟩)
    (fun y => ⟨win5_1.rect_emb_val t y 0, win5_1.rect_emb_val t y 1⟩) (fun y => ⟨win5_2.rect_emb_val t y 0, win5_2.rect_emb_val t y 1⟩) (at5 t) i l)

theorem k6_apply (x : Vec Ideal S4096x512 .bf16) (y : Vec Ideal S4096x512 .f32) (i : Fin 512) (l : Fin 512) :
    (k6_pay1 x y (ix2 i l) : EReal) = ∑ k : Fin 4096, @HMul.hMul EReal EReal EReal _ (x (ix2 k i)) (y (ix2 k l)) := by
  pointwise [k6_pay1]

theorem at6 : ∀ t : Fin cfg6.N, win6_0.index t 0 = 0 ∧ win6_0.index t 1 = win6_2.index t 0
    ∧ win6_1.index t 0 = 0 ∧ win6_1.index t 1 = win6_2.index t 1 := by decide +kernel

theorem final6 : (dat6 V c).arrAt 2 cfg6.N = tn (M := 512) (K := 4096) (N := 1024) (V c main_arg10) (V c main_arg13) := by
  refine (dat6 V c).arrAt_eq_of_covers 2 _ (by decide +kernel) fun t _ y => ?_
  blk_simp
  rw [after6_2]
  frame_out
  obtain ⟨i, l, rfl⟩ := Mat.eta y
  exact (k6_apply _ _ i l).trans (tn_of (V c main_arg10) (V c main_arg13) (fun y => ⟨win6_0.rect_emb_val t y 0, win6_0.rect_emb_val t y 1⟩)
    (fun y => ⟨win6_1.rect_emb_val t y 0, win6_1.rect_emb_val t y 1⟩) (fun y => ⟨win6_2.rect_emb_val t y 0, win6_2.rect_emb_val t y 1⟩) (at6 t) i l)

/-! ## The gradients of the second layer's projection in -/

theorem k7_apply (x : Vec Ideal S1024x1024 .bf16) (y : Vec Ideal S512x1024 .bf16) (i : Fin 1024) (l : Fin 512) :
    (k7_pay1 x y (ix2 i l) : EReal) = ∑ k : Fin 1024, @HMul.hMul EReal EReal EReal _ (x (ix2 i k)) (y (ix2 l k)) := by
  pointwise [k7_pay1]

theorem at7 : ∀ t : Fin cfg7.N, win7_0.index t 0 = win7_2.index t 0 ∧ win7_0.index t 1 = 0
    ∧ win7_1.index t 0 = win7_2.index t 1 ∧ win7_1.index t 1 = 0 := by decide +kernel

theorem final7 : (dat7 V c).arrAt 2 cfg7.N = nt (M := 4096) (K := 1024) (N := 1024) (V c main_arg14) (V c main_arg9) := by
  refine (dat7 V c).arrAt_eq_of_covers 2 _ (by decide +kernel) fun t _ y => ?_
  blk_simp
  rw [after7_2]
  frame_out
  obtain ⟨i, l, rfl⟩ := Mat.eta y
  exact (k7_apply _ _ i l).trans (nt_of (V c main_arg14) (V c main_arg9) (fun y => ⟨win7_0.rect_emb_val t y 0, win7_0.rect_emb_val t y 1⟩)
    (fun y => ⟨win7_1.rect_emb_val t y 0, win7_1.rect_emb_val t y 1⟩) (fun y => ⟨win7_2.rect_emb_val t y 0, win7_2.rect_emb_val t y 1⟩) (at7 t) i l)

theorem k8_apply (x : Vec Ideal S4096x512 .bf16) (y : Vec Ideal S4096x512 .bf16) (i : Fin 512) (l : Fin 512) :
    (k8_pay1 x y (ix2 i l) : EReal) = ∑ k : Fin 4096, @HMul.hMul EReal EReal EReal _ (x (ix2 k i)) (y (ix2 k l)) := by
  pointwise [k8_pay1]

theorem at8 : ∀ t : Fin cfg8.N, win8_0.index t 0 = 0 ∧ win8_0.index t 1 = win8_2.index t 0
    ∧ win8_1.index t 0 = 0 ∧ win8_1.index t 1 = win8_2.index t 1 := by decide +kernel

theorem final8 : (dat8 V c).arrAt 2 cfg8.N = tn (M := 1024) (K := 4096) (N := 1024) (V c main_arg8) (V c main_arg14) := by
  refine (dat8 V c).arrAt_eq_of_covers 2 _ (by decide +kernel) fun t _ y => ?_
  blk_simp
  rw [after8_2]
  frame_out
  obtain ⟨i, l, rfl⟩ := Mat.eta y
  exact (k8_apply _ _ i l).trans (tn_of (V c main_arg8) (V c main_arg14) (fun y => ⟨win8_0.rect_emb_val t y 0, win8_0.rect_emb_val t y 1⟩)
    (fun y => ⟨win8_1.rect_emb_val t y 0, win8_1.rect_emb_val t y 1⟩) (fun y => ⟨win8_2.rect_emb_val t y 0, win8_2.rect_emb_val t y 1⟩) (at8 t) i l)

/-! ## The gradients of the projection to the shared keys and values -/

theorem k9_apply (x : Vec Ideal S1024x1536 .bf16) (y : Vec Ideal S512x1536 .bf16) (i : Fin 1024) (l : Fin 512) :
    (k9_pay1 x y (ix2 i l) : EReal) = ∑ k : Fin 1536, @HMul.hMul EReal EReal EReal _ (x (ix2 i k)) (y (ix2 l k)) := by
  pointwise [k9_pay1]

theorem at9 : ∀ t : Fin cfg9.N, win9_0.index t 0 = win9_2.index t 0 ∧ win9_0.index t 1 = 0
    ∧ win9_1.index t 0 = win9_2.index t 1 ∧ win9_1.index t 1 = 0 := by decide +kernel

theorem final9 : (dat9 V c).arrAt 2 cfg9.N = nt (M := 4096) (K := 1536) (N := 1024) (V c main_arg15) (V c main_arg7) := by
  refine (dat9 V c).arrAt_eq_of_covers 2 _ (by decide +kernel) fun t _ y => ?_
  blk_simp
  rw [after9_2]
  frame_out
  obtain ⟨i, l, rfl⟩ := Mat.eta y
  exact (k9_apply _ _ i l).trans (nt_of (V c main_arg15) (V c main_arg7) (fun y => ⟨win9_0.rect_emb_val t y 0, win9_0.rect_emb_val t y 1⟩)
    (fun y => ⟨win9_1.rect_emb_val t y 0, win9_1.rect_emb_val t y 1⟩) (fun y => ⟨win9_2.rect_emb_val t y 0, win9_2.rect_emb_val t y 1⟩) (at9 t) i l)

theorem k10_apply (x : Vec Ideal S4096x512 .bf16) (y : Vec Ideal S4096x512 .bf16) (i : Fin 512) (l : Fin 512) :
    (k10_pay1 x y (ix2 i l) : EReal) = ∑ k : Fin 4096, @HMul.hMul EReal EReal EReal _ (x (ix2 k i)) (y (ix2 k l)) := k8_apply x y i l

theorem at10 : ∀ t : Fin cfg10.N, win10_0.index t 0 = 0 ∧ win10_0.index t 1 = win10_2.index t 0
    ∧ win10_1.index t 0 = 0 ∧ win10_1.index t 1 = win10_2.index t 1 := by decide +kernel

theorem final10 : (dat10 V c).arrAt 2 cfg10.N = tn (M := 1024) (K := 4096) (N := 1536) (V c main_arg6) (V c main_arg15) := by
  refine (dat10 V c).arrAt_eq_of_covers 2 _ (by decide +kernel) fun t _ y => ?_
  blk_simp
  rw [after10_2]
  frame_out
  obtain ⟨i, l, rfl⟩ := Mat.eta y
  exact (k10_apply _ _ i l).trans (tn_of (V c main_arg6) (V c main_arg15) (fun y => ⟨win10_0.rect_emb_val t y 0, win10_0.rect_emb_val t y 1⟩)
    (fun y => ⟨win10_1.rect_emb_val t y 0, win10_1.rect_emb_val t y 1⟩) (fun y => ⟨win10_2.rect_emb_val t y 0, win10_2.rect_emb_val t y 1⟩) (at10 t) i l)

/-! ## The gradients of the first layer's projection in -/

theorem k11_apply (x : Vec Ideal S1024x2816 .bf16) (y : Vec Ideal S512x2816 .bf16) (i : Fin 1024) (l : Fin 512) :
    (k11_pay1 x y (ix2 i l) : EReal) = ∑ k : Fin 2816, @HMul.hMul EReal EReal EReal _ (x (ix2 i k)) (y (ix2 l k)) := by
  pointwise [k11_pay1]

theorem at11 : ∀ t : Fin cfg11.N, win11_0.index t 0 = win11_2.index t 0 ∧ win11_0.index t 1 = 0
    ∧ win11_1.index t 0 = win11_2.index t 1 ∧ win11_1.index t 1 = 0 := by decide +kernel

theorem final11 : (dat11 V c).arrAt 2 cfg11.N = nt (M := 4096) (K := 2816) (N := 1024) (V c main_arg5) (V c main_arg1) := by
  refine (dat11 V c).arrAt_eq_of_covers 2 _ (by decide +kernel) fun t _ y => ?_
  blk_simp
  rw [after11_2]
  frame_out
  obtain ⟨i, l, rfl⟩ := Mat.eta y
  exact (k11_apply _ _ i l).trans (nt_of (V c main_arg5) (V c main_arg1) (fun y => ⟨win11_0.rect_emb_val t y 0, win11_0.rect_emb_val t y 1⟩)
    (fun y => ⟨win11_1.rect_emb_val t y 0, win11_1.rect_emb_val t y 1⟩) (fun y => ⟨win11_2.rect_emb_val t y 0, win11_2.rect_emb_val t y 1⟩) (at11 t) i l)

theorem k12_apply (x : Vec Ideal S4096x512 .bf16) (y : Vec Ideal S4096x1408 .bf16) (i : Fin 512) (l : Fin 1408) :
    (k12_pay1 x y (ix2 i l) : EReal) = ∑ k : Fin 4096, @HMul.hMul EReal EReal EReal _ (x (ix2 k i)) (y (ix2 k l)) := by
  pointwise [k12_pay1]

theorem at12 : ∀ t : Fin cfg12.N, win12_0.index t 0 = 0 ∧ win12_0.index t 1 = win12_2.index t 0
    ∧ win12_1.index t 0 = 0 ∧ win12_1.index t 1 = win12_2.index t 1 := by decide +kernel

theorem final12 : (dat12 V c).arrAt 2 cfg12.N = tn (M := 1024) (K := 4096) (N := 2816) (V c main_arg0) (V c main_arg5) := by
  refine (dat12 V c).arrAt_eq_of_covers 2 _ (by decide +kernel) fun t _ y => ?_
  blk_simp
  rw [after12_2]
  frame_out
  obtain ⟨i, l, rfl⟩ := Mat.eta y
  exact (k12_apply _ _ i l).trans (tn_of (V c main_arg0) (V c main_arg5) (fun y => ⟨win12_0.rect_emb_val t y 0, win12_0.rect_emb_val t y 1⟩)
    (fun y => ⟨win12_1.rect_emb_val t y 0, win12_1.rect_emb_val t y 1⟩) (fun y => ⟨win12_2.rect_emb_val t y 0, win12_2.rect_emb_val t y 1⟩) (at12 t) i l)

end Cert.Proj

end
-- ==== Proof.ProjRun.lean ====
/- The run of the thirteen products of the other projections: every execution ends with the products of the arguments. -/
module

public import proofs.«01_k».proof.Proof.Proj

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen Cert.Mat

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the thirteen products ends with every buffer at the last boundary's contents and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W13 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨h, funext fun g => hz g (.inr (no_unscoped g.2))⟩)

end Run

variable (m : (ℓ : Loc nD τ sig) → Buf (Elt Ideal) ℓ) (ρ : Dev nD → PrngReg) (c : Dev nD)

/-- The sixteen arguments, as matrices. -/
abbrev h0 : Ix 4096 1024 → EReal := m ((c : Thread nD τ).loc main_arg0)
abbrev awin : Ix 1024 2816 → EReal := m ((c : Thread nD τ).loc main_arg1)
abbrev ycat0 : Ix 4096 1024 → EReal := m ((c : Thread nD τ).loc main_arg2)
abbrev awout : Ix 1024 1024 → EReal := m ((c : Thread nD τ).loc main_arg3)
abbrev x : Ix 4096 1024 → EReal := m ((c : Thread nD τ).loc main_arg4)
abbrev dp : Ix 4096 2816 → EReal := m ((c : Thread nD τ).loc main_arg5)
abbrev hkv : Ix 4096 1024 → EReal := m ((c : Thread nD τ).loc main_arg6)
abbrev kvw : Ix 1024 1536 → EReal := m ((c : Thread nD τ).loc main_arg7)
abbrev h1 : Ix 4096 1024 → EReal := m ((c : Thread nD τ).loc main_arg8)
abbrev bwin : Ix 1024 1024 → EReal := m ((c : Thread nD τ).loc main_arg9)
abbrev ycat1 : Ix 4096 512 → EReal := m ((c : Thread nD τ).loc main_arg10)
abbrev bwout : Ix 512 1024 → EReal := m ((c : Thread nD τ).loc main_arg11)
abbrev x2 : Ix 4096 1024 → EReal := m ((c : Thread nD τ).loc main_arg12)
abbrev dx3 : Ix 4096 1024 → EReal := m ((c : Thread nD τ).loc main_arg13)
abbrev dpb : Ix 4096 1024 → EReal := m ((c : Thread nD τ).loc main_arg14)
abbrev dkvp : Ix 4096 1536 → EReal := m ((c : Thread nD τ).loc main_arg15)

/-- The result arrays, in the order in which the calls write them. -/
abbrev results : List (Ref sig .tc) :=
  [main_v0, main_v1, main_v2, main_v3, main_v4, main_v5, main_v6, main_v7, main_v8, main_v9, main_v10, main_v11, main_v12]

/-! The first results are as they were after the call that wrote the last of them: no later call writes one. -/

theorem keep12 (r) (h : r ∈ results.take 12) : W13 m ρ c (Proc.devRef .tc r) = W12 m ρ c (Proc.devRef .tc r) :=
  W13_of m ρ c r ((by decide : ∀ r ∈ results.take 12, ∀ w, Pipeline.arrRef spec12 w = r → (cfg12.win w).isOut = false) r h)
theorem keep11 (r) (h : r ∈ results.take 11) : W13 m ρ c (Proc.devRef .tc r) = W11 m ρ c (Proc.devRef .tc r) :=
  (keep12 m ρ c r ((by decide : ∀ r ∈ results.take 11, r ∈ results.take 12) r h)).trans
    (W12_of m ρ c r ((by decide : ∀ r ∈ results.take 11, ∀ w, Pipeline.arrRef spec11 w = r → (cfg11.win w).isOut = false) r h))
theorem keep10 (r) (h : r ∈ results.take 10) : W13 m ρ c (Proc.devRef .tc r) = W10 m ρ c (Proc.devRef .tc r) :=
  (keep11 m ρ c r ((by decide : ∀ r ∈ results.take 10, r ∈ results.take 11) r h)).trans
    (W11_of m ρ c r ((by decide : ∀ r ∈ results.take 10, ∀ w, Pipeline.arrRef spec10 w = r → (cfg10.win w).isOut = false) r h))
theorem keep9 (r) (h : r ∈ results.take 9) : W13 m ρ c (Proc.devRef .tc r) = W9 m ρ c (Proc.devRef .tc r) :=
  (keep10 m ρ c r ((by decide : ∀ r ∈ results.take 9, r ∈ results.take 10) r h)).trans
    (W10_of m ρ c r ((by decide : ∀ r ∈ results.take 9, ∀ w, Pipeline.arrRef spec9 w = r → (cfg9.win w).isOut = false) r h))
theorem keep8 (r) (h : r ∈ results.take 8) : W13 m ρ c (Proc.devRef .tc r) = W8 m ρ c (Proc.devRef .tc r) :=
  (keep9 m ρ c r ((by decide : ∀ r ∈ results.take 8, r ∈ results.take 9) r h)).trans
    (W9_of m ρ c r ((by decide : ∀ r ∈ results.take 8, ∀ w, Pipeline.arrRef spec8 w = r → (cfg8.win w).isOut = false) r h))
theorem keep7 (r) (h : r ∈ results.take 7) : W13 m ρ c (Proc.devRef .tc r) = W7 m ρ c (Proc.devRef .tc r) :=
  (keep8 m ρ c r ((by decide : ∀ r ∈ results.take 7, r ∈ results.take 8) r h)).trans
    (W8_of m ρ c r ((by decide : ∀ r ∈ results.take 7, ∀ w, Pipeline.arrRef spec7 w = r → (cfg7.win w).isOut = false) r h))
theorem keep6 (r) (h : r ∈ results.take 6) : W13 m ρ c (Proc.devRef .tc r) = W6 m ρ c (Proc.devRef .tc r) :=
  (keep7 m ρ c r ((by decide : ∀ r ∈ results.take 6, r ∈ results.take 7) r h)).trans
    (W7_of m ρ c r ((by decide : ∀ r ∈ results.take 6, ∀ w, Pipeline.arrRef spec6 w = r → (cfg6.win w).isOut = false) r h))
theorem keep5 (r) (h : r ∈ results.take 5) : W13 m ρ c (Proc.devRef .tc r) = W5 m ρ c (Proc.devRef .tc r) :=
  (keep6 m ρ c r ((by decide : ∀ r ∈ results.take 5, r ∈ results.take 6) r h)).trans
    (W6_of m ρ c r ((by decide : ∀ r ∈ results.take 5, ∀ w, Pipeline.arrRef spec5 w = r → (cfg5.win w).isOut = false) r h))
theorem keep4 (r) (h : r ∈ results.take 4) : W13 m ρ c (Proc.devRef .tc r) = W4 m ρ c (Proc.devRef .tc r) :=
  (keep5 m ρ c r ((by decide : ∀ r ∈ results.take 4, r ∈ results.take 5) r h)).trans
    (W5_of m ρ c r ((by decide : ∀ r ∈ results.take 4, ∀ w, Pipeline.arrRef spec4 w = r → (cfg4.win w).isOut = false) r h))
theorem keep3 (r) (h : r ∈ results.take 3) : W13 m ρ c (Proc.devRef .tc r) = W3 m ρ c (Proc.devRef .tc r) :=
  (keep4 m ρ c r ((by decide : ∀ r ∈ results.take 3, r ∈ results.take 4) r h)).trans
    (W4_of m ρ c r ((by decide : ∀ r ∈ results.take 3, ∀ w, Pipeline.arrRef spec3 w = r → (cfg3.win w).isOut = false) r h))
theorem keep2 (r) (h : r ∈ results.take 2) : W13 m ρ c (Proc.devRef .tc r) = W2 m ρ c (Proc.devRef .tc r) :=
  (keep3 m ρ c r ((by decide : ∀ r ∈ results.take 2, r ∈ results.take 3) r h)).trans
    (W3_of m ρ c r ((by decide : ∀ r ∈ results.take 2, ∀ w, Pipeline.arrRef spec2 w = r → (cfg2.win w).isOut = false) r h))
theorem keep1 (r) (h : r ∈ results.take 1) : W13 m ρ c (Proc.devRef .tc r) = W1 m ρ c (Proc.devRef .tc r) :=
  (keep2 m ρ c r ((by decide : ∀ r ∈ results.take 1, r ∈ results.take 2) r h)).trans
    (W2_of m ρ c r ((by decide : ∀ r ∈ results.take 1, ∀ w, Pipeline.arrRef spec1 w = r → (cfg1.win w).isOut = false) r h))

/-! So each result ends as the product of the arguments. -/

theorem end_p : W13 m ρ c (Proc.devRef .tc main_v0) = nn (h0 m c) (awin m c) := by
  refine (keep1 m ρ c _ (by decide)).trans <| (W1_arr m ρ c 2).trans <| final0 _ c

theorem end_x1 : W13 m ρ c (Proc.devRef .tc main_v1) = nnAdd (ycat0 m c) (awout m c) (x m c) := by
  refine (keep2 m ρ c _ (by decide)).trans <| (W2_arr m ρ c 3).trans <| (final1 _ c).trans ?_
  rw [show V1 m ρ c main_arg2 = _ from W1_args m ρ c main_arg2 (by decide), show V1 m ρ c main_arg3 = _ from W1_args m ρ c main_arg3 (by decide),
    show V1 m ρ c main_arg4 = _ from W1_args m ρ c main_arg4 (by decide)]

theorem end_kvp : W13 m ρ c (Proc.devRef .tc main_v2) = nn (hkv m c) (kvw m c) := by
  refine (keep3 m ρ c _ (by decide)).trans <| (W3_arr m ρ c 2).trans <| (final2 _ c).trans ?_
  rw [show V2 m ρ c main_arg6 = _ from W2_args m ρ c main_arg6 (by decide), show V2 m ρ c main_arg7 = _ from W2_args m ρ c main_arg7 (by decide)]

theorem end_pb : W13 m ρ c (Proc.devRef .tc main_v3) = nn (h1 m c) (bwin m c) := by
  refine (keep4 m ρ c _ (by decide)).trans <| (W4_arr m ρ c 2).trans <| (final3 _ c).trans ?_
  rw [show V3 m ρ c main_arg8 = _ from W3_args m ρ c main_arg8 (by decide), show V3 m ρ c main_arg9 = _ from W3_args m ρ c main_arg9 (by decide)]

theorem end_x3 : W13 m ρ c (Proc.devRef .tc main_v4) = nnAdd (ycat1 m c) (bwout m c) (x2 m c) := by
  refine (keep5 m ρ c _ (by decide)).trans <| (W5_arr m ρ c 3).trans <| (final4 _ c).trans ?_
  rw [show V4 m ρ c main_arg10 = _ from W4_args m ρ c main_arg10 (by decide), show V4 m ρ c main_arg11 = _ from W4_args m ρ c main_arg11 (by decide),
    show V4 m ρ c main_arg12 = _ from W4_args m ρ c main_arg12 (by decide)]

theorem end_dycat1 : W13 m ρ c (Proc.devRef .tc main_v5) = nt (dx3 m c) (bwout m c) := by
  refine (keep6 m ρ c _ (by decide)).trans <| (W6_arr m ρ c 2).trans <| (final5 _ c).trans ?_
  rw [show V5 m ρ c main_arg13 = _ from W5_args m ρ c main_arg13 (by decide), show V5 m ρ c main_arg11 = _ from W5_args m ρ c main_arg11 (by decide)]

theorem end_gbout : W13 m ρ c (Proc.devRef .tc main_v6) = tn (ycat1 m c) (dx3 m c) := by
  refine (keep7 m ρ c _ (by decide)).trans <| (W7_arr m ρ c 2).trans <| (final6 _ c).trans ?_
  rw [show V6 m ρ c main_arg10 = _ from W6_args m ρ c main_arg10 (by decide), show V6 m ρ c main_arg13 = _ from W6_args m ρ c main_arg13 (by decide)]

theorem end_dh1 : W13 m ρ c (Proc.devRef .tc main_v7) = nt (dpb m c) (bwin m c) := by
  refine (keep8 m ρ c _ (by decide)).trans <| (W8_arr m ρ c 2).trans <| (final7 _ c).trans ?_
  rw [show V7 m ρ c main_arg14 = _ from W7_args m ρ c main_arg14 (by decide), show V7 m ρ c main_arg9 = _ from W7_args m ρ c main_arg9 (by decide)]

theorem end_gbin : W13 m ρ c (Proc.devRef .tc main_v8) = tn (h1 m c) (dpb m c) := by
  refine (keep9 m ρ c _ (by decide)).trans <| (W9_arr m ρ c 2).trans <| (final8 _ c).trans ?_
  rw [show V8 m ρ c main_arg8 = _ from W8_args m ρ c main_arg8 (by decide), show V8 m ρ c main_arg14 = _ from W8_args m ρ c main_arg14 (by decide)]

theorem end_dhkv : W13 m ρ c (Proc.devRef .tc main_v9) = nt (dkvp m c) (kvw m c) := by
  refine (keep10 m ρ c _ (by decide)).trans <| (W10_arr m ρ c 2).trans <| (final9 _ c).trans ?_
  rw [show V9 m ρ c main_arg15 = _ from W9_args m ρ c main_arg15 (by decide), show V9 m ρ c main_arg7 = _ from W9_args m ρ c main_arg7 (by decide)]

theorem end_gkv : W13 m ρ c (Proc.devRef .tc main_v10) = tn (hkv m c) (dkvp m c) := by
  refine (keep11 m ρ c _ (by decide)).trans <| (W11_arr m ρ c 2).trans <| (final10 _ c).trans ?_
  rw [show V10 m ρ c main_arg6 = _ from W10_args m ρ c main_arg6 (by decide), show V10 m ρ c main_arg15 = _ from W10_args m ρ c main_arg15 (by decide)]

theorem end_dh0 : W13 m ρ c (Proc.devRef .tc main_v11) = nt (dp m c) (awin m c) := by
  refine (keep12 m ρ c _ (by decide)).trans <| (W12_arr m ρ c 2).trans <| (final11 _ c).trans ?_
  rw [show V11 m ρ c main_arg5 = _ from W11_args m ρ c main_arg5 (by decide), show V11 m ρ c main_arg1 = _ from W11_args m ρ c main_arg1 (by decide)]

theorem end_gain : W13 m ρ c (Proc.devRef .tc main_v12) = tn (h0 m c) (dp m c) := by
  refine (W13_arr m ρ c 2).trans <| (final12 _ c).trans ?_
  rw [show V12 m ρ c main_arg0 = _ from W12_args m ρ c main_arg0 (by decide), show V12 m ρ c main_arg5 = _ from W12_args m ρ c main_arg5 (by decide)]

end Cert.Proj

end
-- ==== Proof.OutDx.lean ====
/- What the gradient of the first layer's attention output leaves: at the first point of a row of blocks the kernel stores the row of
   the first factor, and at every point of the row it multiplies what it stored. -/
module

public import proofs.«01_k».proof.Proof.Mat
public import proofs.«01_k».proof.Proof.Carry
public import proofs.«01_k».proof.Proof.Gen.Kernel5Ideal.Value

@[expose] public section

set_option maxRecDepth 16384

noncomputable section

namespace Cert.OutDx

open Idealize.ShloMosaic Cert.Kernel5Ideal Cert.Kernel5Ideal.Gen Cert.Kernel5Ideal.Value Cert.Mat
open Idealize.ShloMosaic.TcCoe
open Idealize.SL Idealize.SL.Sem

theorem stored_apply (x : Vec Ideal S1024x1024 .f32) (i l : Fin 1024) : (k0_pay1 x (ix2 i l) : EReal) = x (ix2 i l) := by
  pointwise [k0_pay1]

theorem block_apply (x : Vec Ideal S1024x1024 .bf16) (y : Vec Ideal S512x1024 .bf16) (i : Fin 1024) (l : Fin 512) :
    (k0_pay2 x y (ix2 i l) : EReal) = ∑ k : Fin 1024, @HMul.hMul EReal EReal EReal _ (x (ix2 i k)) (y (ix2 l k)) := by
  pointwise [k0_pay2]

theorem first_out {c i a2 h2 a3 h3 a4 h4 a5 h5 hc} (x0 : Vec Ideal S1024x1024 .f32) (x1 : Vec Ideal S512x1024 .bf16) :
    out0_A_2 c i a2 h2 a3 h3 a4 h4 a5 h5 hc x0 x1 = k0_pay2 (k0_pay1 x0) x1 := by
  unfold out0_A_2 kernelRun0_A
  dsimp only
  rw [View.read_writes_junk_eq_canon]
  refine (View.canon_unit_zero origin _ _).trans ?_
  unfold kernelRun0_A.sl.v3 kernelRun0_A.sl.HS0_1
  exact congrArg₂ k0_pay2 ((View.readCov_unit_zero _ origin _ _).trans (congrArg k0_pay1 (load_all h2 x0 origin _))) (load_all h3 x1 origin _)

theorem first_stored {c i a2 h2 a3 h3 a4 h4 a5 h5 hc} (x0 : Vec Ideal S1024x1024 .f32) (x1 : Vec Ideal S512x1024 .bf16) :
    sout0_A_0 c i a2 h2 a3 h3 a4 h4 a5 h5 hc x0 x1 = k0_pay1 x0 := by
  unfold sout0_A_0 kernelRun0_A
  dsimp only
  rw [View.read_writes_junk_eq_canon]
  unfold kernelRun0_A.sl.HS0_1
  exact (View.canon_unit_zero origin _ _).trans (congrArg k0_pay1 (load_all h2 x0 origin _))

theorem later_out {c i a2 h2 a3 h3 a4 h4 a5 h5 hc} (x0 : Vec Ideal S1024x1024 .f32) (x1 : Vec Ideal S512x1024 .bf16) (xs : Vec Ideal S1024x1024 .bf16) :
    out0_B_2 c i a2 h2 a3 h3 a4 h4 a5 h5 hc x0 x1 xs = k0_pay2 xs x1 := by
  unfold out0_B_2 kernelRun0_B
  dsimp only
  rw [View.read_writes_junk_eq_canon]
  exact (View.canon_unit_zero origin _ _).trans (congrArg₂ k0_pay2 (load_all h5 xs origin _) (load_all h3 x1 origin _))

variable (m : (ℓ : Loc nD τ sig) → Buf (Elt Ideal) ℓ) (c : Dev nD)

/-- The two factors, as matrices. -/
abbrev dx1 : Ix 4096 1024 → EReal := m ((c : Thread nD τ).loc main_arg3)
abbrev awout : Ix 1024 1024 → EReal := m ((c : Thread nD τ).loc main_arg2)

theorem at0 : ∀ t : Fin cfg0.N, win0_0.index t 0 = win0_2.index t 0 ∧ win0_0.index t 1 = 0
    ∧ win0_1.index t 0 = win0_2.index t 1 ∧ win0_1.index t 1 = 0 := by decide +kernel

/-- The row of blocks does not change between its points. -/
theorem row : ∀ t : Fin cfg0.N, win0_2.index t 0 = t.val / 2 := by decide +kernel

/-- The row of the first factor that a point of the grid multiplies. -/
def band (n : Nat) (hn : n < cfg0.N) (y : Ix 1024 1024) : Ix 4096 1024 :=
  ix2 ⟨n / 2 * 1024 + (y 0).val, by
    have h := lt_of_lt_of_eq hn (show cfg0.N = 8 from N_0)
    have h' : (y 0).val < 1024 := (y 0).isLt
    omega⟩ (y 1)

theorem first_band (t : Fin cfg0.N) (h : t.val % 2 = 0) (y : Ix 1024 1024) : ((outsAt0 m c t.val t.isLt).2 y : EReal) = dx1 m c (band t.val t.isLt y) := by
  rw [outsAt0_A m c t h]
  dsimp only
  rw [first_stored]
  obtain ⟨i, l, rfl⟩ := Mat.eta y
  refine (stored_apply _ i l).trans (congrArg (dx1 m c) (ix_ext ⟨?_, ?_⟩))
  · exact (win0_0.rect_emb_val t (ix2 i l) 0).trans (by rw [(at0 t).1, row t]; rfl)
  · exact (win0_0.rect_emb_val t (ix2 i l) 1).trans (by rw [(at0 t).2.1, Nat.zero_mul, Nat.zero_add])

/-- After every point of a row of blocks the carried buffer holds the row of the first factor. -/
theorem stored : ∀ (n : Nat) (hn : n < cfg0.N) (y : Ix 1024 1024), ((outsAt0 m c n hn).2 y : EReal) = dx1 m c (band n hn y) := by
  intro n
  induction n with
  | zero => exact fun hn y => first_band m c ⟨0, hn⟩ rfl y
  | succ n ih =>
    intro hn y
    by_cases h : (n + 1) % 2 = 0
    · exact first_band m c ⟨n + 1, hn⟩ h y
    · have e := congrArg Prod.snd (outsAt0_B m c ⟨n + 1, hn⟩ h)
      refine (congrFun e y).trans ((ih (Nat.lt_of_succ_lt hn) y).trans (congrArg (dx1 m c) (ix_ext ⟨?_, rfl⟩)))
      show n / 2 * 1024 + (y 0).val = (n + 1) / 2 * 1024 + (y 0).val
      rw [show (n + 1) / 2 = n / 2 by omega]

/-- So a point's block is the product of the row of the first factor and a band of the second factor's rows. -/
theorem block (t : Fin cfg0.N) : (dats m 0 c).flushed 2 t = (cfg0.win 2).cut (grid0.coords t) (k0_pay2 (outsAt0 m c t.val t.isLt).2 (iblk m c 1 t)) := by
  by_cases h : t.val % 2 = 0
  · rw [flushed2_A m c t h, first_out, outsAt0_A m c t h]
    dsimp only
    rw [first_stored]
  · rw [flushed2_B m c t h, later_out, outsAt0_B m c t h]
    rfl

theorem final : (dats m 0 c).arrAt 2 cfg0.N = nt (dx1 m c) (awout m c) := by
  refine (dats m 0 c).arrAt_eq_of_cover 2 (nt (dx1 m c) (awout m c)) (fun t _ => ?_) fun i => (covered_iff2 i).mpr ⟨Nat.zero_le _, (i 0).isLt, Nat.zero_le _, (i 1).isLt⟩
  rw [block]
  funext x
  obtain ⟨i, l, rfl⟩ := Mat.eta x
  have e := row t
  refine (block_apply _ _ i l).trans ((Finset.sum_congr rfl fun k _ => congrArg (fun a => @HMul.hMul EReal EReal EReal _ a (iblk m c 1 t (ix2 l k))) (stored m c t.val t.isLt (ix2 i k))).trans ?_)
  exact nt_of (dx1 m c) (awout m c) (f := band t.val t.isLt) (a := t.val / 2) (s := 1024) (a' := 0) (s' := 1)
    (fun y => ⟨rfl, by rw [Nat.zero_mul, Nat.zero_add]; rfl⟩) (fun y => ⟨win0_1.rect_emb_val t y 0, win0_1.rect_emb_val t y 1⟩)
    (fun y => ⟨win0_2.rect_emb_val t y 0, win0_2.rect_emb_val t y 1⟩) ⟨e.symm, rfl, (at0 t).2.2.1, (at0 t).2.2.2⟩ i l

/-- Every execution ends with the product, and the arguments as they were. -/
theorem run_all (ρ : Dev nD → PrngReg) : θ_run defs (onTc (τ := τ) (main (F := Ideal))) ⟨m, fun _ => 0, ρ⟩ fun r => ∀ c : Dev nD,
      r.2.mem ((c : Thread nD τ).loc main_v0) = nt (dx1 m c) (awout m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.OutDx

end
-- ==== Proof.OutDw.lean ====
/- What the gradient of the first layer's projection out leaves: at the first point of a column of blocks the kernel stores the column of the
   second factor, and at every point of the column it multiplies by what it stored. -/
module

public import proofs.«01_k».proof.Proof.Mat
public import proofs.«01_k».proof.Proof.Carry
public import proofs.«01_k».proof.Proof.Gen.Kernel6Ideal.Value

@[expose] public section

set_option maxRecDepth 16384

noncomputable section

namespace Cert.OutDw

open Idealize.ShloMosaic Cert.Kernel6Ideal Cert.Kernel6Ideal.Gen Cert.Kernel6Ideal.Value Cert.Mat
open Idealize.ShloMosaic.TcCoe
open Idealize.SL Idealize.SL.Sem

theorem stored_apply (x : Vec Ideal S4096x512 .f32) (i : Fin 4096) (l : Fin 512) : (k0_pay1 x (ix2 i l) : EReal) = x (ix2 i l) := by
  pointwise [k0_pay1]

theorem block_apply (x : Vec Ideal S4096x512 .bf16) (y : Vec Ideal S4096x512 .bf16) (i : Fin 512) (l : Fin 512) :
    (k0_pay2 x y (ix2 i l) : EReal) = ∑ k : Fin 4096, @HMul.hMul EReal EReal EReal _ (x (ix2 k i)) (y (ix2 k l)) := by
  pointwise [k0_pay2]

theorem first_out {c i a2 h2 a3 h3 a4 h4 a5 h5 hc} (x0 : Vec Ideal S4096x512 .bf16) (x1 : Vec Ideal S4096x512 .f32) :
    out0_A_2 c i a2 h2 a3 h3 a4 h4 a5 h5 hc x0 x1 = k0_pay2 x0 (k0_pay1 x1) := by
  unfold out0_A_2 kernelRun0_A
  dsimp only
  rw [View.read_writes_junk_eq_canon]
  refine (View.canon_unit_zero origin _ _).trans ?_
  unfold kernelRun0_A.sl.v4 kernelRun0_A.sl.HS0_1
  exact congrArg₂ k0_pay2 (load_all h2 x0 origin _) ((View.readCov_unit_zero _ origin _ _).trans (congrArg k0_pay1 (load_all h3 x1 origin _)))

theorem first_stored {c i a2 h2 a3 h3 a4 h4 a5 h5 hc} (x0 : Vec Ideal S4096x512 .bf16) (x1 : Vec Ideal S4096x512 .f32) :
    sout0_A_0 c i a2 h2 a3 h3 a4 h4 a5 h5 hc x0 x1 = k0_pay1 x1 := by
  unfold sout0_A_0 kernelRun0_A
  dsimp only
  rw [View.read_writes_junk_eq_canon]
  unfold kernelRun0_A.sl.HS0_1
  exact (View.canon_unit_zero origin _ _).trans (congrArg k0_pay1 (load_all h3 x1 origin _))

theorem later_out {c i a2 h2 a3 h3 a4 h4 a5 h5 hc} (x0 : Vec Ideal S4096x512 .bf16) (x1 : Vec Ideal S4096x512 .f32) (xs : Vec Ideal S4096x512 .bf16) :
    out0_B_2 c i a2 h2 a3 h3 a4 h4 a5 h5 hc x0 x1 xs = k0_pay2 x0 xs := by
  unfold out0_B_2 kernelRun0_B
  dsimp only
  rw [View.read_writes_junk_eq_canon]
  exact (View.canon_unit_zero origin _ _).trans (congrArg₂ k0_pay2 (load_all h2 x0 origin _) (load_all h5 xs origin _))

variable (m : (ℓ : Loc nD τ sig) → Buf (Elt Ideal) ℓ) (c : Dev nD)

/-- The two factors, as matrices. -/
abbrev ycat0 : Ix 4096 1024 → EReal := m ((c : Thread nD τ).loc main_arg1)
abbrev dx1 : Ix 4096 1024 → EReal := m ((c : Thread nD τ).loc main_arg3)

theorem at0 : ∀ t : Fin cfg0.N, win0_0.index t 0 = 0 ∧ win0_0.index t 1 = win0_2.index t 0
    ∧ win0_1.index t 0 = 0 ∧ win0_1.index t 1 = win0_2.index t 1 := by decide +kernel

/-- The column of blocks does not change between its points. -/
theorem column : ∀ t : Fin cfg0.N, win0_2.index t 1 = t.val / 2 := by decide +kernel

/-- The column of the second factor that a point of the grid multiplies by. -/
def band (n : Nat) (hn : n < cfg0.N) (y : Ix 4096 512) : Ix 4096 1024 :=
  ix2 (y 0) ⟨n / 2 * 512 + (y 1).val, by
    have h := lt_of_lt_of_eq hn (show cfg0.N = 4 from N_0)
    have h' : (y 1).val < 512 := (y 1).isLt
    omega⟩

theorem first_band (t : Fin cfg0.N) (h : t.val % 2 = 0) (y : Ix 4096 512) : ((outsAt0 m c t.val t.isLt).2 y : EReal) = dx1 m c (band t.val t.isLt y) := by
  rw [outsAt0_A m c t h]
  dsimp only
  rw [first_stored]
  obtain ⟨i, l, rfl⟩ := Mat.eta y
  refine (stored_apply _ i l).trans (congrArg (dx1 m c) (ix_ext ⟨?_, ?_⟩))
  · exact (win0_1.rect_emb_val t (ix2 i l) 0).trans (by rw [(at0 t).2.2.1, Nat.zero_mul, Nat.zero_add])
  · exact (win0_1.rect_emb_val t (ix2 i l) 1).trans (by rw [(at0 t).2.2.2, column t]; rfl)

/-- After every point of a column of blocks the carried buffer holds the column of the second factor. -/
theorem stored : ∀ (n : Nat) (hn : n < cfg0.N) (y : Ix 4096 512), ((outsAt0 m c n hn).2 y : EReal) = dx1 m c (band n hn y) := by
  intro n
  induction n with
  | zero => exact fun hn y => first_band m c ⟨0, hn⟩ rfl y
  | succ n ih =>
    intro hn y
    by_cases h : (n + 1) % 2 = 0
    · exact first_band m c ⟨n + 1, hn⟩ h y
    · have e := congrArg Prod.snd (outsAt0_B m c ⟨n + 1, hn⟩ h)
      refine (congrFun e y).trans ((ih (Nat.lt_of_succ_lt hn) y).trans (congrArg (dx1 m c) (ix_ext ⟨rfl, ?_⟩)))
      show n / 2 * 512 + (y 1).val = (n + 1) / 2 * 512 + (y 1).val
      rw [show (n + 1) / 2 = n / 2 by omega]

/-- So a point's block is the product of a band of the first factor's columns and the column of the second factor. -/
theorem block (t : Fin cfg0.N) : (dats m 0 c).flushed 2 t = (cfg0.win 2).cut (grid0.coords t) (k0_pay2 (iblk m c 0 t) (outsAt0 m c t.val t.isLt).2) := by
  by_cases h : t.val % 2 = 0
  · rw [flushed2_A m c t h, first_out, outsAt0_A m c t h]
    dsimp only
    rw [first_stored]
  · rw [flushed2_B m c t h, later_out, outsAt0_B m c t h]
    rfl

theorem final : (dats m 0 c).arrAt 2 cfg0.N = tn (ycat0 m c) (dx1 m c) := by
  refine (dats m 0 c).arrAt_eq_of_cover 2 (tn (ycat0 m c) (dx1 m c)) (fun t _ => ?_) fun i => (covered_iff2 i).mpr ⟨Nat.zero_le _, (i 0).isLt, Nat.zero_le _, (i 1).isLt⟩
  rw [block]
  funext x
  obtain ⟨i, l, rfl⟩ := Mat.eta x
  have e := column t
  refine (block_apply _ _ i l).trans ((Finset.sum_congr rfl fun k _ => congrArg (@HMul.hMul EReal EReal EReal _ (iblk m c 0 t (ix2 k i))) (stored m c t.val t.isLt (ix2 k l))).trans ?_)
  exact tn_of (ycat0 m c) (dx1 m c) (g := band t.val t.isLt) (b := 0) (b' := t.val / 2) (u := 512) (u' := 1) (fun y => ⟨win0_0.rect_emb_val t y 0, win0_0.rect_emb_val t y 1⟩)
    (fun y => ⟨by rw [Nat.zero_mul, Nat.zero_add]; rfl, rfl⟩) (fun y => ⟨win0_2.rect_emb_val t y 0, win0_2.rect_emb_val t y 1⟩)
    ⟨(at0 t).1, (at0 t).2.1, rfl, e.symm⟩ i l

/-- Every execution ends with the product, and the arguments as they were. -/
theorem run_all (ρ : Dev nD → PrngReg) : θ_run defs (onTc (τ := τ) (main (F := Ideal))) ⟨m, fun _ => 0, ρ⟩ fun r => ∀ c : Dev nD,
      r.2.mem ((c : Thread nD τ).loc main_v0) = tn (ycat0 m c) (dx1 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.OutDw

end
-- ==== Proof.ProjRef.lean ====
/- The references of the other projections: their results are the products of the arguments. -/
module

public import proofs.«01_k».proof.Proof.Mat
public import proofs.«01_k».proof.Proof.Gen.Reference4Ideal.Run
public import proofs.«01_k».proof.Proof.Gen.Reference5Ideal.Run
public import proofs.«01_k».proof.Proof.Gen.Reference6Ideal.Run
public import Idealize.ShloMosaic.Lib.Quiescent

@[expose] public section

set_option maxRecDepth 16384

noncomputable section

namespace Cert.ProjRef

open Idealize.ShloMosaic Cert.Mat
open Idealize.ShloMosaic.TcCoe
open Idealize.SL Idealize.SL.Sem

section Products

open Cert.Reference4Ideal Cert.Reference4Ideal.Gen

variable (h ycat0 dpb : Vec Ideal S4096x1024 .bf16) (ycat1 : Vec Ideal S4096x512 .bf16) (dp : Vec Ideal S4096x2816 .bf16) (dkvp : Vec Ideal S4096x1536 .bf16)
  (x dx3 : Vec Ideal S4096x1024 .f32)
  (awin : Vec Ideal S1024x2816 .bf16) (kvw : Vec Ideal S1024x1536 .bf16) (w : Vec Ideal S1024x1024 .bf16) (bwout : Vec Ideal S512x1024 .bf16)

/-! ## The products forward -/

theorem ref_p : Host.dotGeneral (F := Ideal) dot_S4096x1024_S1024x2816_S4096x2816_1_0_0_1_n_n none (extf .f32 h bitsLt_bf16_f32) (extf .f32 awin bitsLt_bf16_f32)
    = nn (M := 4096) (K := 1024) (N := 2816) h awin := by
  funext y
  obtain ⟨i, l, rfl⟩ := Mat.eta y
  show (_ : EReal) = ∑ k : Fin 1024, @HMul.hMul EReal EReal EReal _ (h (ix2 i k)) (awin (ix2 k l))
  pointwise []

theorem ref_kvp : Host.dotGeneral (F := Ideal) dot_S4096x1024_S1024x1536_S4096x1536_1_0_0_1_n_n none (extf .f32 h bitsLt_bf16_f32) (extf .f32 kvw bitsLt_bf16_f32)
    = nn (M := 4096) (K := 1024) (N := 1536) h kvw := by
  funext y
  obtain ⟨i, l, rfl⟩ := Mat.eta y
  show (_ : EReal) = ∑ k : Fin 1024, @HMul.hMul EReal EReal EReal _ (h (ix2 i k)) (kvw (ix2 k l))
  pointwise []

theorem ref_pb : Host.dotGeneral (F := Ideal) dot_S4096x1024_S1024x1024_S4096x1024_1_0_0_1_n_n none (extf .f32 h bitsLt_bf16_f32) (extf .f32 w bitsLt_bf16_f32)
    = nn (M := 4096) (K := 1024) (N := 1024) h w := by
  funext y
  obtain ⟨i, l, rfl⟩ := Mat.eta y
  show (_ : EReal) = ∑ k : Fin 1024, @HMul.hMul EReal EReal EReal _ (h (ix2 i k)) (w (ix2 k l))
  pointwise []

/-- The projection out with the residual, which the reference writes first. -/
theorem ref_x1 : addf x (Host.dotGeneral (F := Ideal) dot_S4096x1024_S1024x1024_S4096x1024_1_0_0_1_n_n none (extf .f32 ycat0 bitsLt_bf16_f32) (extf .f32 w bitsLt_bf16_f32))
    = nnAdd (M := 4096) (K := 1024) (N := 1024) ycat0 w x := by
  rw [ref_pb]
  exact funext fun y => add_comm (x y : EReal) _

theorem ref_x3 : addf x (Host.dotGeneral (F := Ideal) dot_S4096x512_S512x1024_S4096x1024_1_0_0_1_n_n none (extf .f32 ycat1 bitsLt_bf16_f32) (extf .f32 bwout bitsLt_bf16_f32))
    = nnAdd (M := 4096) (K := 512) (N := 1024) ycat1 bwout x := by
  funext y
  obtain ⟨i, l, rfl⟩ := Mat.eta y
  show (_ : EReal) = @HAdd.hAdd EReal EReal EReal _ (∑ k : Fin 512, @HMul.hMul EReal EReal EReal _ (ycat1 (ix2 i k)) (bwout (ix2 k l))) (x (ix2 i l))
  rw [add_comm]
  pointwise []

/-! ## The gradients of the left factors -/

theorem ref_dycat1 : Host.dotGeneral (F := Ideal) dot_S4096x1024_S512x1024_S4096x512_1_1_0_0_n_n none (shapeCast S4096x1024 dx3 shapeCasts_S4096x1024_S4096x1024 : FVec Ideal S4096x1024 .f32) (extf .f32 bwout bitsLt_bf16_f32)
    = nt (M := 4096) (K := 1024) (N := 512) dx3 bwout := by
  funext y
  obtain ⟨i, l, rfl⟩ := Mat.eta y
  show (_ : EReal) = ∑ k : Fin 1024, @HMul.hMul EReal EReal EReal _ (dx3 (ix2 i k)) (bwout (ix2 l k))
  pointwise []

theorem ref_dh1 : Host.dotGeneral (F := Ideal) dot_S4096x1024_S1024x1024_S4096x1024_1_1_0_0_n_n none (extf .f32 dpb bitsLt_bf16_f32) (extf .f32 w bitsLt_bf16_f32)
    = nt (M := 4096) (K := 1024) (N := 1024) dpb w := by
  funext y
  obtain ⟨i, l, rfl⟩ := Mat.eta y
  show (_ : EReal) = ∑ k : Fin 1024, @HMul.hMul EReal EReal EReal _ (dpb (ix2 i k)) (w (ix2 l k))
  pointwise []

theorem ref_dhkv : Host.dotGeneral (F := Ideal) dot_S4096x1536_S1024x1536_S4096x1024_1_1_0_0_n_n none (extf .f32 dkvp bitsLt_bf16_f32) (extf .f32 kvw bitsLt_bf16_f32)
    = nt (M := 4096) (K := 1536) (N := 1024) dkvp kvw := by
  funext y
  obtain ⟨i, l, rfl⟩ := Mat.eta y
  show (_ : EReal) = ∑ k : Fin 1536, @HMul.hMul EReal EReal EReal _ (dkvp (ix2 i k)) (kvw (ix2 l k))
  pointwise []

theorem ref_dh0 : Host.dotGeneral (F := Ideal) dot_S4096x2816_S1024x2816_S4096x1024_1_1_0_0_n_n none (extf .f32 dp bitsLt_bf16_f32) (extf .f32 awin bitsLt_bf16_f32)
    = nt (M := 4096) (K := 2816) (N := 1024) dp awin := by
  funext y
  obtain ⟨i, l, rfl⟩ := Mat.eta y
  show (_ : EReal) = ∑ k : Fin 2816, @HMul.hMul EReal EReal EReal _ (dp (ix2 i k)) (awin (ix2 l k))
  pointwise []

/-! ## The gradients of the weights -/

theorem ref_gbout : transpose S512x1024 [1, 0] (Host.dotGeneral (F := Ideal) dot_S4096x1024_S4096x512_S1024x512_0_0_1_1_n_n none
        (shapeCast S4096x1024 dx3 shapeCasts_S4096x1024_S4096x1024 : FVec Ideal S4096x1024 .f32) (extf .f32 ycat1 bitsLt_bf16_f32))
      transposes_S1024x512_S512x1024_1_0 = tn (M := 512) (K := 4096) (N := 1024) ycat1 dx3 := by
  funext y
  obtain ⟨i, l, rfl⟩ := Mat.eta y
  refine Eq.trans ?_ (tn_swap (M := 512) (K := 4096) (N := 1024) ycat1 dx3 i l)
  show (_ : EReal) = ∑ k : Fin 4096, @HMul.hMul EReal EReal EReal _ (dx3 (ix2 k l)) (ycat1 (ix2 k i))
  pointwise []

theorem ref_gbin : transpose S1024x1024 [1, 0] (Host.dotGeneral (F := Ideal) dot_S4096x1024_S4096x1024_S1024x1024_0_0_1_1_n_n none (extf .f32 dpb bitsLt_bf16_f32) (extf .f32 h bitsLt_bf16_f32))
      transposes_S1024x1024_S1024x1024_1_0 = tn (M := 1024) (K := 4096) (N := 1024) h dpb := by
  funext y
  obtain ⟨i, l, rfl⟩ := Mat.eta y
  refine Eq.trans ?_ (tn_swap (M := 1024) (K := 4096) (N := 1024) h dpb i l)
  show (_ : EReal) = ∑ k : Fin 4096, @HMul.hMul EReal EReal EReal _ (dpb (ix2 k l)) (h (ix2 k i))
  pointwise []

theorem ref_gkv : transpose S1024x1536 [1, 0] (Host.dotGeneral (F := Ideal) dot_S4096x1536_S4096x1024_S1536x1024_0_0_1_1_n_n none (extf .f32 dkvp bitsLt_bf16_f32) (extf .f32 h bitsLt_bf16_f32))
      transposes_S1536x1024_S1024x1536_1_0 = tn (M := 1024) (K := 4096) (N := 1536) h dkvp := by
  funext y
  obtain ⟨i, l, rfl⟩ := Mat.eta y
  refine Eq.trans ?_ (tn_swap (M := 1024) (K := 4096) (N := 1536) h dkvp i l)
  show (_ : EReal) = ∑ k : Fin 4096, @HMul.hMul EReal EReal EReal _ (dkvp (ix2 k l)) (h (ix2 k i))
  pointwise []

theorem ref_gain : transpose S1024x2816 [1, 0] (Host.dotGeneral (F := Ideal) dot_S4096x2816_S4096x1024_S2816x1024_0_0_1_1_n_n none (extf .f32 dp bitsLt_bf16_f32) (extf .f32 h bitsLt_bf16_f32))
      transposes_S2816x1024_S1024x2816_1_0 = tn (M := 1024) (K := 4096) (N := 2816) h dp := by
  funext y
  obtain ⟨i, l, rfl⟩ := Mat.eta y
  refine Eq.trans ?_ (tn_swap (M := 1024) (K := 4096) (N := 2816) h dp i l)
  show (_ : EReal) = ∑ k : Fin 4096, @HMul.hMul EReal EReal EReal _ (dp (ix2 k l)) (h (ix2 k i))
  pointwise []

end Products

section Runs

open Cert.Reference4Ideal

variable (m : (ℓ : Loc nD τ sig) → Buf (Elt Ideal) ℓ) (ρ : Dev nD → PrngReg)

/-- The sixteen arguments are as they were at the launch. -/
abbrev Kept (s : (ℓ : Loc nD τ sig) → Buf (Elt Ideal) ℓ) (c : Dev nD) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)
  ∧ s ((c.tc : Thread nD τ).loc main_arg11) = m ((c.tc : Thread nD τ).loc main_arg11)
  ∧ s ((c.tc : Thread nD τ).loc main_arg12) = m ((c.tc : Thread nD τ).loc main_arg12)
  ∧ s ((c.tc : Thread nD τ).loc main_arg13) = m ((c.tc : Thread nD τ).loc main_arg13)
  ∧ s ((c.tc : Thread nD τ).loc main_arg14) = m ((c.tc : Thread nD τ).loc main_arg14)
  ∧ s ((c.tc : Thread nD τ).loc main_arg15) = m ((c.tc : Thread nD τ).loc main_arg15)

/-- The reference of thirteen of the products ends with them. -/
theorem run_all : θ_run defs (onTc (τ := τ) (main (F := Ideal))) ⟨m, fun _ => 0, ρ⟩ fun r => ∀ c : Dev nD,
      r.2.mem ((c.tc : Thread nD τ).loc main_v2) = nn (M := 4096) (K := 1024) (N := 2816) (m ((c.tc : Thread nD τ).loc main_arg0)) (m ((c.tc : Thread nD τ).loc main_arg1))
      ∧ r.2.mem ((c.tc : Thread nD τ).loc main_v6) = nnAdd (M := 4096) (K := 1024) (N := 1024) (m ((c.tc : Thread nD τ).loc main_arg2)) (m ((c.tc : Thread nD τ).loc main_arg3)) (m ((c.tc : Thread nD τ).loc main_arg4))
      ∧ r.2.mem ((c.tc : Thread nD τ).loc main_v9) = nn (M := 4096) (K := 1024) (N := 1536) (m ((c.tc : Thread nD τ).loc main_arg6)) (m ((c.tc : Thread nD τ).loc main_arg7))
      ∧ r.2.mem ((c.tc : Thread nD τ).loc main_v12) = nn (M := 4096) (K := 1024) (N := 1024) (m ((c.tc : Thread nD τ).loc main_arg8)) (m ((c.tc : Thread nD τ).loc main_arg9))
      ∧ r.2.mem ((c.tc : Thread nD τ).loc main_v16) = nnAdd (M := 4096) (K := 512) (N := 1024) (m ((c.tc : Thread nD τ).loc main_arg10)) (m ((c.tc : Thread nD τ).loc main_arg11)) (m ((c.tc : Thread nD τ).loc main_arg12))
      ∧ r.2.mem ((c.tc : Thread nD τ).loc main_v20) = nt (M := 4096) (K := 1024) (N := 512) (m ((c.tc : Thread nD τ).loc main_arg13)) (m ((c.tc : Thread nD τ).loc main_arg11))
      ∧ r.2.mem ((c.tc : Thread nD τ).loc main_v19) = tn (M := 512) (K := 4096) (N := 1024) (m ((c.tc : Thread nD τ).loc main_arg10)) (m ((c.tc : Thread nD τ).loc main_arg13))
      ∧ r.2.mem ((c.tc : Thread nD τ).loc main_v24) = nt (M := 4096) (K := 1024) (N := 1024) (m ((c.tc : Thread nD τ).loc main_arg14)) (m ((c.tc : Thread nD τ).loc main_arg9))
      ∧ r.2.mem ((c.tc : Thread nD τ).loc main_v23) = tn (M := 1024) (K := 4096) (N := 1024) (m ((c.tc : Thread nD τ).loc main_arg8)) (m ((c.tc : Thread nD τ).loc main_arg14))
      ∧ r.2.mem ((c.tc : Thread nD τ).loc main_v28) = nt (M := 4096) (K := 1536) (N := 1024) (m ((c.tc : Thread nD τ).loc main_arg15)) (m ((c.tc : Thread nD τ).loc main_arg7))
      ∧ r.2.mem ((c.tc : Thread nD τ).loc main_v27) = tn (M := 1024) (K := 4096) (N := 1536) (m ((c.tc : Thread nD τ).loc main_arg6)) (m ((c.tc : Thread nD τ).loc main_arg15))
      ∧ r.2.mem ((c.tc : Thread nD τ).loc main_v32) = nt (M := 4096) (K := 2816) (N := 1024) (m ((c.tc : Thread nD τ).loc main_arg5)) (m ((c.tc : Thread nD τ).loc main_arg1))
      ∧ r.2.mem ((c.tc : Thread nD τ).loc main_v31) = tn (M := 1024) (K := 4096) (N := 2816) (m ((c.tc : Thread nD τ).loc main_arg0)) (m ((c.tc : Thread nD τ).loc main_arg5))
      ∧ Kept m r.2.mem c :=
  (θ_run defs _ _).mono (fun r h c => by
    obtain ⟨h0, h1, h2, h3, h4, h5, h6, h7, h8, h9, h10, h11, h12, ha⟩ := h c
    exact ⟨h0.trans (ref_p _ _), h1.trans (ref_x1 _ _ _), h2.trans (ref_kvp _ _), h3.trans (ref_pb _ _), h4.trans (ref_x3 _ _ _),
      h5.trans (ref_dycat1 _ _), h6.trans (ref_gbout _ _), h7.trans (ref_dh1 _ _), h8.trans (ref_gbin _ _), h9.trans (ref_dhkv _ _),
      h10.trans (ref_gkv _ _), h11.trans (ref_dh0 _ _), h12.trans (ref_gain _ _), ha⟩) (Value.run m ρ)

/-- It leaves its arguments and its counters as they were. -/
theorem frame : θ_run defs (onTc (τ := τ) (main (F := Ideal))) ⟨m, fun _ => 0, ρ⟩ fun r => (∀ c : Dev nD, Kept m r.2.mem c) ∧ r.2.sem = fun _ => 0 :=
  (θ_run defs _ _).mono (fun r h => ⟨fun c => (h c).2.2.2.2.2.2.2.2.2.2.2.2.2, sem_eq_zero_of_no_sems (by decide) r.2⟩) (Value.run m ρ)

end Runs

section OutDx

open Cert.Reference5Ideal Cert.Reference5Ideal.Gen

theorem ref_dycat0 (dx1 : Vec Ideal S4096x1024 .f32) (w : Vec Ideal S1024x1024 .bf16) :
    Host.dotGeneral (F := Ideal) dot_S4096x1024_S1024x1024_S4096x1024_1_1_0_0_n_n none (shapeCast S4096x1024 dx1 shapeCasts_S4096x1024_S4096x1024 : FVec Ideal S4096x1024 .f32) (extf .f32 w bitsLt_bf16_f32)
    = nt (M := 4096) (K := 1024) (N := 1024) dx1 w := by
  funext y
  obtain ⟨i, l, rfl⟩ := Mat.eta y
  show (_ : EReal) = ∑ k : Fin 1024, @HMul.hMul EReal EReal EReal _ (dx1 (ix2 i k)) (w (ix2 l k))
  pointwise []

variable (m : (ℓ : Loc nD τ sig) → Buf (Elt Ideal) ℓ) (ρ : Dev nD → PrngReg)

/-- The reference of the first layer's attention output's gradient ends with it. -/
theorem run_all5 : θ_run defs (onTc (τ := τ) (main (F := Ideal))) ⟨m, fun _ => 0, ρ⟩ fun r => ∀ c : Dev nD,
      r.2.mem ((c.tc : Thread nD τ).loc main_v7) = nt (M := 4096) (K := 1024) (N := 1024) (m ((c.tc : Thread nD τ).loc main_arg3)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (ref_dycat0 _ _), (h c).2⟩) (Value.run m ρ)

theorem frame5 : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2, sem_eq_zero_of_no_sems (by decide) r.2⟩) (Value.run m ρ)

end OutDx

section OutDw

open Cert.Reference6Ideal Cert.Reference6Ideal.Gen

theorem ref_gaout (ycat0 : Vec Ideal S4096x1024 .bf16) (dx1 : Vec Ideal S4096x1024 .f32) :
    transpose S1024x1024 [1, 0] (Host.dotGeneral (F := Ideal) dot_S4096x1024_S4096x1024_S1024x1024_0_0_1_1_n_n none
        (shapeCast S4096x1024 dx1 shapeCasts_S4096x1024_S4096x1024 : FVec Ideal S4096x1024 .f32) (extf .f32 ycat0 bitsLt_bf16_f32))
      transposes_S1024x1024_S1024x1024_1_0 = tn (M := 1024) (K := 4096) (N := 1024) ycat0 dx1 := by
  funext y
  obtain ⟨i, l, rfl⟩ := Mat.eta y
  refine Eq.trans ?_ (tn_swap (M := 1024) (K := 4096) (N := 1024) ycat0 dx1 i l)
  show (_ : EReal) = ∑ k : Fin 4096, @HMul.hMul EReal EReal EReal _ (dx1 (ix2 k l)) (ycat0 (ix2 k i))
  pointwise []

variable (m : (ℓ : Loc nD τ sig) → Buf (Elt Ideal) ℓ) (ρ : Dev nD → PrngReg)

/-- The reference of the first layer's output projection's gradient ends with it. -/
theorem run_all6 : θ_run defs (onTc (τ := τ) (main (F := Ideal))) ⟨m, fun _ => 0, ρ⟩ fun r => ∀ c : Dev nD,
      r.2.mem ((c.tc : Thread nD τ).loc main_v6) = tn (M := 1024) (K := 4096) (N := 1024) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (ref_gaout _ _), (h c).2⟩) (Value.run m ρ)

theorem frame6 : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2, sem_eq_zero_of_no_sems (by decide) r.2⟩) (Value.run m ρ)

end OutDw

end Cert.ProjRef

end
-- ==== Proof.ProjProducts.lean ====
/- The other projections' products and their references end with the same arrays. -/
module

public import proofs.«01_k».proof.Defs
public import proofs.«01_k».proof.Proof.ProjRun
public import proofs.«01_k».proof.Proof.OutDx
public import proofs.«01_k».proof.Proof.OutDw
public import proofs.«01_k».proof.Proof.ProjRef

@[expose] public section

noncomputable section

namespace Cert.Products

open Idealize.ShloMosaic Idealize.SL.Sem Cert.Mat

open Cert.Proj in
theorem algebraic4 : Cert.algebraic_Kernel4Ideal_Reference4Ideal (hKernel4Ideal := Cert.Kernel4Ideal.Gen.facts) (hReference4Ideal := Cert.Reference4Ideal.Gen.facts) := by
  intro m ρ m' ρ' _ hA
  refine ⟨fun c => nn (h0 m c) (awin m c), fun c => nnAdd (ycat0 m c) (awout m c) (x m c), fun c => nn (hkv m c) (kvw m c), fun c => nn (h1 m c) (bwin m c),
    fun c => nnAdd (ycat1 m c) (bwout m c) (x2 m c), fun c => nt (dx3 m c) (bwout m c), fun c => tn (ycat1 m c) (dx3 m c), fun c => nt (dpb m c) (bwin m c),
    fun c => tn (h1 m c) (dpb m c), fun c => nt (dkvp m c) (kvw m c), fun c => tn (hkv m c) (dkvp m c), fun c => nt (dp m c) (awin m c), fun c => tn (h0 m c) (dp m c),
    (θ_run _ _ _).mono (fun r h c => ?_) (run_all m ρ), (θ_run _ _ _).mono (fun r h c => ?_) (Cert.ProjRef.run_all m' ρ')⟩
  · have a := h.1 c
    have uc : ∀ b ∈ Cert.Kernel4Ideal.Gen.argRefs, ¬b.isScoped = true := by decide
    have ur : ∀ b ∈ results, ¬b.isScoped = true := by decide
    have arg : ∀ b ∈ Cert.Kernel4Ideal.Gen.argRefs, r.2.mem ((c.tc : Thread Cert.Kernel4Ideal.nD Cert.Kernel4Ideal.τ).loc b) = m ((c.tc : Thread Cert.Kernel4Ideal.nD Cert.Kernel4Ideal.τ).loc b) :=
      fun b hb => (a _ (Cert.Kernel4Ideal.Gen.mem_uc b (uc b hb))).trans (Cert.Kernel4Ideal.Gen.W13_args m ρ c b hb)
    have res : ∀ b ∈ results, r.2.mem ((c.tc : Thread Cert.Kernel4Ideal.nD Cert.Kernel4Ideal.τ).loc b) = Cert.Kernel4Ideal.Gen.W13 m ρ c (Proc.devRef .tc b) :=
      fun b hb => a _ (Cert.Kernel4Ideal.Gen.mem_uc b (ur b hb))
    exact ⟨(res _ (by decide)).trans (end_p m ρ c), (res _ (by decide)).trans (end_x1 m ρ c), (res _ (by decide)).trans (end_kvp m ρ c),
      (res _ (by decide)).trans (end_pb m ρ c), (res _ (by decide)).trans (end_x3 m ρ c), (res _ (by decide)).trans (end_dycat1 m ρ c),
      (res _ (by decide)).trans (end_gbout m ρ c), (res _ (by decide)).trans (end_dh1 m ρ c), (res _ (by decide)).trans (end_gbin m ρ c),
      (res _ (by decide)).trans (end_dhkv m ρ c), (res _ (by decide)).trans (end_gkv m ρ c), (res _ (by decide)).trans (end_dh0 m ρ c),
      (res _ (by decide)).trans (end_gain m ρ c),
      arg _ (by decide), arg _ (by decide), arg _ (by decide), arg _ (by decide), arg _ (by decide), arg _ (by decide), arg _ (by decide), arg _ (by decide),
      arg _ (by decide), arg _ (by decide), arg _ (by decide), arg _ (by decide), arg _ (by decide), arg _ (by decide), arg _ (by decide), arg _ (by decide)⟩
  · obtain ⟨e0, e1, e2, e3, e4, e5, e6, e7, e8, e9, e10, e11, e12, e13, e14, e15⟩ := hA c
    obtain ⟨r0, r1, r2, r3, r4, r5, r6, r7, r8, r9, r10, r11, r12, ha⟩ := h c
    rw [e0, e1] at r0
    rw [e2, e3, e4] at r1
    rw [e6, e7] at r2
    rw [e8, e9] at r3
    rw [e10, e11, e12] at r4
    rw [e13, e11] at r5
    rw [e10, e13] at r6
    rw [e14, e9] at r7
    rw [e8, e14] at r8
    rw [e15, e7] at r9
    rw [e6, e15] at r10
    rw [e5, e1] at r11
    rw [e0, e5] at r12
    exact ⟨r0, r1, r2, r3, r4, r5, r6, r7, r8, r9, r10, r11, r12, ha⟩

open Cert.OutDx in
theorem algebraic5 : Cert.algebraic_Kernel5Ideal_Reference5Ideal (hKernel5Ideal := Cert.Kernel5Ideal.Gen.facts) (hReference5Ideal := Cert.Reference5Ideal.Gen.facts) := by
  intro m ρ m' ρ' _ hA
  refine ⟨fun c => nt (dx1 m c) (awout m c), run_all m ρ, (θ_run _ _ _).mono (fun r h c => ?_) (Cert.ProjRef.run_all5 m' ρ')⟩
  obtain ⟨e0, e1, e2, e3⟩ := hA c
  obtain ⟨h0, ha⟩ := h c
  rw [e3, e2] at h0
  exact ⟨h0, ha⟩

open Cert.OutDw in
theorem algebraic6 : Cert.algebraic_Kernel6Ideal_Reference6Ideal (hKernel6Ideal := Cert.Kernel6Ideal.Gen.facts) (hReference6Ideal := Cert.Reference6Ideal.Gen.facts) := by
  intro m ρ m' ρ' _ hA
  refine ⟨fun c => tn (ycat0 m c) (dx1 m c), run_all m ρ, (θ_run _ _ _).mono (fun r h c => ?_) (Cert.ProjRef.run_all6 m' ρ')⟩
  obtain ⟨e0, e1, e2, e3⟩ := hA c
  obtain ⟨h0, ha⟩ := h c
  rw [e1, e3] at h0
  exact ⟨h0, ha⟩

end Cert.Products

end
-- ==== Proof.NormMath.lean ====
/- The gradients through the norm of a row by its root mean square, over the extended reals: the kernel's closed formula, and the
   derivative taken step by step, are the same number, infinite entries included. -/
module

public import proofs.«01_k».proof.Proof.Mat
public import Idealize.ShloMosaic.PureOps.Ideal

@[expose] public section

noncomputable section

namespace Cert.Norm

open Idealize.ShloMosaic Cert.Mat

/-- The number of a row's entries, the number added to their mean square, and minus one half. -/
abbrev len : EReal := Ideal.ofBits .f32 0x44800000#32
abbrev eps : EReal := Ideal.ofBits .f32 0x358637BD#32
abbrev mhalf : EReal := Ideal.ofBits .f32 0xBF000000#32

theorem len_eq : len = ((1024 : ℝ) : EReal) := by
  simp [len, Ideal.ofBits, Ideal.ieee]; rw [← EReal.coe_mul]; norm_num

theorem mhalf_eq : mhalf = ((-(1 / 2) : ℝ) : EReal) := by
  simp [mhalf, Ideal.ofBits, Ideal.ieee]; rw [← EReal.coe_mul]; norm_num

theorem eps_pos : ∃ e : ℝ, 0 < e ∧ eps = (e : EReal) := by
  refine ⟨_, ?_, by simp [eps, Ideal.ofBits, Ideal.ieee]; rw [← EReal.coe_mul]⟩
  positivity

/-- To divide by the number of entries is to multiply by its inverse. -/
theorem div_len (A : EReal) : Ideal.div A len = A * (((1024 : ℝ)⁻¹ : ℝ) : EReal) := by
  rw [len_eq, Ideal.div, if_neg (by norm_num), EReal.coe_inv]

variable {M : Nat} (x : Ix M 1024 → EReal) (dr dh : Ix M 1024 → EReal) (g : Ix 1 1024 → EReal)

/-- A row's mean square with the small number added, and the inverse of its root. -/
def ms (i : Fin M) : EReal := Ideal.div (∑ k : Fin 1024, x (ix2 i k) * x (ix2 i k)) len + eps
def rs (i : Fin M) : EReal := Ideal.rsqrt (ms x i)

/-- The gradient of the stream: what comes past the norm, and what comes through it. -/
def dxAt (i : Fin M) (l : Fin 1024) : EReal :=
  dr (ix2 i l) + rs x i * (dh (ix2 i l) * g (ix2 0 l)
    - x (ix2 i l) * rs x i * Ideal.div (∑ k : Fin 1024, dh (ix2 i k) * g (ix2 0 k) * (x (ix2 i k) * rs x i)) len)
def dx (y : Ix M 1024) : EReal := dxAt x dr dh g (y 0) (y 1)

/-- A row's part in the gradient of the gain, and the gradient of the gain. -/
def dgAt (i : Fin M) (l : Fin 1024) : EReal := dh (ix2 i l) * (x (ix2 i l) * rs x i)
def dg (y : Ix 1 1024) : EReal := ∑ i : Fin M, dgAt x dh i (y 1)

theorem sq_nonneg (a : EReal) : 0 ≤ a * a := by
  rcases le_total 0 a with h | h
  · exact mul_nonneg h h
  · have := mul_nonneg (EReal.neg_nonneg.mpr h) (EReal.neg_nonneg.mpr h)
    rwa [neg_mul_neg] at this

/-- The mean square with the small number added is infinite or a positive real number. -/
theorem ms_pos (i : Fin M) : ms x i = ⊤ ∨ ∃ p : ℝ, 0 < p ∧ ms x i = (p : EReal) := by
  unfold ms
  rw [div_len]
  obtain ⟨e, he, h⟩ := eps_pos
  rw [h]
  have h0 : 0 ≤ ∑ k : Fin 1024, x (ix2 i k) * x (ix2 i k) := Finset.sum_nonneg fun k _ => sq_nonneg _
  generalize (∑ k : Fin 1024, x (ix2 i k) * x (ix2 i k)) = A at h0
  induction A with
  | bot => exact absurd h0 (by simp)
  | top => exact .inl (by rw [EReal.top_mul_coe_of_pos (by norm_num)]; rfl)
  | coe a =>
    have ha : 0 ≤ a := EReal.coe_nonneg.mp h0
    exact .inr ⟨a * 1024⁻¹ + e, by positivity, by rw [EReal.coe_add, EReal.coe_mul]⟩

/-- A number that is not negative comes out of a sum. -/
theorem sum_mul_coe {ι : Type*} (s : Finset ι) (f : ι → EReal) {r : ℝ} (hr : 0 ≤ r) : (∑ k ∈ s, f k * (r : EReal)) = (∑ k ∈ s, f k) * (r : EReal) := by
  induction s using Finset.cons_induction with
  | empty => simp
  | cons a s h ih =>
    rw [Finset.sum_cons, Finset.sum_cons, ih, EReal.right_distrib_of_nonneg_of_ne_top (EReal.coe_nonneg.mpr hr) (EReal.coe_ne_top r)]

/-- The inverse of the root of the mean square, and its quotient by the mean square. -/
theorem rs_cases (i : Fin M) : (rs x i = 0 ∧ Ideal.div (rs x i) (ms x i) = 0)
    ∨ ∃ r : ℝ, 0 < r ∧ rs x i = (r : EReal) ∧ Ideal.div (rs x i) (ms x i) = ((r * r * r : ℝ) : EReal) := by
  unfold rs
  rcases ms_pos x i with h | ⟨p, hp, h⟩
  · left
    rw [h]
    refine ⟨rfl, ?_⟩
    rw [Ideal.rsqrt_top, Ideal.div, if_neg (by simp), zero_mul]
  · right
    rw [h]
    have hq : 0 < Real.sqrt p := Real.sqrt_pos.mpr hp
    have e : Ideal.rsqrt (p : EReal) = (((Real.sqrt p)⁻¹ : ℝ) : EReal) := by
      rw [Ideal.rsqrt_coe, if_neg (not_lt.mpr hp.le), if_neg hp.ne']
    refine ⟨(Real.sqrt p)⁻¹, by positivity, e, ?_⟩
    rw [e, Ideal.div, if_neg (by simpa using hp.ne'), ← EReal.coe_inv, ← EReal.coe_mul]
    rw [mul_assoc, ← mul_inv (Real.sqrt p) (Real.sqrt p), Real.mul_self_sqrt hp.le]

/-- The two terms through the mean square add up to the kernel's one. -/
theorem two_terms (Y : EReal) {q : ℝ} (hq : 0 ≤ q) :
    Y * ((-q : ℝ) : EReal) + Y * ((-q : ℝ) : EReal) = -(Y * ((q + q : ℝ) : EReal)) := by
  have h := EReal.coe_nonneg.mpr hq
  rw [EReal.coe_neg, mul_neg, ← neg_mul, EReal.coe_add, ← EReal.left_distrib_of_nonneg h h, neg_mul]

/-- The derivative taken step by step is the closed formula. -/
theorem dx_steps (i : Fin M) (l : Fin 1024) :
    dr (ix2 i l) + dh (ix2 i l) * g (ix2 0 l) * rs x i
      + x (ix2 i l) * Ideal.div ((∑ k : Fin 1024, x (ix2 i k) * (dh (ix2 i k) * g (ix2 0 k))) * (mhalf * Ideal.div (rs x i) (ms x i))) len
      + Ideal.div ((∑ k : Fin 1024, x (ix2 i k) * (dh (ix2 i k) * g (ix2 0 k))) * (mhalf * Ideal.div (rs x i) (ms x i))) len * x (ix2 i l)
      = dxAt x dr dh g i l := by
  unfold dxAt
  simp only [div_len]
  rcases rs_cases x i with ⟨h, h'⟩ | ⟨r, hr, h, h'⟩
  · rw [h', h]
    simp only [mul_zero, zero_mul, add_zero]
  · rw [h', h, mhalf_eq]
    have e : ∑ k : Fin 1024, dh (ix2 i k) * g (ix2 0 k) * (x (ix2 i k) * (r : EReal))
        = (∑ k : Fin 1024, x (ix2 i k) * (dh (ix2 i k) * g (ix2 0 k))) * (r : EReal) := by
      rw [← sum_mul_coe _ _ hr.le]
      exact Finset.sum_congr rfl fun k _ => by rw [← mul_assoc, mul_comm (x (ix2 i k))]
    rw [e]
    generalize (∑ k : Fin 1024, x (ix2 i k) * (dh (ix2 i k) * g (ix2 0 k))) = S
    generalize dh (ix2 i l) * g (ix2 0 l) = d
    generalize x (ix2 i l) = a
    rw [sub_eq_add_neg, EReal.left_distrib_of_nonneg_of_ne_top (EReal.coe_nonneg.mpr hr.le) (EReal.coe_ne_top r), ← add_assoc, add_assoc (dr _ + _)]
    have e1 : a * (S * (((-(1 / 2) : ℝ) : EReal) * ((r * r * r : ℝ) : EReal)) * (((1024 : ℝ)⁻¹ : ℝ) : EReal)) = a * S * ((-(1 / 2 * (r * r * r) * 1024⁻¹) : ℝ) : EReal) := by
      rw [← EReal.coe_mul, mul_assoc S, ← EReal.coe_mul, ← mul_assoc]
      congr 2
      ring
    have e2 : (r : EReal) * -(a * (r : EReal) * (S * (r : EReal) * (((1024 : ℝ)⁻¹ : ℝ) : EReal)))
        = -(a * S * ((1 / 2 * (r * r * r) * 1024⁻¹ + 1 / 2 * (r * r * r) * 1024⁻¹ : ℝ) : EReal)) := by
      rw [mul_neg]
      congr 1
      rw [show (1 / 2 * (r * r * r) * 1024⁻¹ + 1 / 2 * (r * r * r) * 1024⁻¹ : ℝ) = r * (r * (r * 1024⁻¹)) by ring, EReal.coe_mul, EReal.coe_mul, EReal.coe_mul]
      ac_rfl
    rw [mul_comm _ a, e1, two_terms _ (by positivity), e2, mul_comm d]

/-! ## A band of rows

The numbers of a row depend on that row alone. -/

section Band

variable {m : Nat} {x} {dr} {dh} {g} {x' dr' dh' : Ix m 1024 → EReal} {g' : Ix 1 1024 → EReal} {i : Fin m} {j : Fin M}

theorem rs_row (hx : ∀ k, x' (ix2 i k) = x (ix2 j k)) : rs x' i = rs x j := by
  unfold rs ms
  simp only [hx]

theorem dxAt_row (hx : ∀ k, x' (ix2 i k) = x (ix2 j k)) (hr : ∀ k, dr' (ix2 i k) = dr (ix2 j k)) (hd : ∀ k, dh' (ix2 i k) = dh (ix2 j k))
    (hg : ∀ k, g' (ix2 0 k) = g (ix2 0 k)) (l : Fin 1024) : dxAt x' dr' dh' g' i l = dxAt x dr dh g j l := by
  unfold dxAt
  simp only [rs_row hx, hx, hr, hd, hg]

theorem dgAt_row (hx : ∀ k, x' (ix2 i k) = x (ix2 j k)) (hd : ∀ k, dh' (ix2 i k) = dh (ix2 j k)) (l : Fin 1024) : dgAt x' dh' i l = dgAt x dh j l := by
  unfold dgAt
  rw [rs_row hx, hx, hd]

end Band

/-- A row's part in the gradient of the gain, the row given by its number. -/
def part (l : Fin 1024) (a : Nat) : EReal := if h : a < M then dgAt x dh ⟨a, h⟩ l else 0

theorem part_of {l : Fin 1024} {a : Nat} (h : a < M) : part x dh l a = dgAt x dh ⟨a, h⟩ l := by
  unfold part
  rw [dif_pos h]

theorem dg_eq (y : Ix 1 1024) : dg x dh y = ∑ a ∈ Finset.range M, part x dh (y 1) a := by
  rw [← Fin.sum_univ_eq_sum_range (part x dh (y 1)) M]
  exact Finset.sum_congr rfl fun i _ => (part_of x dh i.isLt).symm

/-- The parts of one more band of rows. -/
theorem part_band {m : Nat} {x' dh' : Ix m 1024 → EReal} {t : Nat} (ht : t * m + m ≤ M)
    (hx : ∀ (i : Fin m) (k : Fin 1024), x' (ix2 i k) = x (ix2 ⟨t * m + i.val, by have := i.isLt; omega⟩ k))
    (hd : ∀ (i : Fin m) (k : Fin 1024), dh' (ix2 i k) = dh (ix2 ⟨t * m + i.val, by have := i.isLt; omega⟩ k)) (l : Fin 1024) :
    (∑ a ∈ Finset.range (t * m), part x dh l a) + ∑ i : Fin m, dgAt x' dh' i l = ∑ a ∈ Finset.range ((t + 1) * m), part x dh l a := by
  rw [Nat.succ_mul, Finset.sum_range_add, ← Fin.sum_univ_eq_sum_range (fun a => part x dh l (t * m + a)) m]
  refine congrArg _ (Finset.sum_congr rfl fun i _ => ?_)
  rw [dgAt_row (hx i) (hd i)]
  exact (part_of x dh _).symm

end Cert.Norm

end
-- ==== Proof.Norm.lean ====
/- The gradients through the feed-forward layer's norm: each point of the grid writes a band of rows of the stream's gradient, and
   adds its rows' part of the gain's gradient to what the points before it left. -/
module

public import proofs.«01_k».proof.Proof.NormMath
public import proofs.«01_k».proof.Proof.Carry
public import proofs.«01_k».proof.Proof.Gen.Kernel7Ideal.Value
public import Idealize.ShloMosaic.Lib.Pipeline.ValueKit.Geometry
public import Idealize.ShloMosaic.Lib.Pipeline.ValueKit.Acc

@[expose] public section

set_option maxRecDepth 16384

noncomputable section

namespace Cert.NormRun

open Idealize.ShloMosaic Cert.Mat Cert.Norm
open Idealize.ShloMosaic.TcCoe
open Idealize.SL Idealize.SL.Sem
open Cert.Kernel7Ideal Cert.Kernel7Ideal.Gen Cert.Kernel7Ideal.Value

section Payloads

variable (v0 v1 v3 : Vec Ideal S512x1024 .f32) (v2 : Vec Ideal S1x1024 .f32)

theorem stat_apply (i : Fin 512) (z : Fin 1) : (k0_pay1 v0 (ix2 i z) : EReal) = rs (M := 512) v0 i := by
  unfold rs ms len eps
  show (_ : EReal) = Ideal.rsqrt (Ideal.div (∑ k : Fin 1024, @HMul.hMul EReal EReal EReal _ (v0 (ix2 i k)) (v0 (ix2 i k))) (Ideal.ofBits .f32 0x44800000#32) + Ideal.ofBits .f32 0x358637BD#32)
  pointwise [k0_pay1]

theorem normed_apply (i : Fin 512) (l : Fin 1024) : (k0_pay2 v0 (ix2 i l) : EReal) = @HMul.hMul EReal EReal EReal _ (v0 (ix2 i l)) (rs (M := 512) v0 i) := by
  rw [← stat_apply v0 i 0]
  pointwise [k0_pay2]

theorem band_apply (i : Fin 512) (l : Fin 1024) : (k0_pay3 v0 v1 v2 v3 (ix2 i l) : EReal) = dxAt (M := 512) v0 v1 v3 v2 i l := by
  unfold dxAt
  simp only [← normed_apply]
  rw [← stat_apply v0 i 0]
  pointwise [k0_pay3]

theorem sums_apply (w : Vec Ideal S1x1024 .f32) (z : Fin 1) (l : Fin 1024) :
    (k0_pay5 v0 v3 w (ix2 z l) : EReal) = @HAdd.hAdd EReal EReal EReal _ (w (ix2 z l)) (∑ i : Fin 512, dgAt (M := 512) v0 v3 i l) := by
  unfold dgAt
  simp only [← normed_apply]
  pointwise [k0_pay5]

theorem zeros_apply (z : Fin 1) (l : Fin 1024) : (k0_pay4 (F := Ideal) (ix2 z l) : EReal) = 0 := by
  pointwise [k0_pay4]

end Payloads

theorem first_band {c i a1 h1 a2 h2 a3 h3 a4 h4 a5 h5 a6 h6 hc} (x0 x1 x3 : Vec Ideal S512x1024 .f32) (x2 : Vec Ideal S1x1024 .f32) :
    out0_A_4 c i a1 h1 a2 h2 a3 h3 a4 h4 a5 h5 a6 h6 hc x0 x1 x2 x3 = k0_pay3 x0 x1 x2 x3 := by
  frame_out

theorem later_band {c i a1 h1 a2 h2 a3 h3 a4 h4 a5 h5 a6 h6 hc} (x0 x1 x3 : Vec Ideal S512x1024 .f32) (x2 w : Vec Ideal S1x1024 .f32) :
    out0_B_4 c i a1 h1 a2 h2 a3 h3 a4 h4 a5 h5 a6 h6 hc x0 x1 x2 x3 w = k0_pay3 x0 x1 x2 x3 := by
  frame_out

theorem first_sums {c i a1 h1 a2 h2 a3 h3 a4 h4 a5 h5 a6 h6 hc} (x0 x1 x3 : Vec Ideal S512x1024 .f32) (x2 : Vec Ideal S1x1024 .f32) :
    out0_A_5 c i a1 h1 a2 h2 a3 h3 a4 h4 a5 h5 a6 h6 hc x0 x1 x2 x3 = k0_pay5 x0 x3 (k0_pay4 (F := Ideal)) := by
  frame_out

theorem later_sums {c i a1 h1 a2 h2 a3 h3 a4 h4 a5 h5 a6 h6 hc} (x0 x1 x3 : Vec Ideal S512x1024 .f32) (x2 w : Vec Ideal S1x1024 .f32) :
    out0_B_5 c i a1 h1 a2 h2 a3 h3 a4 h4 a5 h5 a6 h6 hc x0 x1 x2 x3 w = k0_pay5 x0 x3 w := by
  frame_out

variable (m : (ℓ : Loc nD τ sig) → Buf (Elt Ideal) ℓ) (c : Dev nD)

/-- The stream, the gain, the gradient of the normed stream and the gradient that comes past the norm, as matrices. -/
abbrev x : Ix 4096 1024 → EReal := m ((c : Thread nD τ).loc main_arg0)
abbrev gain : Ix 1 1024 → EReal := m ((c : Thread nD τ).loc main_arg1)
abbrev dhn : Ix 4096 1024 → EReal := m ((c : Thread nD τ).loc main_arg2)
abbrev dout : Ix 4096 1024 → EReal := m ((c : Thread nD τ).loc main_arg3)

theorem rows_at : ∀ t : Fin cfg0.N, (win0_0.index t 0 = t.val ∧ win0_0.index t 1 = 0) ∧ (win0_1.index t 0 = t.val ∧ win0_1.index t 1 = 0)
    ∧ (win0_3.index t 0 = t.val ∧ win0_3.index t 1 = 0) ∧ (win0_4.index t 0 = t.val ∧ win0_4.index t 1 = 0) := by decide +kernel

theorem row_at : ∀ t : Fin cfg0.N, (win0_2.index t 0 = 0 ∧ win0_2.index t 1 = 0) ∧ (win0_5.index t 0 = 0 ∧ win0_5.index t 1 = 0) := by decide +kernel

/-- The row of the whole that a row of a point's band is. -/
def row (t : Fin cfg0.N) (i : Fin 512) : Fin 4096 := ⟨t.val * 512 + i.val, by
  have h := lt_of_lt_of_eq t.isLt (show cfg0.N = 8 from N_0)
  have h' := i.isLt
  omega⟩

theorem in_x (t : Fin cfg0.N) (i : Fin 512) (k : Fin 1024) : (iblk m c 0 t (ix2 i k) : EReal) = x m c (ix2 (row t i) k) :=
  congrArg (x m c) (ix_ext ⟨(win0_0.rect_emb_val t (ix2 i k) 0).trans (by rw [(rows_at t).1.1]; rfl),
    (win0_0.rect_emb_val t (ix2 i k) 1).trans (by rw [(rows_at t).1.2, Nat.zero_mul, Nat.zero_add]; rfl)⟩)

theorem in_dout (t : Fin cfg0.N) (i : Fin 512) (k : Fin 1024) : (iblk m c 1 t (ix2 i k) : EReal) = dout m c (ix2 (row t i) k) :=
  congrArg (dout m c) (ix_ext ⟨(win0_1.rect_emb_val t (ix2 i k) 0).trans (by rw [(rows_at t).2.1.1]; rfl),
    (win0_1.rect_emb_val t (ix2 i k) 1).trans (by rw [(rows_at t).2.1.2, Nat.zero_mul, Nat.zero_add]; rfl)⟩)

theorem in_dhn (t : Fin cfg0.N) (i : Fin 512) (k : Fin 1024) : (iblk m c 3 t (ix2 i k) : EReal) = dhn m c (ix2 (row t i) k) :=
  congrArg (dhn m c) (ix_ext ⟨(win0_3.rect_emb_val t (ix2 i k) 0).trans (by rw [(rows_at t).2.2.1.1]; rfl),
    (win0_3.rect_emb_val t (ix2 i k) 1).trans (by rw [(rows_at t).2.2.1.2, Nat.zero_mul, Nat.zero_add]; rfl)⟩)

theorem in_gain (t : Fin cfg0.N) (k : Fin 1024) : (iblk m c 2 t (ix2 0 k) : EReal) = gain m c (ix2 0 k) :=
  congrArg (gain m c) (ix_ext ⟨(win0_2.rect_emb_val t (ix2 0 k) 0).trans (by rw [(row_at t).1.1]; rfl),
    (win0_2.rect_emb_val t (ix2 0 k) 1).trans (by rw [(row_at t).1.2, Nat.zero_mul, Nat.zero_add]; rfl)⟩)

/-- Every point writes its band of the stream's gradient. -/
theorem band (t : Fin cfg0.N) : (outsAt0 m c t.val t.isLt).1 = k0_pay3 (iblk m c 0 t) (iblk m c 1 t) (iblk m c 2 t) (iblk m c 3 t) := by
  by_cases h : t.val % 8 = 0
  · rw [outsAt0_A m c t h]
    dsimp only
    rw [first_band]
  · rw [outsAt0_B m c t h]
    dsimp only
    rw [later_band]

theorem final_dx : (dats m 0 c).arrAt 4 cfg0.N = dx (M := 4096) (x m c) (dout m c) (dhn m c) (gain m c) := by
  refine (dats m 0 c).arrAt_eq_of_covers 4 _ (by decide +kernel) fun t _ y => ?_
  blk_simp
  rw [after0_4, band]
  obtain ⟨i, l, rfl⟩ := Mat.eta y
  refine (band_apply _ _ _ _ i l).trans ((dxAt_row (in_x m c t i) (in_dout m c t i) (in_dhn m c t i) (in_gain m c t) l).trans ?_)
  exact congrArg (dx (M := 4096) (x m c) (dout m c) (dhn m c) (gain m c)) (a₁ := ix2 (row t i) l) (ix_ext ⟨(win0_4.rect_emb_val t (ix2 i l) 0).trans (by rw [(rows_at t).2.2.2.1]; rfl),
    (win0_4.rect_emb_val t (ix2 i l) 1).trans (by rw [(rows_at t).2.2.2.2, Nat.zero_mul, Nat.zero_add]; rfl)⟩).symm

/-- A point adds its band's parts to a sum of the parts before. -/
theorem add_band (t : Fin cfg0.N) (w : Vec Ideal S1x1024 .f32) (z : Fin 1) (l : Fin 1024)
    (hw : (w (ix2 z l) : EReal) = ∑ a ∈ Finset.range (t.val * 512), part (x m c) (dhn m c) l a) :
    (k0_pay5 (iblk m c 0 t) (iblk m c 3 t) w (ix2 z l) : EReal) = ∑ a ∈ Finset.range ((t.val + 1) * 512), part (x m c) (dhn m c) l a := by
  refine (sums_apply _ _ _ z l).trans ?_
  rw [hw]
  have h := lt_of_lt_of_eq t.isLt (show cfg0.N = 8 from N_0)
  exact part_band (x m c) (dhn m c) (by omega) (in_x m c t) (in_dhn m c t) l

/-- After every point the sums are those of the rows so far. -/
theorem sums : ∀ (n : Nat) (hn : n < cfg0.N) (z : Fin 1) (l : Fin 1024),
    ((outsAt0 m c n hn).2 (ix2 z l) : EReal) = ∑ a ∈ Finset.range ((n + 1) * 512), part (x m c) (dhn m c) l a := by
  intro n
  induction n with
  | zero =>
    intro hn z l
    rw [outsAt0_A m c ⟨0, hn⟩ rfl]
    dsimp only
    rw [first_sums]
    exact add_band m c ⟨0, hn⟩ _ z l ((zeros_apply z l).trans (by simp))
  | succ n ih =>
    intro hn z l
    have h8 := lt_of_lt_of_eq hn (show cfg0.N = 8 from N_0)
    rw [outsAt0_B m c ⟨n + 1, hn⟩ (by dsimp only; omega)]
    dsimp only
    rw [later_sums]
    exact add_band m c ⟨n + 1, hn⟩ _ z l (ih (Nat.lt_of_succ_lt hn) z l)

theorem final_dg : (dats m 0 c).arrAt 5 cfg0.N = dg (M := 4096) (x m c) (dhn m c) := by
  refine (dats m 0 c).arrAt_eq_of_covers 5 _ (by decide +kernel) fun t hf y => ?_
  blk_simp
  rw [after0_5]
  have h7 := (flush0_5 t).mp hf
  have h8 := lt_of_lt_of_eq t.isLt (show cfg0.N = 8 from N_0)
  have e : (t.val + 1) * 512 = 4096 := by omega
  obtain ⟨z, l, rfl⟩ := Mat.eta y
  refine (sums m c t.val t.isLt z l).trans ?_
  rw [e]
  refine (dg_eq (x m c) (dhn m c) (ix2 z l)).symm.trans (congrArg (dg (M := 4096) (x m c) (dhn m c)) (a₁ := ix2 z l) (ix_ext ⟨?_, ?_⟩).symm)
  · exact (win0_5.rect_emb_val t (ix2 z l) 0).trans (by rw [(row_at t).2.1, Nat.zero_mul, Nat.zero_add]; rfl)
  · exact (win0_5.rect_emb_val t (ix2 z l) 1).trans (by rw [(row_at t).2.2, Nat.zero_mul, Nat.zero_add]; rfl)

/-- Every execution ends with the two gradients, and the arguments as they were. -/
theorem run_all (ρ : Dev nD → PrngReg) : θ_run defs (onTc (τ := τ) (main (F := Ideal))) ⟨m, fun _ => 0, ρ⟩ fun r => ∀ c : Dev nD,
      r.2.mem ((c : Thread nD τ).loc main_v0_0) = dx (M := 4096) (x m c) (dout m c) (dhn m c) (gain m c)
      ∧ r.2.mem ((c : Thread nD τ).loc main_v0_1) = dg (M := 4096) (x m c) (dhn m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_dx m c), (h c).2.1.trans (final_dg m c), (h c).2.2⟩) (run_blocks m ρ)

end Cert.NormRun

end
-- ==== Proof.NormRef.lean ====
/- The reference of the gradients through the feed-forward layer's norm: its results are the gradients' closed formulas. -/
module

public import proofs.«01_k».proof.Proof.NormMath
public import proofs.«01_k».proof.Proof.Gen.Reference7Ideal.Run
public import Idealize.ShloMosaic.Lib.Quiescent

@[expose] public section

set_option maxRecDepth 16384

noncomputable section

namespace Cert.NormRef

open Idealize.ShloMosaic Cert.Mat Cert.Norm
open Idealize.ShloMosaic.TcCoe
open Idealize.SL Idealize.SL.Sem
open Cert.Reference7Ideal Cert.Reference7Ideal.Gen

variable (x dhn dout : FVec Ideal S4096x1024 .f32) (gain : FVec Ideal S1x1024 .f32)

/-- The mean squares of the rows with the small number added, as the reference writes them. -/
def msRef : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

theorem msRef_apply (i : Fin 4096) (z : Fin 1) : (msRef x (ix2 i z) : EReal) = ms (M := 4096) x i := by
  unfold ms len eps
  show (_ : EReal) = Ideal.div (∑ k : Fin 1024, @HMul.hMul EReal EReal EReal _ (x (ix2 i k)) (x (ix2 i k))) (Ideal.ofBits .f32 0x44800000#32) + Ideal.ofBits .f32 0x358637BD#32
  pointwise [msRef]

/-- The gradient of a row's entry through its mean square, up to the factor of the entry. -/
def throughMs : FVec Ideal S4096x1024 .f32 :=
  broadcastInDim S4096x1024 ![0] bcast_S4096_S4096x1024_0 (Host.reduceAdd (Host.divf (mulf (shapeCast S4096x1 (Host.reduceAdd (mulf x (mulf dhn
    (broadcastInDim S4096x1024 ![0, 1] bcast_S1x1024_S4096x1024_0_1 gain))) (constant S_ .f32 0x00000000#32) reducesTo_S4096x1024_S4096_d1 h_S_) shapeCasts_S4096_S4096x1)
    (mulf (broadcastInDim S4096x1 ![] bcast_S_S4096x1 (constant S_ .f32 0xBF000000#32)) (Host.divf (Host.rsqrt (msRef x)) (msRef x))))
    (broadcastInDim S4096x1 ![] bcast_S_S4096x1 (constant S_ .f32 0x44800000#32))) (constant S_ .f32 0x00000000#32) reducesTo_S4096x1_S4096_d1 h_S_)

theorem throughMs_apply (i : Fin 4096) (l : Fin 1024) : (throughMs x dhn gain (ix2 i l) : EReal)
    = Ideal.div ((∑ k : Fin 1024, @HMul.hMul EReal EReal EReal _ (x (ix2 i k)) (@HMul.hMul EReal EReal EReal _ (dhn (ix2 i k)) (gain (ix2 0 k))))
      * (mhalf * Ideal.div (rs (M := 4096) x i) (ms (M := 4096) x i))) len := by
  unfold rs mhalf len
  rw [← msRef_apply x i 0]
  pointwise [throughMs]
  exact Fin.sum_univ_one _

theorem ref_dx : (addf (addf (addf dout (mulf (mulf dhn (broadcastInDim S4096x1024 ![0, 1] bcast_S1x1024_S4096x1024_0_1 gain))
        (broadcastInDim S4096x1024 ![0, 1] bcast_S4096x1_S4096x1024_0_1 (Host.rsqrt (msRef x))))) (mulf x (throughMs x dhn gain))) (mulf (throughMs x dhn gain) x) : FVec Ideal S4096x1024 .f32)
    = dx (M := 4096) x dout dhn gain := by
  funext y
  obtain ⟨i, l, rfl⟩ := Mat.eta y
  refine Eq.trans ?_ (dx_steps (M := 4096) x dout dhn gain i l)
  rw [← throughMs_apply x dhn gain i l]
  unfold rs
  rw [← msRef_apply x i 0]
  pointwise []

theorem ref_dg : (shapeCast S1x1024 (Host.reduceAdd (mulf (mulf x (broadcastInDim S4096x1024 ![0, 1] bcast_S4096x1_S4096x1024_0_1 (Host.rsqrt (msRef x)))) dhn)
      (constant S_ .f32 0x00000000#32) reducesTo_S4096x1024_S1024_d0 h_S_) shapeCasts_S1024_S1x1024 : FVec Ideal S1x1024 .f32) = dg (M := 4096) x dhn := by
  funext y
  obtain ⟨i, l, rfl⟩ := Mat.eta y
  show _ = ∑ k : Fin 4096, dgAt (M := 4096) x dhn k l
  refine Eq.trans ?_ (Finset.sum_congr rfl fun k _ => (congrArg (@HMul.hMul EReal EReal EReal _ (dhn (ix2 k l)))
    (congrArg (fun a : EReal => @HMul.hMul EReal EReal EReal _ (x (ix2 k l)) (Ideal.rsqrt a)) (msRef_apply x k 0))))
  refine Eq.trans ?_ (Finset.sum_congr rfl fun k _ => mul_comm _ _)
  pointwise []

variable (m : (ℓ : Loc nD τ sig) → Buf (Elt Ideal) ℓ) (ρ : Dev nD → PrngReg)

/-- The reference ends with the two gradients. -/
theorem run_all : θ_run defs (onTc (τ := τ) (main (F := Ideal))) ⟨m, fun _ => 0, ρ⟩ fun r => ∀ c : Dev nD,
      r.2.mem ((c.tc : Thread nD τ).loc main_v34) = dx (M := 4096) (m ((c.tc : Thread nD τ).loc main_arg0)) (m ((c.tc : Thread nD τ).loc main_arg3)) (m ((c.tc : Thread nD τ).loc main_arg2)) (m ((c.tc : Thread nD τ).loc main_arg1))
      ∧ r.2.mem ((c.tc : Thread nD τ).loc main_v17) = dg (M := 4096) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (ref_dx _ _ _ _), (h c).2.1.trans (ref_dg _ _), (h c).2.2⟩) (Value.run m ρ)

/-- It leaves its arguments and its counters as they were. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2, sem_eq_zero_of_no_sems (by decide) r.2⟩) (Value.run m ρ)

end Cert.NormRef

end
-- ==== Proof.NormGradients.lean ====
/- The gradients through the feed-forward layer's norm and their reference end with the same arrays. -/
module

public import proofs.«01_k».proof.Defs
public import proofs.«01_k».proof.Proof.Norm
public import proofs.«01_k».proof.Proof.NormRef

@[expose] public section

noncomputable section

namespace Cert.NormRun

open Idealize.ShloMosaic Idealize.SL.Sem Cert.Mat

theorem algebraic7 : Cert.algebraic_Kernel7Ideal_Reference7Ideal (hKernel7Ideal := Cert.Kernel7Ideal.Gen.facts) (hReference7Ideal := Cert.Reference7Ideal.Gen.facts) := by
  intro m ρ m' ρ' _ hA
  refine ⟨fun c => Cert.Norm.dx (M := 4096) (x m c) (dout m c) (dhn m c) (gain m c), fun c => Cert.Norm.dg (M := 4096) (x m c) (dhn m c), run_all m ρ,
    (θ_run _ _ _).mono (fun r h c => ?_) (Cert.NormRef.run_all m' ρ')⟩
  obtain ⟨e0, e1, e2, e3⟩ := hA c
  obtain ⟨h0, h1, ha⟩ := h c
  rw [e0, e1, e2, e3] at h0
  rw [e0, e2] at h1
  exact ⟨h0, h1, ha⟩

end Cert.NormRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Run
public import proofs.«01_k».proof.Proof.Finite
public import proofs.«01_k».proof.Proof.RefRun
public import proofs.«01_k».proof.Proof.Products
public import proofs.«01_k».proof.Proof.ProjProducts
public import proofs.«01_k».proof.Proof.NormGradients
public import Idealize.ShloMosaic.Adequacy
public import Idealize.ShloMosaic.Init

@[expose] public section

noncomputable section

namespace Cert.Proof

open Idealize.ShloMosaic Idealize.SL.Sem Cert.Kernel

open Cert.Attn in
/-- The two kernels and the reference end with the same five arrays. -/
theorem algebraic (hF : Cert.Pre_finite.Facts) :
    Cert.algebraic_KernelIdeal_ReferenceIdeal_pre_finite (hKernelIdeal := Cert.KernelIdeal.Gen.facts) (hReferenceIdeal := Cert.ReferenceIdeal.Gen.facts) (hPre_finite := hF) := by
  intro m ρ m' ρ' hP hA
  have R : ∀ c, RealArgs m c := real_args m hP
  refine ⟨fun c => arr (O (rows (arg_q m c)) (rows (arg_k m c)) (rows (arg_v m c))), fun c => arr (L (rows (arg_q m c)) (rows (arg_k m c))),
    fun c => arr (dQ (rows (arg_q m c)) (rows (arg_k m c)) (rows (arg_v m c)) (rows (arg_g m c)) (rows (arg_d m c))),
    fun c => arr (dK (rows (arg_q m c)) (rows (arg_k m c)) (rows (arg_v m c)) (rows (arg_g m c)) (rows (arg_d m c))),
    fun c => arr (dV (rows (arg_q m c)) (rows (arg_k m c)) (rows (arg_g m c))),
    (θ_run _ _ _).mono (fun r h c => ?_) (run_all m ρ), (θ_run _ _ _).mono (fun r h c => ?_) (Cert.Ref.run_vals m' ρ')⟩
  · have a := h.1 c
    exact ⟨(a _ (Cert.KernelIdeal.Gen.mem_uc Cert.KernelIdeal.main_v11_0 (by decide))).trans (end_o ρ (R c)),
      (a _ (Cert.KernelIdeal.Gen.mem_uc Cert.KernelIdeal.main_v11_1 (by decide))).trans (end_l ρ (R c)),
      (a _ (Cert.KernelIdeal.Gen.mem_uc Cert.KernelIdeal.main_v18_0 (by decide))).trans (end_dq ρ (R c)),
      (a _ (Cert.KernelIdeal.Gen.mem_uc Cert.KernelIdeal.main_v18_1 (by decide))).trans (end_dk ρ (R c)),
      (a _ (Cert.KernelIdeal.Gen.mem_uc Cert.KernelIdeal.main_v18_2 (by decide))).trans (end_dv ρ (R c)),
      (a _ (Cert.KernelIdeal.Gen.mem_uc Cert.KernelIdeal.main_arg0 (by decide))).trans (Cert.KernelIdeal.Gen.W4_args m ρ c _ (by decide)),
      (a _ (Cert.KernelIdeal.Gen.mem_uc Cert.KernelIdeal.main_arg1 (by decide))).trans (Cert.KernelIdeal.Gen.W4_args m ρ c _ (by decide)),
      (a _ (Cert.KernelIdeal.Gen.mem_uc Cert.KernelIdeal.main_arg2 (by decide))).trans (Cert.KernelIdeal.Gen.W4_args m ρ c _ (by decide)),
      (a _ (Cert.KernelIdeal.Gen.mem_uc Cert.KernelIdeal.main_arg3 (by decide))).trans (Cert.KernelIdeal.Gen.W4_args m ρ c _ (by decide)),
      (a _ (Cert.KernelIdeal.Gen.mem_uc Cert.KernelIdeal.main_arg4 (by decide))).trans (Cert.KernelIdeal.Gen.W4_args m ρ c _ (by decide))⟩
  · obtain ⟨e0, e1, e2, e3, e4⟩ := hA c
    have hq : Cert.Ref.Holds (StableHlo.launchContents m' c (Proc.devRef .tc Cert.ReferenceIdeal.main_arg0)) (rows (arg_q m c)) := by
      intro r n i l; exact (congrFun e0 _).trans (holds_rows (R c).hq r n i l)
    have hk : Cert.Ref.Holds (StableHlo.launchContents m' c (Proc.devRef .tc Cert.ReferenceIdeal.main_arg1)) (rows (arg_k m c)) := by
      intro r n i l; exact (congrFun e1 _).trans (holds_rows (R c).hk r n i l)
    have hv : Cert.Ref.Holds (StableHlo.launchContents m' c (Proc.devRef .tc Cert.ReferenceIdeal.main_arg2)) (rows (arg_v m c)) := by
      intro r n i l; exact (congrFun e2 _).trans (holds_rows (R c).hv r n i l)
    have hg : Cert.Ref.Holds (StableHlo.launchContents m' c (Proc.devRef .tc Cert.ReferenceIdeal.main_arg3)) (rows (arg_g m c)) := by
      intro r n i l; exact (congrFun e3 _).trans (holds_rows (R c).hg r n i l)
    have hd : Cert.Ref.Holds (StableHlo.launchContents m' c (Proc.devRef .tc Cert.ReferenceIdeal.main_arg4)) (rows (arg_d m c)) := by
      intro r n i l; exact (congrFun e4 _).trans (holds_rows (R c).hd r n i l)
    exact ⟨(h c _).trans (Cert.Ref.res_o hq hk hv), (h c _).trans (Cert.Ref.res_l hq hk), (h c _).trans (Cert.Ref.res_dq hq hk hv hg hd),
      (h c _).trans (Cert.Ref.res_dk hq hk hv hg hd), (h c _).trans (Cert.Ref.res_dv hq hk hg),
      (h c _).trans (Cert.ReferenceIdeal.Value.val4_main_arg0 _), (h c _).trans (Cert.ReferenceIdeal.Value.val4_main_arg1 _),
      (h c _).trans (Cert.ReferenceIdeal.Value.val4_main_arg2 _), (h c _).trans (Cert.ReferenceIdeal.Value.val4_main_arg3 _),
      (h c _).trans (Cert.ReferenceIdeal.Value.val4_main_arg4 _)⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Attn.finite_facts,
  fun m ρ _ => Cert.Kernel.Gen.frame m ρ, fun m ρ _ => Cert.KernelIdeal.Gen.frame m ρ, fun m ρ _ => Cert.KernelIdeal.Gen.frame m ρ,
  fun m ρ _ => Cert.Ref.frame m ρ, fun m ρ _ => Cert.Ref.frame m ρ,
  fun m ρ _ => Cert.Kernel2.Gen.frame m ρ, fun m ρ _ => Cert.Kernel2Ideal.Gen.frame m ρ, fun m ρ _ => Cert.FfnRef.frame m ρ,
  fun m ρ _ => Cert.Kernel3.Gen.frame m ρ, fun m ρ _ => Cert.Kernel3Ideal.Gen.frame m ρ, fun m ρ _ => Cert.FfnRef.frame3 m ρ,
  fun m ρ _ => Cert.Kernel4.Gen.frame m ρ, fun m ρ _ => Cert.Kernel4Ideal.Gen.frame m ρ, fun m ρ _ => Cert.ProjRef.frame m ρ,
  fun m ρ _ => Cert.Kernel5.Gen.frame m ρ, fun m ρ _ => Cert.Kernel5Ideal.Gen.frame m ρ, fun m ρ _ => Cert.ProjRef.frame5 m ρ,
  fun m ρ _ => Cert.Kernel6.Gen.frame m ρ, fun m ρ _ => Cert.Kernel6Ideal.Gen.frame m ρ, fun m ρ _ => Cert.ProjRef.frame6 m ρ,
  fun m ρ _ => Cert.Kernel7.Gen.frame m ρ, fun m ρ _ => Cert.Kernel7Ideal.Gen.frame m ρ, fun m ρ _ => Cert.NormRef.frame m ρ,
  IdealRules.named_const.statement Cert.KernelIdeal.κ "mask" .f32 0xF149F2CA#32 ⊥ rfl, algebraic _,
  trivial, Cert.Products.algebraic2, trivial, Cert.Products.algebraic3, trivial, Cert.Products.algebraic4, trivial, Cert.Products.algebraic5,
  trivial, Cert.Products.algebraic6, trivial, Cert.NormRun.algebraic7⟩

end Cert.Proof

end
